-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v488) = v0 c
          ∧ r.2.mem ((c.tc : Thread Cert.ReferenceIdeal.nD Cert.ReferenceIdeal.τ).loc Cert.ReferenceIdeal.main_v487) = v1 c
          ∧ r.2.mem ((c.tc : Thread Cert.ReferenceIdeal.nD Cert.ReferenceIdeal.τ).loc Cert.ReferenceIdeal.main_v503) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S256x3 : Shape := ⟨2, ![256, 3]⟩
abbrev S256 : Shape := ⟨1, ![256]⟩
abbrev S256x259 : Shape := ⟨2, ![256, 259]⟩
abbrev S1x256 : Shape := ⟨2, ![1, 256]⟩
abbrev S1 : Shape := ⟨1, ![1]⟩
abbrev S_ : Shape := ⟨0, ![]⟩

class Facts : Prop where
  bcast_S_S256x3 : S_.BroadcastsInDim S256x3 (![] : Fin 0 → Fin S256x3.rank)
  bcast_S_S256 : S_.BroadcastsInDim S256 (![] : Fin 0 → Fin S256.rank)
  bcast_S_S256x259 : S_.BroadcastsInDim S256x259 (![] : Fin 0 → Fin S256x259.rank)

variable [Facts]

def fn_part1 {F : FTy → Type} [FloatOps F] (main_arg6 : FVec F S256x259 .f32) (main_arg7 : FVec F S256 .f32) (main_v2 : IVec S256x3 1) (main_v5 : IVec S256x3 1) (main_v8 : IVec S256x3 1) (main_v11 : IVec S256 1) (main_v14 : IVec S256x259 1) (main_v17 : IVec S256 1) : IVec S256x3 1 × IVec S256x3 1 × IVec S256x3 1 × IVec S256 1 × IVec S256x259 1 × IVec S256 1 × IVec S256x259 1 × IVec S256 1 :=
  let main_v18 : FVec F S256x259 .f32 := Host.absf main_arg6
  let main_cst_5 : FVec F S_ .f32 := constant S_ .f32 0x7F800000#32
  let main_v19 : FVec F S256x259 .f32 := broadcastInDim S256x259 ![] bcast_S_S256x259 main_cst_5
  let main_v20 : IVec S256x259 1 := cmpf .olt main_v18 main_v19
  let main_v21 : FVec F S256 .f32 := Host.absf main_arg7
  let main_cst_6 : FVec F S_ .f32 := constant S_ .f32 0x7F800000#32
  let main_v22 : FVec F S256 .f32 := broadcastInDim S256 ![] bcast_S_S256 main_cst_6
  let main_v23 : IVec S256 1 := cmpf .olt main_v21 main_v22
  (main_v2, main_v5, main_v8, main_v11, main_v14, main_v17, main_v20, main_v23)

def fn {F : FTy → Type} [FloatOps F] (main_arg0 : FVec F S256x3 .f32) (main_arg1 : FVec F S256x3 .f32) (main_arg2 : FVec F S256x3 .f32) (main_arg3 : FVec F S256 .f32) (main_arg4 : FVec F S256x259 .f32) (main_arg5 : FVec F S256 .f32) (main_arg6 : FVec F S256x259 .f32) (main_arg7 : FVec F S256 .f32) (main_arg8 : FVec F S1x256 .f32) (main_arg9 : FVec F S1 .f32) : IVec S256x3 1 × IVec S256x3 1 × IVec S256x3 1 × IVec S256 1 × IVec S256x259 1 × IVec S256 1 × IVec S256x259 1 × IVec S256 1 :=
  let main_v0 : FVec F S256x3 .f32 := Host.absf main_arg0
  let main_cst : FVec F S_ .f32 := constant S_ .f32 0x7F800000#32
  let main_v1 : FVec F S256x3 .f32 := broadcastInDim S256x3 ![] bcast_S_S256x3 main_cst
  let main_v2 : IVec S256x3 1 := cmpf .olt main_v0 main_v1
  let main_v3 : FVec F S256x3 .f32 := Host.absf main_arg1
  let main_cst_0 : FVec F S_ .f32 := constant S_ .f32 0x7F800000#32
  let main_v4 : FVec F S256x3 .f32 := broadcastInDim S256x3 ![] bcast_S_S256x3 main_cst_0
  let main_v5 : IVec S256x3 1 := cmpf .olt main_v3 main_v4
  let main_v6 : FVec F S256x3 .f32 := Host.absf main_arg2
  let main_cst_1 : FVec F S_ .f32 := constant S_ .f32 0x7F800000#32
  let main_v7 : FVec F S256x3 .f32 := broadcastInDim S256x3 ![] bcast_S_S256x3 main_cst_1
  let main_v8 : IVec S256x3 1 := cmpf .olt main_v6 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_v12 : FVec F S256x259 .f32 := Host.absf main_arg4
  let main_cst_3 : FVec F S_ .f32 := constant S_ .f32 0x7F800000#32
  let main_v13 : FVec F S256x259 .f32 := broadcastInDim S256x259 ![] bcast_S_S256x259 main_cst_3
  let main_v14 : IVec S256x259 1 := cmpf .olt main_v12 main_v13
  let main_v15 : FVec F S256 .f32 := Host.absf main_arg5
  let main_cst_4 : FVec F S_ .f32 := constant S_ .f32 0x7F800000#32
  let main_v16 : FVec F S256 .f32 := broadcastInDim S256 ![] bcast_S_S256 main_cst_4
  let main_v17 : IVec S256 1 := cmpf .olt main_v15 main_v16
  fn_part1 (F := F) main_arg6 main_arg7 main_v2 main_v5 main_v8 main_v11 main_v14 main_v17
-- ==== Kernel.lean ====
abbrev S256x3 : Shape := ⟨2, ![256, 3]⟩
abbrev S256 : Shape := ⟨1, ![256]⟩
abbrev S256x259 : Shape := ⟨2, ![256, 259]⟩
abbrev S1x256 : Shape := ⟨2, ![1, 256]⟩
abbrev S1 : Shape := ⟨1, ![1]⟩
abbrev S_ : Shape := ⟨0, ![]⟩
abbrev S256x128 : Shape := ⟨2, ![256, 128]⟩
abbrev S3x256 : Shape := ⟨2, ![3, 256]⟩
abbrev S128x256 : Shape := ⟨2, ![128, 256]⟩
abbrev S259x256 : Shape := ⟨2, ![259, 256]⟩
abbrev S384x256 : Shape := ⟨2, ![384, 256]⟩
abbrev S256x1 : Shape := ⟨2, ![256, 1]⟩
abbrev S1x1 : Shape := ⟨2, ![1, 1]⟩
abbrev S1x128 : Shape := ⟨2, ![1, 128]⟩
abbrev S256x64 : Shape := ⟨2, ![256, 64]⟩
abbrev S32x128 : Shape := ⟨2, ![32, 128]⟩
abbrev S32x64 : Shape := ⟨2, ![32, 64]⟩
abbrev S8x128 : Shape := ⟨2, ![8, 128]⟩
abbrev S32x8 : Shape := ⟨2, ![32, 8]⟩
abbrev S32x256 : Shape := ⟨2, ![32, 256]⟩
abbrev S32x1x256 : Shape := ⟨3, ![32, 1, 256]⟩
abbrev S32x8x1 : Shape := ⟨3, ![32, 8, 1]⟩
abbrev S32x8x256 : Shape := ⟨3, ![32, 8, 256]⟩
abbrev S32x7x256 : Shape := ⟨3, ![32, 7, 256]⟩
abbrev S32x7 : Shape := ⟨2, ![32, 7]⟩
abbrev S32x7x1 : Shape := ⟨3, ![32, 7, 1]⟩
abbrev S32x1 : Shape := ⟨2, ![32, 1]⟩
abbrev S8x8 : Shape := ⟨2, ![8, 8]⟩
abbrev S32 : Shape := ⟨1, ![32]⟩
abbrev S32x1x8 : Shape := ⟨3, ![32, 1, 8]⟩
abbrev S32x8x8 : Shape := ⟨3, ![32, 8, 8]⟩
abbrev S32x1x1 : Shape := ⟨3, ![32, 1, 1]⟩
abbrev S32x8x512 : Shape := ⟨3, ![32, 8, 512]⟩
abbrev S32x3 : Shape := ⟨2, ![32, 3]⟩
abbrev S32x1x3 : Shape := ⟨3, ![32, 1, 3]⟩
abbrev S32x8x3 : Shape := ⟨3, ![32, 8, 3]⟩
abbrev S32x8x125 : Shape := ⟨3, ![32, 8, 125]⟩
abbrev S32x8x128 : Shape := ⟨3, ![32, 8, 128]⟩
abbrev S32x8x384 : Shape := ⟨3, ![32, 8, 384]⟩
abbrev S256x384 : Shape := ⟨2, ![256, 384]⟩
abbrev S256x256 : Shape := ⟨2, ![256, 256]⟩
abbrev S32x32x1 : Shape := ⟨3, ![32, 32, 1]⟩
abbrev S32x32x8 : Shape := ⟨3, ![32, 32, 8]⟩
abbrev S32x32 : Shape := ⟨2, ![32, 32]⟩
abbrev S32x32x512 : Shape := ⟨3, ![32, 32, 512]⟩
abbrev S32x32x256 : Shape := ⟨3, ![32, 32, 256]⟩
abbrev S32x32x3 : Shape := ⟨3, ![32, 32, 3]⟩
abbrev S32x32x125 : Shape := ⟨3, ![32, 32, 125]⟩
abbrev S32x32x128 : Shape := ⟨3, ![32, 32, 128]⟩
abbrev S32x32x384 : Shape := ⟨3, ![32, 32, 384]⟩
abbrev S1024x384 : Shape := ⟨2, ![1024, 384]⟩
abbrev S1024x256 : Shape := ⟨2, ![1024, 256]⟩
abbrev S32x31x256 : Shape := ⟨3, ![32, 31, 256]⟩
abbrev S32x31 : Shape := ⟨2, ![32, 31]⟩
abbrev S32x31x1 : Shape := ⟨3, ![32, 31, 1]⟩
abbrev S32x64x1 : Shape := ⟨3, ![32, 64, 1]⟩
abbrev S32x1x32 : Shape := ⟨3, ![32, 1, 32]⟩
abbrev S32x64x32 : Shape := ⟨3, ![32, 64, 32]⟩
abbrev S32x64x512 : Shape := ⟨3, ![32, 64, 512]⟩
abbrev S32x64x256 : Shape := ⟨3, ![32, 64, 256]⟩
abbrev S2048x256 : Shape := ⟨2, ![2048, 256]⟩
abbrev S2048x128 : Shape := ⟨2, ![2048, 128]⟩
abbrev S32x64x128 : Shape := ⟨3, ![32, 64, 128]⟩
abbrev S256x64x1 : Shape := ⟨3, ![256, 64, 1]⟩

abbrev nBuf : Space → Nat
  | .hbm => 46
  | .vmem => 19
  | .smem => 0
  | _ => 0

abbrev bufTy : (tb : Table) → Fin (tcTables nBuf tb) → BufTy
  | .hbm, ⟨0, _⟩ => ⟨S256x3, .f32⟩
  | .hbm, ⟨1, _⟩ => ⟨S256x3, .f32⟩
  | .hbm, ⟨2, _⟩ => ⟨S256x3, .f32⟩
  | .hbm, ⟨3, _⟩ => ⟨S256, .f32⟩
  | .hbm, ⟨4, _⟩ => ⟨S256x259, .f32⟩
  | .hbm, ⟨5, _⟩ => ⟨S256, .f32⟩
  | .hbm, ⟨6, _⟩ => ⟨S256x259, .f32⟩
  | .hbm, ⟨7, _⟩ => ⟨S256, .f32⟩
  | .hbm, ⟨8, _⟩ => ⟨S1x256, .f32⟩
  | .hbm, ⟨9, _⟩ => ⟨S1, .f32⟩
  | .hbm, ⟨10, _⟩ => ⟨S_, .i32⟩
  | .hbm, ⟨11, _⟩ => ⟨S_, .f32⟩
  | .hbm, ⟨12, _⟩ => ⟨S256x128, .f32⟩
  | .hbm, ⟨13, _⟩ => ⟨S_, .i32⟩
  | .hbm, ⟨14, _⟩ => ⟨S_, .f32⟩
  | .hbm, ⟨15, _⟩ => ⟨S256x128, .f32⟩
  | .hbm, ⟨16, _⟩ => ⟨S3x256, .f32⟩
  | .hbm, ⟨17, _⟩ => ⟨S_, .i32⟩
  | .hbm, ⟨18, _⟩ => ⟨S_, .f32⟩
  | .hbm, ⟨19, _⟩ => ⟨S128x256, .f32⟩
  | .hbm, ⟨20, _⟩ => ⟨S259x256, .f32⟩
  | .hbm, ⟨21, _⟩ => ⟨S_, .i32⟩
  | .hbm, ⟨22, _⟩ => ⟨S_, .f32⟩
  | .hbm, ⟨23, _⟩ => ⟨S384x256, .f32⟩
  | .hbm, ⟨24, _⟩ => ⟨S259x256, .f32⟩
  | .hbm, ⟨25, _⟩ => ⟨S_, .i32⟩
  | .hbm, ⟨26, _⟩ => ⟨S_, .f32⟩
  | .hbm, ⟨27, _⟩ => ⟨S384x256, .f32⟩
  | .hbm, ⟨28, _⟩ => ⟨S256x1, .f32⟩
  | .hbm, ⟨29, _⟩ => ⟨S_, .i32⟩
  | .hbm, ⟨30, _⟩ => ⟨S_, .f32⟩
  | .hbm, ⟨31, _⟩ => ⟨S256x128, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x1, .f32⟩
  | .hbm, ⟨36, _⟩ => ⟨S_, .i32⟩
  | .hbm, ⟨37, _⟩ => ⟨S_, .f32⟩
  | .hbm, ⟨38, _⟩ => ⟨S1x128, .f32⟩
  | .hbm, ⟨39, _⟩ => ⟨S256x64, .f32⟩
  | .hbm, ⟨40, _⟩ => ⟨S256x64, .f32⟩
  | .hbm, ⟨41, _⟩ => ⟨S256x64, .f32⟩
  | .hbm, ⟨42, _⟩ => ⟨S_, .f32⟩
  | .hbm, ⟨43, _⟩ => ⟨S256x64, .f32⟩
  | .hbm, ⟨44, _⟩ => ⟨S256x64, .i1⟩
  | .hbm, ⟨45, _⟩ => ⟨S256x64x1, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S128x256, .f32⟩
  | .local _ .vmem, ⟨5, _⟩ => ⟨S1x256, .f32⟩
  | .local _ .vmem, ⟨6, _⟩ => ⟨S384x256, .f32⟩
  | .local _ .vmem, ⟨7, _⟩ => ⟨S1x256, .f32⟩
  | .local _ .vmem, ⟨8, _⟩ => ⟨S384x256, .f32⟩
  | .local _ .vmem, ⟨9, _⟩ => ⟨S1x256, .f32⟩
  | .local _ .vmem, ⟨10, _⟩ => ⟨S256x128, .f32⟩
  | .local _ .vmem, ⟨11, _⟩ => ⟨S1x128, .f32⟩
  | .local _ .vmem, ⟨12, _⟩ => ⟨S32x64, .f32⟩
  | .local _ .vmem, ⟨13, _⟩ => ⟨S32x64, .f32⟩
  | .local _ .vmem, ⟨14, _⟩ => ⟨S32x64, .f32⟩
  | .local _ .vmem, ⟨15, _⟩ => ⟨S32x64, .f32⟩
  | .local _ .vmem, ⟨16, _⟩ => ⟨S32x64, .f32⟩
  | .local _ .vmem, ⟨17, _⟩ => ⟨S32x64, .f32⟩
  | .local _ .vmem, ⟨18, _⟩ => ⟨S8x128, .f32⟩
  | _, _ => ⟨S256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_c_0 : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_c_1 : Ref sig .tc := ⟨.hbm, 17, rfl⟩
abbrev main_call2_v0 : Ref sig .tc := ⟨.hbm, 18, rfl⟩
abbrev main_v3 : Ref sig .tc := ⟨.hbm, 19, rfl⟩
abbrev main_v4 : Ref sig .tc := ⟨.hbm, 20, rfl⟩
abbrev main_c_2 : Ref sig .tc := ⟨.hbm, 21, rfl⟩
abbrev main_call3_v0 : Ref sig .tc := ⟨.hbm, 22, rfl⟩
abbrev main_v5 : Ref sig .tc := ⟨.hbm, 23, rfl⟩
abbrev main_v6 : Ref sig .tc := ⟨.hbm, 24, rfl⟩
abbrev main_c_3 : Ref sig .tc := ⟨.hbm, 25, rfl⟩
abbrev main_call4_v0 : Ref sig .tc := ⟨.hbm, 26, rfl⟩
abbrev main_v7 : Ref sig .tc := ⟨.hbm, 27, rfl⟩
abbrev main_v8 : Ref sig .tc := ⟨.hbm, 28, rfl⟩
abbrev main_c_4 : Ref sig .tc := ⟨.hbm, 29, rfl⟩
abbrev main_call5_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_5 : Ref sig .tc := ⟨.hbm, 36, rfl⟩
abbrev main_call6_v0 : Ref sig .tc := ⟨.hbm, 37, rfl⟩
abbrev main_v14 : Ref sig .tc := ⟨.hbm, 38, rfl⟩
abbrev main_v15_0 : Ref sig .tc := ⟨.hbm, 39, rfl⟩
abbrev main_v15_1 : Ref sig .tc := ⟨.hbm, 40, rfl⟩
abbrev main_v15_2 : Ref sig .tc := ⟨.hbm, 41, rfl⟩
abbrev main_cst : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S256x3 : Shape := ⟨2, ![256, 3]⟩
abbrev S256 : Shape := ⟨1, ![256]⟩
abbrev S256x259 : Shape := ⟨2, ![256, 259]⟩
abbrev S1x256 : Shape := ⟨2, ![1, 256]⟩
abbrev S1 : Shape := ⟨1, ![1]⟩
abbrev S_ : Shape := ⟨0, ![]⟩
abbrev S256x64 : Shape := ⟨2, ![256, 64]⟩
abbrev S256x2 : Shape := ⟨2, ![256, 2]⟩
abbrev S3x256 : Shape := ⟨2, ![3, 256]⟩
abbrev S256x256 : Shape := ⟨2, ![256, 256]⟩
abbrev S256x1x256 : Shape := ⟨3, ![256, 1, 256]⟩
abbrev S256x64x1 : Shape := ⟨3, ![256, 64, 1]⟩
abbrev S256x64x256 : Shape := ⟨3, ![256, 64, 256]⟩
abbrev S256x63 : Shape := ⟨2, ![256, 63]⟩
abbrev S256x63x256 : Shape := ⟨3, ![256, 63, 256]⟩
abbrev S256x63x1 : Shape := ⟨3, ![256, 63, 1]⟩
abbrev S256x63x4 : Shape := ⟨3, ![256, 63, 4]⟩
abbrev S256x63x1x256 : Shape := ⟨4, ![256, 63, 1, 256]⟩
abbrev S256x63x4x1 : Shape := ⟨4, ![256, 63, 4, 1]⟩
abbrev S256x63x4x256 : Shape := ⟨4, ![256, 63, 4, 256]⟩
abbrev S256x63x5 : Shape := ⟨3, ![256, 63, 5]⟩
abbrev S256x63x5x256 : Shape := ⟨4, ![256, 63, 5, 256]⟩
abbrev S256x315 : Shape := ⟨2, ![256, 315]⟩
abbrev S256x315x256 : Shape := ⟨3, ![256, 315, 256]⟩
abbrev S256x1 : Shape := ⟨2, ![256, 1]⟩
abbrev S256x316 : Shape := ⟨2, ![256, 316]⟩
abbrev S256x316x256 : Shape := ⟨3, ![256, 316, 256]⟩
abbrev S256x316x1 : Shape := ⟨3, ![256, 316, 1]⟩
abbrev S256x316x2 : Shape := ⟨3, ![256, 316, 2]⟩
abbrev S256x1x3 : Shape := ⟨3, ![256, 1, 3]⟩
abbrev S256x64x3 : Shape := ⟨3, ![256, 64, 3]⟩
abbrev S256x64x259 : Shape := ⟨3, ![256, 64, 259]⟩
abbrev S259x256 : Shape := ⟨2, ![259, 256]⟩
abbrev S1x1x256 : Shape := ⟨3, ![1, 1, 256]⟩
abbrev S1x1x1 : Shape := ⟨3, ![1, 1, 1]⟩

abbrev nBuf : Space → Nat
  | .hbm => 662
  | .vmem => 0
  | .smem => 0
  | _ => 0

abbrev hbmTy0_0 (i : Nat) : BufTy := match i % 128 with
  | 0 => ⟨S256x3, .f32⟩
  | 1 => ⟨S256x3, .f32⟩
  | 2 => ⟨S256x3, .f32⟩
  | 3 => ⟨S256, .f32⟩
  | 4 => ⟨S256x259, .f32⟩
  | 5 => ⟨S256, .f32⟩
  | 6 => ⟨S256x259, .f32⟩
  | 7 => ⟨S256, .f32⟩
  | 8 => ⟨S1x256, .f32⟩
  | 9 => ⟨S1, .f32⟩
  | 10 => ⟨S_, .f32⟩
  | 11 => ⟨S256x64, .f32⟩
  | 12 => ⟨S_, .i32⟩
  | 13 => ⟨S1, .i32⟩
  | 14 => ⟨S_, .f32⟩
  | 15 => ⟨S256, .f32⟩
  | 16 => ⟨S256x64, .f32⟩
  | 17 => ⟨S_, .i32⟩
  | 18 => ⟨S1, .i32⟩
  | 19 => ⟨S_, .f32⟩
  | 20 => ⟨S256, .f32⟩
  | 21 => ⟨S256x64, .f32⟩
  | 22 => ⟨S_, .i1⟩
  | 23 => ⟨S256x64, .i1⟩
  | 24 => ⟨S_, .i32⟩
  | 25 => ⟨S1, .i32⟩
  | 26 => ⟨S_, .i1⟩
  | 27 => ⟨S256x2, .i1⟩
  | 28 => ⟨S256x64, .i1⟩
  | 29 => ⟨S256x3, .f32⟩
  | 30 => ⟨S3x256, .f32⟩
  | 31 => ⟨S256x256, .f32⟩
  | 32 => ⟨S3x256, .f32⟩
  | 33 => ⟨S256x256, .f32⟩
  | 34 => ⟨S1x256, .f32⟩
  | 35 => ⟨S256x256, .f32⟩
  | 36 => ⟨S256x256, .f32⟩
  | 37 => ⟨S256x1x256, .f32⟩
  | 38 => ⟨S256x64x1, .f32⟩
  | 39 => ⟨S256x64x256, .f32⟩
  | 40 => ⟨S256x64x256, .f32⟩
  | 41 => ⟨S256x64x256, .f32⟩
  | 42 => ⟨S256x1x256, .f32⟩
  | 43 => ⟨S256x64x256, .f32⟩
  | 44 => ⟨S256x64x256, .f32⟩
  | 45 => ⟨S256x64x1, .i1⟩
  | 46 => ⟨S_, .f32⟩
  | 47 => ⟨S256x64x256, .f32⟩
  | 48 => ⟨S256x64x256, .i1⟩
  | 49 => ⟨S256x64x256, .f32⟩
  | 50 => ⟨S256x63, .f32⟩
  | 51 => ⟨S256x63, .f32⟩
  | 52 => ⟨S256x63x256, .f32⟩
  | 53 => ⟨S256x63x256, .f32⟩
  | 54 => ⟨S256x63, .i1⟩
  | 55 => ⟨S256x63, .i1⟩
  | 56 => ⟨S256x63, .i1⟩
  | 57 => ⟨S256x63x256, .f32⟩
  | 58 => ⟨S256x63x256, .f32⟩
  | 59 => ⟨S_, .f32⟩
  | 60 => ⟨S256x63x256, .f32⟩
  | 61 => ⟨S256x63x256, .i1⟩
  | 62 => ⟨S_, .f32⟩
  | 63 => ⟨S256x63x256, .f32⟩
  | 64 => ⟨S256x63x256, .f32⟩
  | 65 => ⟨S256x63x256, .f32⟩
  | 66 => ⟨S256x63x256, .f32⟩
  | 67 => ⟨S256x63x1, .i1⟩
  | 68 => ⟨S256x63x256, .i1⟩
  | 69 => ⟨S256x63x256, .i1⟩
  | 70 => ⟨S_, .f32⟩
  | 71 => ⟨S256x63x256, .f32⟩
  | 72 => ⟨S256x63x256, .i1⟩
  | 73 => ⟨S256x63x256, .i1⟩
  | 74 => ⟨S_, .f32⟩
  | 75 => ⟨S256x63x256, .f32⟩
  | 76 => ⟨S256x63x256, .i1⟩
  | 77 => ⟨S256x63x256, .i1⟩
  | 78 => ⟨S_, .f32⟩
  | 79 => ⟨S256x63x256, .f32⟩
  | 80 => ⟨S256x63x256, .f32⟩
  | 81 => ⟨S256x63x256, .f32⟩
  | 82 => ⟨S256x63x4, .f32⟩
  | 83 => ⟨S_, .f32⟩
  | 84 => ⟨S256x63x4, .f32⟩
  | 85 => ⟨S256x63x4, .i1⟩
  | 86 => ⟨S256x63, .f32⟩
  | 87 => ⟨S256x63x1, .f32⟩
  | 88 => ⟨S256x63x1, .f32⟩
  | 89 => ⟨S256x63x4, .f32⟩
  | 90 => ⟨S256x63x4, .f32⟩
  | 91 => ⟨S256x63x4, .f32⟩
  | 92 => ⟨S256x63x4, .f32⟩
  | 93 => ⟨S_, .f32⟩
  | 94 => ⟨S256x63x4, .f32⟩
  | 95 => ⟨S256x63x4, .f32⟩
  | 96 => ⟨S256x63x1x256, .f32⟩
  | 97 => ⟨S256x63x4x1, .f32⟩
  | 98 => ⟨S256x63x256, .f32⟩
  | 99 => ⟨S256x63x1x256, .f32⟩
  | 100 => ⟨S256x63x4x256, .f32⟩
  | 101 => ⟨S256x63x4x256, .f32⟩
  | 102 => ⟨S256x63x4x256, .f32⟩
  | 103 => ⟨S256x63x4x256, .f32⟩
  | 104 => ⟨S256x63x4x256, .f32⟩
  | 105 => ⟨S256x63x4x1, .i1⟩
  | 106 => ⟨S_, .f32⟩
  | 107 => ⟨S256x63x4x256, .f32⟩
  | 108 => ⟨S256x63x4x256, .i1⟩
  | 109 => ⟨S256x63x4x256, .f32⟩
  | 110 => ⟨S256x63, .f32⟩
  | 111 => ⟨S256x63x1, .f32⟩
  | 112 => ⟨S256x63x256, .f32⟩
  | 113 => ⟨S256x63x1x256, .f32⟩
  | 114 => ⟨S256x63, .i1⟩
  | 115 => ⟨S256x63x1, .i1⟩
  | 116 => ⟨S256x63x5, .f32⟩
  | 117 => ⟨S256x63x5x256, .f32⟩
  | 118 => ⟨S256x63x5, .i1⟩
  | 119 => ⟨S256x315, .f32⟩
  | 120 => ⟨S256x315x256, .f32⟩
  | 121 => ⟨S256x315, .i1⟩
  | 122 => ⟨S256x1, .f32⟩
  | 123 => ⟨S256x316, .f32⟩
  | 124 => ⟨S256x1x256, .f32⟩
  | 125 => ⟨S256x316x256, .f32⟩
  | 126 => ⟨S256x1, .i1⟩
  | 127 => ⟨S256x316, .i1⟩
  | _ => ⟨S256x3, .f32⟩

abbrev hbmTy0_1 (i : Nat) : BufTy := match i % 128 with
  | 0 => ⟨S256x316, .i32⟩
  | 1 => ⟨S_, .i32⟩
  | 2 => ⟨S_, .i32⟩
  | 3 => ⟨S256x316, .i32⟩
  | 4 => ⟨S_, .i32⟩
  | 5 => ⟨S256x316, .i32⟩
  | 6 => ⟨S256x316, .i32⟩
  | 7 => ⟨S_, .i32⟩
  | 8 => ⟨S256x316, .i32⟩
  | 9 => ⟨S256x316, .i1⟩
  | 10 => ⟨S256x316, .i1⟩
  | 11 => ⟨S_, .i32⟩
  | 12 => ⟨S256x316, .i32⟩
  | 13 => ⟨S256x316, .i32⟩
  | 14 => ⟨S256, .i32⟩
  | 15 => ⟨S256x1, .i32⟩
  | 16 => ⟨S_, .f32⟩
  | 17 => ⟨S256x316, .f32⟩
  | 18 => ⟨S256x316, .f32⟩
  | 19 => ⟨S_, .f32⟩
  | 20 => ⟨S256x64, .f32⟩
  | 21 => ⟨S_, .i32⟩
  | 22 => ⟨S256x1, .i32⟩
  | 23 => ⟨S256x1, .i1⟩
  | 24 => ⟨S_, .i32⟩
  | 25 => ⟨S256x1, .i32⟩
  | 26 => ⟨S256x1, .i32⟩
  | 27 => ⟨S256x1, .i32⟩
  | 28 => ⟨S_, .i32⟩
  | 29 => ⟨S256x316, .i32⟩
  | 30 => ⟨S256x316, .i1⟩
  | 31 => ⟨S_, .i32⟩
  | 32 => ⟨S256x316, .i32⟩
  | 33 => ⟨S256x316, .i32⟩
  | 34 => ⟨S256x316, .i32⟩
  | 35 => ⟨S256x316, .i32⟩
  | 36 => ⟨S256x316x1, .i32⟩
  | 37 => ⟨S256x316x1, .i32⟩
  | 38 => ⟨S256x316x2, .i32⟩
  | 39 => ⟨S256x64, .f32⟩
  | 40 => ⟨S256x316x1, .i1⟩
  | 41 => ⟨S_, .f32⟩
  | 42 => ⟨S256x316x256, .f32⟩
  | 43 => ⟨S256x316x256, .i1⟩
  | 44 => ⟨S256x316x256, .f32⟩
  | 45 => ⟨S_, .f32⟩
  | 46 => ⟨S256x64x256, .f32⟩
  | 47 => ⟨S_, .i32⟩
  | 48 => ⟨S256x1, .i32⟩
  | 49 => ⟨S256x1, .i1⟩
  | 50 => ⟨S_, .i32⟩
  | 51 => ⟨S256x1, .i32⟩
  | 52 => ⟨S256x1, .i32⟩
  | 53 => ⟨S256x1, .i32⟩
  | 54 => ⟨S_, .i32⟩
  | 55 => ⟨S256x316, .i32⟩
  | 56 => ⟨S256x316, .i1⟩
  | 57 => ⟨S_, .i32⟩
  | 58 => ⟨S256x316, .i32⟩
  | 59 => ⟨S256x316, .i32⟩
  | 60 => ⟨S256x316, .i32⟩
  | 61 => ⟨S256x316, .i32⟩
  | 62 => ⟨S256x316x1, .i32⟩
  | 63 => ⟨S256x316x1, .i32⟩
  | 64 => ⟨S256x316x2, .i32⟩
  | 65 => ⟨S256x64x256, .f32⟩
  | 66 => ⟨S_, .i32⟩
  | 67 => ⟨S256x64, .i32⟩
  | 68 => ⟨S256x316, .i32⟩
  | 69 => ⟨S_, .i32⟩
  | 70 => ⟨S256x1, .i32⟩
  | 71 => ⟨S256x1, .i1⟩
  | 72 => ⟨S_, .i32⟩
  | 73 => ⟨S256x1, .i32⟩
  | 74 => ⟨S256x1, .i32⟩
  | 75 => ⟨S256x1, .i32⟩
  | 76 => ⟨S_, .i32⟩
  | 77 => ⟨S256x316, .i32⟩
  | 78 => ⟨S256x316, .i1⟩
  | 79 => ⟨S_, .i32⟩
  | 80 => ⟨S256x316, .i32⟩
  | 81 => ⟨S256x316, .i32⟩
  | 82 => ⟨S256x316, .i32⟩
  | 83 => ⟨S256x316, .i32⟩
  | 84 => ⟨S256x316x1, .i32⟩
  | 85 => ⟨S256x316x1, .i32⟩
  | 86 => ⟨S256x316x2, .i32⟩
  | 87 => ⟨S256x64, .i32⟩
  | 88 => ⟨S_, .i32⟩
  | 89 => ⟨S256x64, .i32⟩
  | 90 => ⟨S256x64, .i1⟩
  | 91 => ⟨S_, .f32⟩
  | 92 => ⟨S256x64, .f32⟩
  | 93 => ⟨S256x64, .f32⟩
  | 94 => ⟨S256x64x1, .i1⟩
  | 95 => ⟨S_, .f32⟩
  | 96 => ⟨S256x64x256, .f32⟩
  | 97 => ⟨S256x64x256, .i1⟩
  | 98 => ⟨S256x64x256, .f32⟩
  | 99 => ⟨S256x64x1, .i1⟩
  | 100 => ⟨S_, .f32⟩
  | 101 => ⟨S256x64x256, .f32⟩
  | 102 => ⟨S256x64x256, .f32⟩
  | 103 => ⟨S_, .f32⟩
  | 104 => ⟨S256x64x256, .f32⟩
  | 105 => ⟨S256x64x256, .i1⟩
  | 106 => ⟨S256x64x256, .f32⟩
  | 107 => ⟨S256x1x3, .f32⟩
  | 108 => ⟨S256x64x1, .f32⟩
  | 109 => ⟨S256x1x3, .f32⟩
  | 110 => ⟨S256x64x3, .f32⟩
  | 111 => ⟨S256x64x3, .f32⟩
  | 112 => ⟨S256x64x3, .f32⟩
  | 113 => ⟨S256x64x3, .f32⟩
  | 114 => ⟨S256x64x3, .f32⟩
  | 115 => ⟨S256x64x1, .i1⟩
  | 116 => ⟨S_, .f32⟩
  | 117 => ⟨S256x64x3, .f32⟩
  | 118 => ⟨S256x64x3, .i1⟩
  | 119 => ⟨S256x64x3, .f32⟩
  | 120 => ⟨S256x64x259, .f32⟩
  | 121 => ⟨S259x256, .f32⟩
  | 122 => ⟨S256x64x256, .f32⟩
  | 123 => ⟨S1x1x256, .f32⟩
  | 124 => ⟨S256x64x256, .f32⟩
  | 125 => ⟨S256x64x256, .f32⟩
  | 126 => ⟨S256x64x1, .i1⟩
  | 127 => ⟨S_, .f32⟩
  | _ => ⟨S256x3, .f32⟩

abbrev hbmTy0_2 (i : Nat) : BufTy := match i % 128 with
  | 0 => ⟨S256x64x256, .f32⟩
  | 1 => ⟨S256x64x256, .i1⟩
  | 2 => ⟨S256x64x256, .f32⟩
  | 3 => ⟨S256x63, .f32⟩
  | 4 => ⟨S256x63, .f32⟩
  | 5 => ⟨S256x63x256, .f32⟩
  | 6 => ⟨S256x63x256, .f32⟩
  | 7 => ⟨S256x63, .i1⟩
  | 8 => ⟨S256x63, .i1⟩
  | 9 => ⟨S256x63, .i1⟩
  | 10 => ⟨S256x63x256, .f32⟩
  | 11 => ⟨S256x63x256, .f32⟩
  | 12 => ⟨S_, .f32⟩
  | 13 => ⟨S256x63x256, .f32⟩
  | 14 => ⟨S256x63x256, .i1⟩
  | 15 => ⟨S_, .f32⟩
  | 16 => ⟨S256x63x256, .f32⟩
  | 17 => ⟨S256x63x256, .f32⟩
  | 18 => ⟨S256x63x256, .f32⟩
  | 19 => ⟨S256x63x256, .f32⟩
  | 20 => ⟨S256x63x1, .i1⟩
  | 21 => ⟨S256x63x256, .i1⟩
  | 22 => ⟨S256x63x256, .i1⟩
  | 23 => ⟨S_, .f32⟩
  | 24 => ⟨S256x63x256, .f32⟩
  | 25 => ⟨S256x63x256, .i1⟩
  | 26 => ⟨S256x63x256, .i1⟩
  | 27 => ⟨S_, .f32⟩
  | 28 => ⟨S256x63x256, .f32⟩
  | 29 => ⟨S256x63x256, .i1⟩
  | 30 => ⟨S256x63x256, .i1⟩
  | 31 => ⟨S_, .f32⟩
  | 32 => ⟨S256x63x256, .f32⟩
  | 33 => ⟨S256x63x256, .f32⟩
  | 34 => ⟨S256x63x256, .f32⟩
  | 35 => ⟨S256x63x4, .f32⟩
  | 36 => ⟨S_, .f32⟩
  | 37 => ⟨S256x63x4, .f32⟩
  | 38 => ⟨S256x63x4, .i1⟩
  | 39 => ⟨S256x63, .f32⟩
  | 40 => ⟨S256x63x1, .f32⟩
  | 41 => ⟨S256x63x1, .f32⟩
  | 42 => ⟨S256x63x4, .f32⟩
  | 43 => ⟨S256x63x4, .f32⟩
  | 44 => ⟨S256x63x4, .f32⟩
  | 45 => ⟨S256x63x4, .f32⟩
  | 46 => ⟨S_, .f32⟩
  | 47 => ⟨S256x63x4, .f32⟩
  | 48 => ⟨S256x63x4, .f32⟩
  | 49 => ⟨S256x63x1x256, .f32⟩
  | 50 => ⟨S256x63x4x1, .f32⟩
  | 51 => ⟨S256x63x256, .f32⟩
  | 52 => ⟨S256x63x1x256, .f32⟩
  | 53 => ⟨S256x63x4x256, .f32⟩
  | 54 => ⟨S256x63x4x256, .f32⟩
  | 55 => ⟨S256x63x4x256, .f32⟩
  | 56 => ⟨S256x63x4x256, .f32⟩
  | 57 => ⟨S256x63x4x256, .f32⟩
  | 58 => ⟨S256x63x4x1, .i1⟩
  | 59 => ⟨S_, .f32⟩
  | 60 => ⟨S256x63x4x256, .f32⟩
  | 61 => ⟨S256x63x4x256, .i1⟩
  | 62 => ⟨S256x63x4x256, .f32⟩
  | 63 => ⟨S256x63, .f32⟩
  | 64 => ⟨S256x63x1, .f32⟩
  | 65 => ⟨S256x63x256, .f32⟩
  | 66 => ⟨S256x63x1x256, .f32⟩
  | 67 => ⟨S256x63, .i1⟩
  | 68 => ⟨S256x63x1, .i1⟩
  | 69 => ⟨S256x63x5, .f32⟩
  | 70 => ⟨S256x63x5x256, .f32⟩
  | 71 => ⟨S256x63x5, .i1⟩
  | 72 => ⟨S256x315, .f32⟩
  | 73 => ⟨S256x315x256, .f32⟩
  | 74 => ⟨S256x315, .i1⟩
  | 75 => ⟨S256x1, .f32⟩
  | 76 => ⟨S256x316, .f32⟩
  | 77 => ⟨S256x1x256, .f32⟩
  | 78 => ⟨S256x316x256, .f32⟩
  | 79 => ⟨S256x1, .i1⟩
  | 80 => ⟨S256x316, .i1⟩
  | 81 => ⟨S256x316, .i32⟩
  | 82 => ⟨S_, .i32⟩
  | 83 => ⟨S_, .i32⟩
  | 84 => ⟨S256x316, .i32⟩
  | 85 => ⟨S_, .i32⟩
  | 86 => ⟨S256x316, .i32⟩
  | 87 => ⟨S256x316, .i32⟩
  | 88 => ⟨S_, .i32⟩
  | 89 => ⟨S256x316, .i32⟩
  | 90 => ⟨S256x316, .i1⟩
  | 91 => ⟨S256x316, .i1⟩
  | 92 => ⟨S_, .i32⟩
  | 93 => ⟨S256x316, .i32⟩
  | 94 => ⟨S256x316, .i32⟩
  | 95 => ⟨S256, .i32⟩
  | 96 => ⟨S256x1, .i32⟩
  | 97 => ⟨S_, .f32⟩
  | 98 => ⟨S256x316, .f32⟩
  | 99 => ⟨S256x316, .f32⟩
  | 100 => ⟨S_, .f32⟩
  | 101 => ⟨S256x64, .f32⟩
  | 102 => ⟨S_, .i32⟩
  | 103 => ⟨S256x1, .i32⟩
  | 104 => ⟨S256x1, .i1⟩
  | 105 => ⟨S_, .i32⟩
  | 106 => ⟨S256x1, .i32⟩
  | 107 => ⟨S256x1, .i32⟩
  | 108 => ⟨S256x1, .i32⟩
  | 109 => ⟨S_, .i32⟩
  | 110 => ⟨S256x316, .i32⟩
  | 111 => ⟨S256x316, .i1⟩
  | 112 => ⟨S_, .i32⟩
  | 113 => ⟨S256x316, .i32⟩
  | 114 => ⟨S256x316, .i32⟩
  | 115 => ⟨S256x316, .i32⟩
  | 116 => ⟨S256x316, .i32⟩
  | 117 => ⟨S256x316x1, .i32⟩
  | 118 => ⟨S256x316x1, .i32⟩
  | 119 => ⟨S256x316x2, .i32⟩
  | 120 => ⟨S256x64, .f32⟩
  | 121 => ⟨S256x316x1, .i1⟩
  | 122 => ⟨S_, .f32⟩
  | 123 => ⟨S256x316x256, .f32⟩
  | 124 => ⟨S256x316x256, .i1⟩
  | 125 => ⟨S256x316x256, .f32⟩
  | 126 => ⟨S_, .f32⟩
  | 127 => ⟨S256x64x256, .f32⟩
  | _ => ⟨S256x3, .f32⟩

abbrev hbmTy0_3 (i : Nat) : BufTy := match i % 128 with
  | 0 => ⟨S_, .i32⟩
  | 1 => ⟨S256x1, .i32⟩
  | 2 => ⟨S256x1, .i1⟩
  | 3 => ⟨S_, .i32⟩
  | 4 => ⟨S256x1, .i32⟩
  | 5 => ⟨S256x1, .i32⟩
  | 6 => ⟨S256x1, .i32⟩
  | 7 => ⟨S_, .i32⟩
  | 8 => ⟨S256x316, .i32⟩
  | 9 => ⟨S256x316, .i1⟩
  | 10 => ⟨S_, .i32⟩
  | 11 => ⟨S256x316, .i32⟩
  | 12 => ⟨S256x316, .i32⟩
  | 13 => ⟨S256x316, .i32⟩
  | 14 => ⟨S256x316, .i32⟩
  | 15 => ⟨S256x316x1, .i32⟩
  | 16 => ⟨S256x316x1, .i32⟩
  | 17 => ⟨S256x316x2, .i32⟩
  | 18 => ⟨S256x64x256, .f32⟩
  | 19 => ⟨S_, .i32⟩
  | 20 => ⟨S256x64, .i32⟩
  | 21 => ⟨S256x316, .i32⟩
  | 22 => ⟨S_, .i32⟩
  | 23 => ⟨S256x1, .i32⟩
  | 24 => ⟨S256x1, .i1⟩
  | 25 => ⟨S_, .i32⟩
  | 26 => ⟨S256x1, .i32⟩
  | 27 => ⟨S256x1, .i32⟩
  | 28 => ⟨S256x1, .i32⟩
  | 29 => ⟨S_, .i32⟩
  | 30 => ⟨S256x316, .i32⟩
  | 31 => ⟨S256x316, .i1⟩
  | 32 => ⟨S_, .i32⟩
  | 33 => ⟨S256x316, .i32⟩
  | 34 => ⟨S256x316, .i32⟩
  | 35 => ⟨S256x316, .i32⟩
  | 36 => ⟨S256x316, .i32⟩
  | 37 => ⟨S256x316x1, .i32⟩
  | 38 => ⟨S256x316x1, .i32⟩
  | 39 => ⟨S256x316x2, .i32⟩
  | 40 => ⟨S256x64, .i32⟩
  | 41 => ⟨S_, .i32⟩
  | 42 => ⟨S256x64, .i32⟩
  | 43 => ⟨S256x64, .i1⟩
  | 44 => ⟨S_, .f32⟩
  | 45 => ⟨S256x64, .f32⟩
  | 46 => ⟨S256x64, .f32⟩
  | 47 => ⟨S256x64x1, .i1⟩
  | 48 => ⟨S_, .f32⟩
  | 49 => ⟨S256x64x256, .f32⟩
  | 50 => ⟨S256x64x256, .i1⟩
  | 51 => ⟨S256x64x256, .f32⟩
  | 52 => ⟨S256x64x1, .i1⟩
  | 53 => ⟨S_, .f32⟩
  | 54 => ⟨S256x64x256, .f32⟩
  | 55 => ⟨S256x64x256, .f32⟩
  | 56 => ⟨S_, .f32⟩
  | 57 => ⟨S256x64x256, .f32⟩
  | 58 => ⟨S256x64x256, .i1⟩
  | 59 => ⟨S256x64x256, .f32⟩
  | 60 => ⟨S256x1x3, .f32⟩
  | 61 => ⟨S256x64x1, .f32⟩
  | 62 => ⟨S256x1x3, .f32⟩
  | 63 => ⟨S256x64x3, .f32⟩
  | 64 => ⟨S256x64x3, .f32⟩
  | 65 => ⟨S256x64x3, .f32⟩
  | 66 => ⟨S256x64x3, .f32⟩
  | 67 => ⟨S256x64x3, .f32⟩
  | 68 => ⟨S256x64x1, .i1⟩
  | 69 => ⟨S_, .f32⟩
  | 70 => ⟨S256x64x3, .f32⟩
  | 71 => ⟨S256x64x3, .i1⟩
  | 72 => ⟨S256x64x3, .f32⟩
  | 73 => ⟨S256x64x259, .f32⟩
  | 74 => ⟨S259x256, .f32⟩
  | 75 => ⟨S256x64x256, .f32⟩
  | 76 => ⟨S1x1x256, .f32⟩
  | 77 => ⟨S256x64x256, .f32⟩
  | 78 => ⟨S256x64x256, .f32⟩
  | 79 => ⟨S256x64x1, .i1⟩
  | 80 => ⟨S_, .f32⟩
  | 81 => ⟨S256x64x256, .f32⟩
  | 82 => ⟨S256x64x256, .i1⟩
  | 83 => ⟨S256x64x256, .f32⟩
  | 84 => ⟨S256x63, .f32⟩
  | 85 => ⟨S256x63, .f32⟩
  | 86 => ⟨S256x63x256, .f32⟩
  | 87 => ⟨S256x63x256, .f32⟩
  | 88 => ⟨S256x63, .i1⟩
  | 89 => ⟨S256x63, .i1⟩
  | 90 => ⟨S256x63, .i1⟩
  | 91 => ⟨S256x63x256, .f32⟩
  | 92 => ⟨S256x63x256, .f32⟩
  | 93 => ⟨S_, .f32⟩
  | 94 => ⟨S256x63x256, .f32⟩
  | 95 => ⟨S256x63x256, .i1⟩
  | 96 => ⟨S_, .f32⟩
  | 97 => ⟨S256x63x256, .f32⟩
  | 98 => ⟨S256x63x256, .f32⟩
  | 99 => ⟨S256x63x256, .f32⟩
  | 100 => ⟨S256x63x256, .f32⟩
  | 101 => ⟨S256x63x1, .i1⟩
  | 102 => ⟨S256x63x256, .i1⟩
  | 103 => ⟨S256x63x256, .i1⟩
  | 104 => ⟨S_, .f32⟩
  | 105 => ⟨S256x63x256, .f32⟩
  | 106 => ⟨S256x63x256, .i1⟩
  | 107 => ⟨S256x63x256, .i1⟩
  | 108 => ⟨S_, .f32⟩
  | 109 => ⟨S256x63x256, .f32⟩
  | 110 => ⟨S256x63x256, .i1⟩
  | 111 => ⟨S256x63x256, .i1⟩
  | 112 => ⟨S_, .f32⟩
  | 113 => ⟨S256x63x256, .f32⟩
  | 114 => ⟨S256x63x256, .f32⟩
  | 115 => ⟨S256x63x256, .f32⟩
  | 116 => ⟨S256x63x4, .f32⟩
  | 117 => ⟨S_, .f32⟩
  | 118 => ⟨S256x63x4, .f32⟩
  | 119 => ⟨S256x63x4, .i1⟩
  | 120 => ⟨S256x63, .f32⟩
  | 121 => ⟨S256x63x1, .f32⟩
  | 122 => ⟨S256x63x1, .f32⟩
  | 123 => ⟨S256x63x4, .f32⟩
  | 124 => ⟨S256x63x4, .f32⟩
  | 125 => ⟨S256x63x4, .f32⟩
  | 126 => ⟨S256x63x4, .f32⟩
  | 127 => ⟨S_, .f32⟩
  | _ => ⟨S256x3, .f32⟩

abbrev hbmTy0_4 (i : Nat) : BufTy := match i % 128 with
  | 0 => ⟨S256x63x4, .f32⟩
  | 1 => ⟨S256x63x4, .f32⟩
  | 2 => ⟨S256x63x1x256, .f32⟩
  | 3 => ⟨S256x63x4x1, .f32⟩
  | 4 => ⟨S256x63x256, .f32⟩
  | 5 => ⟨S256x63x1x256, .f32⟩
  | 6 => ⟨S256x63x4x256, .f32⟩
  | 7 => ⟨S256x63x4x256, .f32⟩
  | 8 => ⟨S256x63x4x256, .f32⟩
  | 9 => ⟨S256x63x4x256, .f32⟩
  | 10 => ⟨S256x63x4x256, .f32⟩
  | 11 => ⟨S256x63x4x1, .i1⟩
  | 12 => ⟨S_, .f32⟩
  | 13 => ⟨S256x63x4x256, .f32⟩
  | 14 => ⟨S256x63x4x256, .i1⟩
  | 15 => ⟨S256x63x4x256, .f32⟩
  | 16 => ⟨S256x63, .f32⟩
  | 17 => ⟨S256x63x1, .f32⟩
  | 18 => ⟨S256x63x256, .f32⟩
  | 19 => ⟨S256x63x1x256, .f32⟩
  | 20 => ⟨S256x63, .i1⟩
  | 21 => ⟨S256x63x1, .i1⟩
  | 22 => ⟨S256x63x5, .f32⟩
  | 23 => ⟨S256x63x5x256, .f32⟩
  | 24 => ⟨S256x63x5, .i1⟩
  | 25 => ⟨S256x315, .f32⟩
  | 26 => ⟨S256x315x256, .f32⟩
  | 27 => ⟨S256x315, .i1⟩
  | 28 => ⟨S256x1, .f32⟩
  | 29 => ⟨S256x316, .f32⟩
  | 30 => ⟨S256x1x256, .f32⟩
  | 31 => ⟨S256x316x256, .f32⟩
  | 32 => ⟨S256x1, .i1⟩
  | 33 => ⟨S256x316, .i1⟩
  | 34 => ⟨S256x316, .i32⟩
  | 35 => ⟨S_, .i32⟩
  | 36 => ⟨S_, .i32⟩
  | 37 => ⟨S256x316, .i32⟩
  | 38 => ⟨S_, .i32⟩
  | 39 => ⟨S256x316, .i32⟩
  | 40 => ⟨S256x316, .i32⟩
  | 41 => ⟨S_, .i32⟩
  | 42 => ⟨S256x316, .i32⟩
  | 43 => ⟨S256x316, .i1⟩
  | 44 => ⟨S256x316, .i1⟩
  | 45 => ⟨S_, .i32⟩
  | 46 => ⟨S256x316, .i32⟩
  | 47 => ⟨S256x316, .i32⟩
  | 48 => ⟨S256, .i32⟩
  | 49 => ⟨S256x1, .i32⟩
  | 50 => ⟨S_, .f32⟩
  | 51 => ⟨S256x316, .f32⟩
  | 52 => ⟨S256x316, .f32⟩
  | 53 => ⟨S_, .f32⟩
  | 54 => ⟨S256x64, .f32⟩
  | 55 => ⟨S_, .i32⟩
  | 56 => ⟨S256x1, .i32⟩
  | 57 => ⟨S256x1, .i1⟩
  | 58 => ⟨S_, .i32⟩
  | 59 => ⟨S256x1, .i32⟩
  | 60 => ⟨S256x1, .i32⟩
  | 61 => ⟨S256x1, .i32⟩
  | 62 => ⟨S_, .i32⟩
  | 63 => ⟨S256x316, .i32⟩
  | 64 => ⟨S256x316, .i1⟩
  | 65 => ⟨S_, .i32⟩
  | 66 => ⟨S256x316, .i32⟩
  | 67 => ⟨S256x316, .i32⟩
  | 68 => ⟨S256x316, .i32⟩
  | 69 => ⟨S256x316, .i32⟩
  | 70 => ⟨S256x316x1, .i32⟩
  | 71 => ⟨S256x316x1, .i32⟩
  | 72 => ⟨S256x316x2, .i32⟩
  | 73 => ⟨S256x64, .f32⟩
  | 74 => ⟨S256x316x1, .i1⟩
  | 75 => ⟨S_, .f32⟩
  | 76 => ⟨S256x316x256, .f32⟩
  | 77 => ⟨S256x316x256, .i1⟩
  | 78 => ⟨S256x316x256, .f32⟩
  | 79 => ⟨S_, .f32⟩
  | 80 => ⟨S256x64x256, .f32⟩
  | 81 => ⟨S_, .i32⟩
  | 82 => ⟨S256x1, .i32⟩
  | 83 => ⟨S256x1, .i1⟩
  | 84 => ⟨S_, .i32⟩
  | 85 => ⟨S256x1, .i32⟩
  | 86 => ⟨S256x1, .i32⟩
  | 87 => ⟨S256x1, .i32⟩
  | 88 => ⟨S_, .i32⟩
  | 89 => ⟨S256x316, .i32⟩
  | 90 => ⟨S256x316, .i1⟩
  | 91 => ⟨S_, .i32⟩
  | 92 => ⟨S256x316, .i32⟩
  | 93 => ⟨S256x316, .i32⟩
  | 94 => ⟨S256x316, .i32⟩
  | 95 => ⟨S256x316, .i32⟩
  | 96 => ⟨S256x316x1, .i32⟩
  | 97 => ⟨S256x316x1, .i32⟩
  | 98 => ⟨S256x316x2, .i32⟩
  | 99 => ⟨S256x64x256, .f32⟩
  | 100 => ⟨S_, .i32⟩
  | 101 => ⟨S256x64, .i32⟩
  | 102 => ⟨S256x316, .i32⟩
  | 103 => ⟨S_, .i32⟩
  | 104 => ⟨S256x1, .i32⟩
  | 105 => ⟨S256x1, .i1⟩
  | 106 => ⟨S_, .i32⟩
  | 107 => ⟨S256x1, .i32⟩
  | 108 => ⟨S256x1, .i32⟩
  | 109 => ⟨S256x1, .i32⟩
  | 110 => ⟨S_, .i32⟩
  | 111 => ⟨S256x316, .i32⟩
  | 112 => ⟨S256x316, .i1⟩
  | 113 => ⟨S_, .i32⟩
  | 114 => ⟨S256x316, .i32⟩
  | 115 => ⟨S256x316, .i32⟩
  | 116 => ⟨S256x316, .i32⟩
  | 117 => ⟨S256x316, .i32⟩
  | 118 => ⟨S256x316x1, .i32⟩
  | 119 => ⟨S256x316x1, .i32⟩
  | 120 => ⟨S256x316x2, .i32⟩
  | 121 => ⟨S256x64, .i32⟩
  | 122 => ⟨S_, .i32⟩
  | 123 => ⟨S256x64, .i32⟩
  | 124 => ⟨S256x64, .i1⟩
  | 125 => ⟨S_, .f32⟩
  | 126 => ⟨S256x64, .f32⟩
  | 127 => ⟨S256x64, .f32⟩
  | _ => ⟨S256x3, .f32⟩

abbrev hbmTy0_5 (i : Nat) : BufTy := match i % 128 with
  | 0 => ⟨S256x64x1, .i1⟩
  | 1 => ⟨S_, .f32⟩
  | 2 => ⟨S256x64x256, .f32⟩
  | 3 => ⟨S256x64x256, .i1⟩
  | 4 => ⟨S256x64x256, .f32⟩
  | 5 => ⟨S256x64x1, .i1⟩
  | 6 => ⟨S_, .f32⟩
  | 7 => ⟨S256x64x256, .f32⟩
  | 8 => ⟨S256x64x256, .f32⟩
  | 9 => ⟨S_, .f32⟩
  | 10 => ⟨S256x64x256, .f32⟩
  | 11 => ⟨S256x64x256, .i1⟩
  | 12 => ⟨S256x64x256, .f32⟩
  | 13 => ⟨S256x1, .f32⟩
  | 14 => ⟨S256x64x1, .f32⟩
  | 15 => ⟨S1x1x1, .f32⟩
  | 16 => ⟨S256x64x1, .f32⟩
  | 17 => ⟨S256x64x1, .f32⟩
  | 18 => ⟨S256x64x1, .i1⟩
  | 19 => ⟨S_, .f32⟩
  | 20 => ⟨S256x64x1, .f32⟩
  | 21 => ⟨S256x64x1, .f32⟩
  | _ => ⟨S256x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S256x3, .f32⟩

abbrev bufTy : (tb : Table) → Fin (tcTables nBuf tb) → BufTy
  | .hbm, ⟨i, _⟩ => hbmTy i
  | _, _ => ⟨S256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_c_3 : Ref sig .tc := ⟨.hbm, 22, rfl⟩
abbrev main_v7 : Ref sig .tc := ⟨.hbm, 23, rfl⟩
abbrev main_c_4 : Ref sig .tc := ⟨.hbm, 24, rfl⟩
abbrev main_v8 : Ref sig .tc := ⟨.hbm, 25, rfl⟩
abbrev main_c_5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_call0_v0 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_call2_v0 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_call4_v0 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_call5_v0 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_call6_call0_c : Ref sig .tc := ⟨.hbm, 129, rfl⟩
abbrev main_call6_call0_v0 : Ref sig .tc := ⟨.hbm, 130, rfl⟩
abbrev main_v98 : Ref sig .tc := ⟨.hbm, 131, rfl⟩
abbrev main_c_15 : Ref sig .tc := ⟨.hbm, 132, rfl⟩
abbrev main_v99 : Ref sig .tc := ⟨.hbm, 133, rfl⟩
abbrev main_v100 : Ref sig .tc := ⟨.hbm, 134, rfl⟩
abbrev main_c_16 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_17 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_18 : Ref sig .tc := ⟨.hbm, 144, rfl⟩
abbrev main_v108 : Ref sig .tc := ⟨.hbm, 145, rfl⟩
abbrev main_v109 : Ref sig .tc := ⟨.hbm, 146, rfl⟩
abbrev main_cst_19 : Ref sig .tc := ⟨.hbm, 147, rfl⟩
abbrev main_v110 : Ref sig .tc := ⟨.hbm, 148, rfl⟩
abbrev main_c_20 : Ref sig .tc := ⟨.hbm, 149, rfl⟩
abbrev main_v111 : Ref sig .tc := ⟨.hbm, 150, rfl⟩
abbrev main_v112 : Ref sig .tc := ⟨.hbm, 151, rfl⟩
abbrev main_c_21 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_c_22 : Ref sig .tc := ⟨.hbm, 156, rfl⟩
abbrev main_v116 : Ref sig .tc := ⟨.hbm, 157, rfl⟩
abbrev main_v117 : Ref sig .tc := ⟨.hbm, 158, rfl⟩
abbrev main_c_23 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_cst_24 : Ref sig .tc := ⟨.hbm, 169, rfl⟩
abbrev main_v127 : Ref sig .tc := ⟨.hbm, 170, rfl⟩
abbrev main_call9_v0 : Ref sig .tc := ⟨.hbm, 171, rfl⟩
abbrev main_v128 : Ref sig .tc := ⟨.hbm, 172, rfl⟩
abbrev main_cst_25 : Ref sig .tc := ⟨.hbm, 173, rfl⟩
abbrev main_v129 : Ref sig .tc := ⟨.hbm, 174, rfl⟩
abbrev main_c_26 : Ref sig .tc := ⟨.hbm, 175, rfl⟩
abbrev main_v130 : Ref sig .tc := ⟨.hbm, 176, rfl⟩
abbrev main_v131 : Ref sig .tc := ⟨.hbm, 177, rfl⟩
abbrev main_c_27 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_c_28 : Ref sig .tc := ⟨.hbm, 182, rfl⟩
abbrev main_v135 : Ref sig .tc := ⟨.hbm, 183, rfl⟩
abbrev main_v136 : Ref sig .tc := ⟨.hbm, 184, rfl⟩
abbrev main_c_29 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_c_30 : Ref sig .tc := ⟨.hbm, 194, rfl⟩
abbrev main_v145 : Ref sig .tc := ⟨.hbm, 195, rfl⟩
abbrev main_v146 : Ref sig .tc := ⟨.hbm, 196, rfl⟩
abbrev main_c_31 : Ref sig .tc := ⟨.hbm, 197, rfl⟩
abbrev main_v147 : Ref sig .tc := ⟨.hbm, 198, rfl⟩
abbrev main_v148 : Ref sig .tc := ⟨.hbm, 199, rfl⟩
abbrev main_c_32 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_c_33 : Ref sig .tc := ⟨.hbm, 204, rfl⟩
abbrev main_v152 : Ref sig .tc := ⟨.hbm, 205, rfl⟩
abbrev main_v153 : Ref sig .tc := ⟨.hbm, 206, rfl⟩
abbrev main_c_34 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_c_35 : Ref sig .tc := ⟨.hbm, 216, rfl⟩
abbrev main_v162 : Ref sig .tc := ⟨.hbm, 217, rfl⟩
abbrev main_v163 : Ref sig .tc := ⟨.hbm, 218, rfl⟩
abbrev main_cst_36 : Ref sig .tc := ⟨.hbm, 219, rfl⟩
abbrev main_call10_v0 : Ref sig .tc := ⟨.hbm, 220, rfl⟩
abbrev main_v164 : Ref sig .tc := ⟨.hbm, 221, rfl⟩
abbrev main_v165 : Ref sig .tc := ⟨.hbm, 222, rfl⟩
abbrev main_cst_37 : Ref sig .tc := ⟨.hbm, 223, rfl⟩
abbrev main_v166 : Ref sig .tc := ⟨.hbm, 224, rfl⟩
abbrev main_call11_v0 : Ref sig .tc := ⟨.hbm, 225, rfl⟩
abbrev main_v167 : Ref sig .tc := ⟨.hbm, 226, rfl⟩
abbrev main_v168 : Ref sig .tc := ⟨.hbm, 227, rfl⟩
abbrev main_call12_cst : Ref sig .tc := ⟨.hbm, 228, rfl⟩
abbrev main_call12_v0 : Ref sig .tc := ⟨.hbm, 229, rfl⟩
abbrev main_v169 : Ref sig .tc := ⟨.hbm, 230, rfl⟩
abbrev main_cst_38 : Ref sig .tc := ⟨.hbm, 231, rfl⟩
abbrev main_v170 : Ref sig .tc := ⟨.hbm, 232, rfl⟩
abbrev main_call13_v0 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_cst_39 : Ref sig .tc := ⟨.hbm, 244, rfl⟩
abbrev main_v181 : Ref sig .tc := ⟨.hbm, 245, rfl⟩
abbrev main_call14_v0 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_cst_40 : Ref sig .tc := ⟨.hbm, 255, rfl⟩
abbrev main_v190 : Ref sig .tc := ⟨.hbm, 256, rfl⟩
abbrev main_call15_v0 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_cst_41 : Ref sig .tc := ⟨.hbm, 268, rfl⟩
abbrev main_v201 : Ref sig .tc := ⟨.hbm, 269, rfl⟩
abbrev main_v202 : Ref sig .tc := ⟨.hbm, 270, rfl⟩
abbrev main_cst_42 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_cst_43 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_cst_44 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_cst_45 : Ref sig .tc := ⟨.hbm, 287, rfl⟩
abbrev main_call17_v0 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_cst_46 : Ref sig .tc := ⟨.hbm, 292, rfl⟩
abbrev main_v219 : Ref sig .tc := ⟨.hbm, 293, rfl⟩
abbrev main_v220 : Ref sig .tc := ⟨.hbm, 294, rfl⟩
abbrev main_v221 : Ref sig .tc := ⟨.hbm, 295, rfl⟩
abbrev main_v222 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_cst_47 : Ref sig .tc := ⟨.hbm, 302, rfl⟩
abbrev main_call19_v0 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_cst_48 : Ref sig .tc := ⟨.hbm, 315, rfl⟩
abbrev main_v239 : Ref sig .tc := ⟨.hbm, 316, rfl⟩
abbrev main_call20_v0 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_v250 : Ref sig .tc := ⟨.hbm, 328, rfl⟩
abbrev main_v251 : Ref sig .tc := ⟨.hbm, 329, rfl⟩
abbrev main_v252 : Ref sig .tc := ⟨.hbm, 330, rfl⟩
abbrev main_v253 : Ref sig .tc := ⟨.hbm, 331, rfl⟩
abbrev main_v254 : Ref sig .tc := ⟨.hbm, 332, rfl⟩
abbrev main_v255 : Ref sig .tc := ⟨.hbm, 333, rfl⟩
abbrev main_v256 : Ref sig .tc := ⟨.hbm, 334, rfl⟩
abbrev main_v257 : Ref sig .tc := ⟨.hbm, 335, rfl⟩
abbrev main_v258 : Ref sig .tc := ⟨.hbm, 336, rfl⟩
abbrev main_v259 : Ref sig .tc := ⟨.hbm, 337, rfl⟩
abbrev main_call21_call0_c : Ref sig .tc := ⟨.hbm, 338, rfl⟩
abbrev main_call21_call0_v0 : Ref sig .tc := ⟨.hbm, 339, rfl⟩
abbrev main_v260 : Ref sig .tc := ⟨.hbm, 340, rfl⟩
abbrev main_c_49 : Ref sig .tc := ⟨.hbm, 341, rfl⟩
abbrev main_v261 : Ref sig .tc := ⟨.hbm, 342, rfl⟩
abbrev main_v262 : Ref sig .tc := ⟨.hbm, 343, rfl⟩
abbrev main_c_50 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_c_51 : Ref sig .tc := ⟨.hbm, 348, rfl⟩
abbrev main_v266 : Ref sig .tc := ⟨.hbm, 349, rfl⟩
abbrev main_v267 : Ref sig .tc := ⟨.hbm, 350, rfl⟩
abbrev main_v268 : Ref sig .tc := ⟨.hbm, 351, rfl⟩
abbrev main_v269 : Ref sig .tc := ⟨.hbm, 352, rfl⟩
abbrev main_cst_52 : Ref sig .tc := ⟨.hbm, 353, rfl⟩
abbrev main_v270 : Ref sig .tc := ⟨.hbm, 354, rfl⟩
abbrev main_v271 : Ref sig .tc := ⟨.hbm, 355, rfl⟩
abbrev main_cst_53 : Ref sig .tc := ⟨.hbm, 356, rfl⟩
abbrev main_v272 : Ref sig .tc := ⟨.hbm, 357, rfl⟩
abbrev main_c_54 : Ref sig .tc := ⟨.hbm, 358, rfl⟩
abbrev main_v273 : Ref sig .tc := ⟨.hbm, 359, rfl⟩
abbrev main_v274 : Ref sig .tc := ⟨.hbm, 360, rfl⟩
abbrev main_c_55 : Ref sig .tc := ⟨.hbm, 361, rfl⟩
abbrev main_v275 : Ref sig .tc := ⟨.hbm, 362, rfl⟩
abbrev main_v276 : Ref sig .tc := ⟨.hbm, 363, rfl⟩
abbrev main_v277 : Ref sig .tc := ⟨.hbm, 364, rfl⟩
abbrev main_c_56 : Ref sig .tc := ⟨.hbm, 365, rfl⟩
abbrev main_v278 : Ref sig .tc := ⟨.hbm, 366, rfl⟩
abbrev main_v279 : Ref sig .tc := ⟨.hbm, 367, rfl⟩
abbrev main_c_57 : Ref sig .tc := ⟨.hbm, 368, rfl⟩
abbrev main_v280 : Ref sig .tc := ⟨.hbm, 369, rfl⟩
abbrev main_v281 : Ref sig .tc := ⟨.hbm, 370, rfl⟩
abbrev main_v282 : Ref sig .tc := ⟨.hbm, 371, rfl⟩
abbrev main_v283 : Ref sig .tc := ⟨.hbm, 372, rfl⟩
abbrev main_v284 : Ref sig .tc := ⟨.hbm, 373, rfl⟩
abbrev main_v285 : Ref sig .tc := ⟨.hbm, 374, rfl⟩
abbrev main_v286 : Ref sig .tc := ⟨.hbm, 375, rfl⟩
abbrev main_v287 : Ref sig .tc := ⟨.hbm, 376, rfl⟩
abbrev main_v288 : Ref sig .tc := ⟨.hbm, 377, rfl⟩
abbrev main_cst_58 : Ref sig .tc := ⟨.hbm, 378, rfl⟩
abbrev main_v289 : Ref sig .tc := ⟨.hbm, 379, rfl⟩
abbrev main_call24_v0 : Ref sig .tc := ⟨.hbm, 380, rfl⟩
abbrev main_v290 : Ref sig .tc := ⟨.hbm, 381, rfl⟩
abbrev main_cst_59 : Ref sig .tc := ⟨.hbm, 382, rfl⟩
abbrev main_v291 : Ref sig .tc := ⟨.hbm, 383, rfl⟩
abbrev main_c_60 : Ref sig .tc := ⟨.hbm, 384, rfl⟩
abbrev main_v292 : Ref sig .tc := ⟨.hbm, 385, rfl⟩
abbrev main_v293 : Ref sig .tc := ⟨.hbm, 386, rfl⟩
abbrev main_c_61 : Ref sig .tc := ⟨.hbm, 387, rfl⟩
abbrev main_v294 : Ref sig .tc := ⟨.hbm, 388, rfl⟩
abbrev main_v295 : Ref sig .tc := ⟨.hbm, 389, rfl⟩
abbrev main_v296 : Ref sig .tc := ⟨.hbm, 390, rfl⟩
abbrev main_c_62 : Ref sig .tc := ⟨.hbm, 391, rfl⟩
abbrev main_v297 : Ref sig .tc := ⟨.hbm, 392, rfl⟩
abbrev main_v298 : Ref sig .tc := ⟨.hbm, 393, rfl⟩
abbrev main_c_63 : Ref sig .tc := ⟨.hbm, 394, rfl⟩
abbrev main_v299 : Ref sig .tc := ⟨.hbm, 395, rfl⟩
abbrev main_v300 : Ref sig .tc := ⟨.hbm, 396, rfl⟩
abbrev main_v301 : Ref sig .tc := ⟨.hbm, 397, rfl⟩
abbrev main_v302 : Ref sig .tc := ⟨.hbm, 398, rfl⟩
abbrev main_v303 : Ref sig .tc := ⟨.hbm, 399, rfl⟩
abbrev main_v304 : Ref sig .tc := ⟨.hbm, 400, rfl⟩
abbrev main_v305 : Ref sig .tc := ⟨.hbm, 401, rfl⟩
abbrev main_v306 : Ref sig .tc := ⟨.hbm, 402, rfl⟩
abbrev main_c_64 : Ref sig .tc := ⟨.hbm, 403, rfl⟩
abbrev main_v307 : Ref sig .tc := ⟨.hbm, 404, rfl⟩
abbrev main_v308 : Ref sig .tc := ⟨.hbm, 405, rfl⟩
abbrev main_c_65 : Ref sig .tc := ⟨.hbm, 406, rfl⟩
abbrev main_v309 : Ref sig .tc := ⟨.hbm, 407, rfl⟩
abbrev main_v310 : Ref sig .tc := ⟨.hbm, 408, rfl⟩
abbrev main_c_66 : Ref sig .tc := ⟨.hbm, 409, rfl⟩
abbrev main_v311 : Ref sig .tc := ⟨.hbm, 410, rfl⟩
abbrev main_v312 : Ref sig .tc := ⟨.hbm, 411, rfl⟩
abbrev main_v313 : Ref sig .tc := ⟨.hbm, 412, rfl⟩
abbrev main_c_67 : Ref sig .tc := ⟨.hbm, 413, rfl⟩
abbrev main_v314 : Ref sig .tc := ⟨.hbm, 414, rfl⟩
abbrev main_v315 : Ref sig .tc := ⟨.hbm, 415, rfl⟩
abbrev main_c_68 : Ref sig .tc := ⟨.hbm, 416, rfl⟩
abbrev main_v316 : Ref sig .tc := ⟨.hbm, 417, rfl⟩
abbrev main_v317 : Ref sig .tc := ⟨.hbm, 418, rfl⟩
abbrev main_v318 : Ref sig .tc := ⟨.hbm, 419, rfl⟩
abbrev main_v319 : Ref sig .tc := ⟨.hbm, 420, rfl⟩
abbrev main_v320 : Ref sig .tc := ⟨.hbm, 421, rfl⟩
abbrev main_v321 : Ref sig .tc := ⟨.hbm, 422, rfl⟩
abbrev main_v322 : Ref sig .tc := ⟨.hbm, 423, rfl⟩
abbrev main_v323 : Ref sig .tc := ⟨.hbm, 424, rfl⟩
abbrev main_c_69 : Ref sig .tc := ⟨.hbm, 425, rfl⟩
abbrev main_v324 : Ref sig .tc := ⟨.hbm, 426, rfl⟩
abbrev main_v325 : Ref sig .tc := ⟨.hbm, 427, rfl⟩
abbrev main_cst_70 : Ref sig .tc := ⟨.hbm, 428, rfl⟩
abbrev main_call25_v0 : Ref sig .tc := ⟨.hbm, 429, rfl⟩
abbrev main_v326 : Ref sig .tc := ⟨.hbm, 430, rfl⟩
abbrev main_v327 : Ref sig .tc := ⟨.hbm, 431, rfl⟩
abbrev main_cst_71 : Ref sig .tc := ⟨.hbm, 432, rfl⟩
abbrev main_v328 : Ref sig .tc := ⟨.hbm, 433, rfl⟩
abbrev main_call26_v0 : Ref sig .tc := ⟨.hbm, 434, rfl⟩
abbrev main_v329 : Ref sig .tc := ⟨.hbm, 435, rfl⟩
abbrev main_v330 : Ref sig .tc := ⟨.hbm, 436, rfl⟩
abbrev main_call27_cst : Ref sig .tc := ⟨.hbm, 437, rfl⟩
abbrev main_call27_v0 : Ref sig .tc := ⟨.hbm, 438, rfl⟩
abbrev main_v331 : Ref sig .tc := ⟨.hbm, 439, rfl⟩
abbrev main_cst_72 : Ref sig .tc := ⟨.hbm, 440, rfl⟩
abbrev main_v332 : Ref sig .tc := ⟨.hbm, 441, rfl⟩
abbrev main_call28_v0 : Ref sig .tc := ⟨.hbm, 442, rfl⟩
abbrev main_v333 : Ref sig .tc := ⟨.hbm, 443, rfl⟩
abbrev main_v334 : Ref sig .tc := ⟨.hbm, 444, rfl⟩
abbrev main_v335 : Ref sig .tc := ⟨.hbm, 445, rfl⟩
abbrev main_v336 : Ref sig .tc := ⟨.hbm, 446, rfl⟩
abbrev main_v337 : Ref sig .tc := ⟨.hbm, 447, rfl⟩
abbrev main_v338 : Ref sig .tc := ⟨.hbm, 448, rfl⟩
abbrev main_v339 : Ref sig .tc := ⟨.hbm, 449, rfl⟩
abbrev main_v340 : Ref sig .tc := ⟨.hbm, 450, rfl⟩
abbrev main_v341 : Ref sig .tc := ⟨.hbm, 451, rfl⟩
abbrev main_v342 : Ref sig .tc := ⟨.hbm, 452, rfl⟩
abbrev main_cst_73 : Ref sig .tc := ⟨.hbm, 453, rfl⟩
abbrev main_v343 : Ref sig .tc := ⟨.hbm, 454, rfl⟩
abbrev main_call29_v0 : Ref sig .tc := ⟨.hbm, 455, rfl⟩
abbrev main_v344 : Ref sig .tc := ⟨.hbm, 456, rfl⟩
abbrev main_v345 : Ref sig .tc := ⟨.hbm, 457, rfl⟩
abbrev main_v346 : Ref sig .tc := ⟨.hbm, 458, rfl⟩
abbrev main_v347 : Ref sig .tc := ⟨.hbm, 459, rfl⟩
abbrev main_v348 : Ref sig .tc := ⟨.hbm, 460, rfl⟩
abbrev main_v349 : Ref sig .tc := ⟨.hbm, 461, rfl⟩
abbrev main_v350 : Ref sig .tc := ⟨.hbm, 462, rfl⟩
abbrev main_v351 : Ref sig .tc := ⟨.hbm, 463, rfl⟩
abbrev main_cst_74 : Ref sig .tc := ⟨.hbm, 464, rfl⟩
abbrev main_v352 : Ref sig .tc := ⟨.hbm, 465, rfl⟩
abbrev main_call30_v0 : Ref sig .tc := ⟨.hbm, 466, rfl⟩
abbrev main_v353 : Ref sig .tc := ⟨.hbm, 467, rfl⟩
abbrev main_v354 : Ref sig .tc := ⟨.hbm, 468, rfl⟩
abbrev main_v355 : Ref sig .tc := ⟨.hbm, 469, rfl⟩
abbrev main_v356 : Ref sig .tc := ⟨.hbm, 470, rfl⟩
abbrev main_v357 : Ref sig .tc := ⟨.hbm, 471, rfl⟩
abbrev main_v358 : Ref sig .tc := ⟨.hbm, 472, rfl⟩
abbrev main_v359 : Ref sig .tc := ⟨.hbm, 473, rfl⟩
abbrev main_v360 : Ref sig .tc := ⟨.hbm, 474, rfl⟩
abbrev main_v361 : Ref sig .tc := ⟨.hbm, 475, rfl⟩
abbrev main_v362 : Ref sig .tc := ⟨.hbm, 476, rfl⟩
abbrev main_cst_75 : Ref sig .tc := ⟨.hbm, 477, rfl⟩
abbrev main_v363 : Ref sig .tc := ⟨.hbm, 478, rfl⟩
abbrev main_v364 : Ref sig .tc := ⟨.hbm, 479, rfl⟩
abbrev main_cst_76 : Ref sig .tc := ⟨.hbm, 480, rfl⟩
abbrev main_v365 : Ref sig .tc := ⟨.hbm, 481, rfl⟩
abbrev main_v366 : Ref sig .tc := ⟨.hbm, 482, rfl⟩
abbrev main_v367 : Ref sig .tc := ⟨.hbm, 483, rfl⟩
abbrev main_v368 : Ref sig .tc := ⟨.hbm, 484, rfl⟩
abbrev main_v369 : Ref sig .tc := ⟨.hbm, 485, rfl⟩
abbrev main_v370 : Ref sig .tc := ⟨.hbm, 486, rfl⟩
abbrev main_v371 : Ref sig .tc := ⟨.hbm, 487, rfl⟩
abbrev main_cst_77 : Ref sig .tc := ⟨.hbm, 488, rfl⟩
abbrev main_v372 : Ref sig .tc := ⟨.hbm, 489, rfl⟩
abbrev main_v373 : Ref sig .tc := ⟨.hbm, 490, rfl⟩
abbrev main_v374 : Ref sig .tc := ⟨.hbm, 491, rfl⟩
abbrev main_cst_78 : Ref sig .tc := ⟨.hbm, 492, rfl⟩
abbrev main_v375 : Ref sig .tc := ⟨.hbm, 493, rfl⟩
abbrev main_v376 : Ref sig .tc := ⟨.hbm, 494, rfl⟩
abbrev main_v377 : Ref sig .tc := ⟨.hbm, 495, rfl⟩
abbrev main_cst_79 : Ref sig .tc := ⟨.hbm, 496, rfl⟩
abbrev main_call32_v0 : Ref sig .tc := ⟨.hbm, 497, rfl⟩
abbrev main_v378 : Ref sig .tc := ⟨.hbm, 498, rfl⟩
abbrev main_v379 : Ref sig .tc := ⟨.hbm, 499, rfl⟩
abbrev main_v380 : Ref sig .tc := ⟨.hbm, 500, rfl⟩
abbrev main_cst_80 : Ref sig .tc := ⟨.hbm, 501, rfl⟩
abbrev main_v381 : Ref sig .tc := ⟨.hbm, 502, rfl⟩
abbrev main_v382 : Ref sig .tc := ⟨.hbm, 503, rfl⟩
abbrev main_v383 : Ref sig .tc := ⟨.hbm, 504, rfl⟩
abbrev main_v384 : Ref sig .tc := ⟨.hbm, 505, rfl⟩
abbrev main_v385 : Ref sig .tc := ⟨.hbm, 506, rfl⟩
abbrev main_v386 : Ref sig .tc := ⟨.hbm, 507, rfl⟩
abbrev main_v387 : Ref sig .tc := ⟨.hbm, 508, rfl⟩
abbrev main_v388 : Ref sig .tc := ⟨.hbm, 509, rfl⟩
abbrev main_v389 : Ref sig .tc := ⟨.hbm, 510, rfl⟩
abbrev main_cst_81 : Ref sig .tc := ⟨.hbm, 511, rfl⟩
abbrev main_call34_v0 : Ref sig .tc := ⟨.hbm, 512, rfl⟩
abbrev main_v390 : Ref sig .tc := ⟨.hbm, 513, rfl⟩
abbrev main_v391 : Ref sig .tc := ⟨.hbm, 514, rfl⟩
abbrev main_v392 : Ref sig .tc := ⟨.hbm, 515, rfl⟩
abbrev main_v393 : Ref sig .tc := ⟨.hbm, 516, rfl⟩
abbrev main_v394 : Ref sig .tc := ⟨.hbm, 517, rfl⟩
abbrev main_v395 : Ref sig .tc := ⟨.hbm, 518, rfl⟩
abbrev main_v396 : Ref sig .tc := ⟨.hbm, 519, rfl⟩
abbrev main_v397 : Ref sig .tc := ⟨.hbm, 520, rfl⟩
abbrev main_v398 : Ref sig .tc := ⟨.hbm, 521, rfl⟩
abbrev main_v399 : Ref sig .tc := ⟨.hbm, 522, rfl⟩
abbrev main_v400 : Ref sig .tc := ⟨.hbm, 523, rfl⟩
abbrev main_cst_82 : Ref sig .tc := ⟨.hbm, 524, rfl⟩
abbrev main_v401 : Ref sig .tc := ⟨.hbm, 525, rfl⟩
abbrev main_call35_v0 : Ref sig .tc := ⟨.hbm, 526, rfl⟩
abbrev main_v402 : Ref sig .tc := ⟨.hbm, 527, rfl⟩
abbrev main_v403 : Ref sig .tc := ⟨.hbm, 528, rfl⟩
abbrev main_v404 : Ref sig .tc := ⟨.hbm, 529, rfl⟩
abbrev main_v405 : Ref sig .tc := ⟨.hbm, 530, rfl⟩
abbrev main_v406 : Ref sig .tc := ⟨.hbm, 531, rfl⟩
abbrev main_v407 : Ref sig .tc := ⟨.hbm, 532, rfl⟩
abbrev main_v408 : Ref sig .tc := ⟨.hbm, 533, rfl⟩
abbrev main_v409 : Ref sig .tc := ⟨.hbm, 534, rfl⟩
abbrev main_v410 : Ref sig .tc := ⟨.hbm, 535, rfl⟩
abbrev main_v411 : Ref sig .tc := ⟨.hbm, 536, rfl⟩
abbrev main_v412 : Ref sig .tc := ⟨.hbm, 537, rfl⟩
abbrev main_v413 : Ref sig .tc := ⟨.hbm, 538, rfl⟩
abbrev main_v414 : Ref sig .tc := ⟨.hbm, 539, rfl⟩
abbrev main_v415 : Ref sig .tc := ⟨.hbm, 540, rfl⟩
abbrev main_v416 : Ref sig .tc := ⟨.hbm, 541, rfl⟩
abbrev main_v417 : Ref sig .tc := ⟨.hbm, 542, rfl⟩
abbrev main_v418 : Ref sig .tc := ⟨.hbm, 543, rfl⟩
abbrev main_v419 : Ref sig .tc := ⟨.hbm, 544, rfl⟩
abbrev main_v420 : Ref sig .tc := ⟨.hbm, 545, rfl⟩
abbrev main_v421 : Ref sig .tc := ⟨.hbm, 546, rfl⟩
abbrev main_call36_call0_c : Ref sig .tc := ⟨.hbm, 547, rfl⟩
abbrev main_call36_call0_v0 : Ref sig .tc := ⟨.hbm, 548, rfl⟩
abbrev main_v422 : Ref sig .tc := ⟨.hbm, 549, rfl⟩
abbrev main_c_83 : Ref sig .tc := ⟨.hbm, 550, rfl⟩
abbrev main_v423 : Ref sig .tc := ⟨.hbm, 551, rfl⟩
abbrev main_v424 : Ref sig .tc := ⟨.hbm, 552, rfl⟩
abbrev main_c_84 : Ref sig .tc := ⟨.hbm, 553, rfl⟩
abbrev main_v425 : Ref sig .tc := ⟨.hbm, 554, rfl⟩
abbrev main_v426 : Ref sig .tc := ⟨.hbm, 555, rfl⟩
abbrev main_v427 : Ref sig .tc := ⟨.hbm, 556, rfl⟩
abbrev main_c_85 : Ref sig .tc := ⟨.hbm, 557, rfl⟩
abbrev main_v428 : Ref sig .tc := ⟨.hbm, 558, rfl⟩
abbrev main_v429 : Ref sig .tc := ⟨.hbm, 559, rfl⟩
abbrev main_v430 : Ref sig .tc := ⟨.hbm, 560, rfl⟩
abbrev main_v431 : Ref sig .tc := ⟨.hbm, 561, rfl⟩
abbrev main_cst_86 : Ref sig .tc := ⟨.hbm, 562, rfl⟩
abbrev main_v432 : Ref sig .tc := ⟨.hbm, 563, rfl⟩
abbrev main_v433 : Ref sig .tc := ⟨.hbm, 564, rfl⟩
abbrev main_cst_87 : Ref sig .tc := ⟨.hbm, 565, rfl⟩
abbrev main_v434 : Ref sig .tc := ⟨.hbm, 566, rfl⟩
abbrev main_c_88 : Ref sig .tc := ⟨.hbm, 567, rfl⟩
abbrev main_v435 : Ref sig .tc := ⟨.hbm, 568, rfl⟩
abbrev main_v436 : Ref sig .tc := ⟨.hbm, 569, rfl⟩
abbrev main_c_89 : Ref sig .tc := ⟨.hbm, 570, rfl⟩
abbrev main_v437 : Ref sig .tc := ⟨.hbm, 571, rfl⟩
abbrev main_v438 : Ref sig .tc := ⟨.hbm, 572, rfl⟩
abbrev main_v439 : Ref sig .tc := ⟨.hbm, 573, rfl⟩
abbrev main_c_90 : Ref sig .tc := ⟨.hbm, 574, rfl⟩
abbrev main_v440 : Ref sig .tc := ⟨.hbm, 575, rfl⟩
abbrev main_v441 : Ref sig .tc := ⟨.hbm, 576, rfl⟩
abbrev main_c_91 : Ref sig .tc := ⟨.hbm, 577, rfl⟩
abbrev main_v442 : Ref sig .tc := ⟨.hbm, 578, rfl⟩
abbrev main_v443 : Ref sig .tc := ⟨.hbm, 579, rfl⟩
abbrev main_v444 : Ref sig .tc := ⟨.hbm, 580, rfl⟩
abbrev main_v445 : Ref sig .tc := ⟨.hbm, 581, rfl⟩
abbrev main_v446 : Ref sig .tc := ⟨.hbm, 582, rfl⟩
abbrev main_v447 : Ref sig .tc := ⟨.hbm, 583, rfl⟩
abbrev main_v448 : Ref sig .tc := ⟨.hbm, 584, rfl⟩
abbrev main_v449 : Ref sig .tc := ⟨.hbm, 585, rfl⟩
abbrev main_v450 : Ref sig .tc := ⟨.hbm, 586, rfl⟩
abbrev main_cst_92 : Ref sig .tc := ⟨.hbm, 587, rfl⟩
abbrev main_v451 : Ref sig .tc := ⟨.hbm, 588, rfl⟩
abbrev main_call39_v0 : Ref sig .tc := ⟨.hbm, 589, rfl⟩
abbrev main_v452 : Ref sig .tc := ⟨.hbm, 590, rfl⟩
abbrev main_cst_93 : Ref sig .tc := ⟨.hbm, 591, rfl⟩
abbrev main_v453 : Ref sig .tc := ⟨.hbm, 592, rfl⟩
abbrev main_c_94 : Ref sig .tc := ⟨.hbm, 593, rfl⟩
abbrev main_v454 : Ref sig .tc := ⟨.hbm, 594, rfl⟩
abbrev main_v455 : Ref sig .tc := ⟨.hbm, 595, rfl⟩
abbrev main_c_95 : Ref sig .tc := ⟨.hbm, 596, rfl⟩
abbrev main_v456 : Ref sig .tc := ⟨.hbm, 597, rfl⟩
abbrev main_v457 : Ref sig .tc := ⟨.hbm, 598, rfl⟩
abbrev main_v458 : Ref sig .tc := ⟨.hbm, 599, rfl⟩
abbrev main_c_96 : Ref sig .tc := ⟨.hbm, 600, rfl⟩
abbrev main_v459 : Ref sig .tc := ⟨.hbm, 601, rfl⟩
abbrev main_v460 : Ref sig .tc := ⟨.hbm, 602, rfl⟩
abbrev main_c_97 : Ref sig .tc := ⟨.hbm, 603, rfl⟩
abbrev main_v461 : Ref sig .tc := ⟨.hbm, 604, rfl⟩
abbrev main_v462 : Ref sig .tc := ⟨.hbm, 605, rfl⟩
abbrev main_v463 : Ref sig .tc := ⟨.hbm, 606, rfl⟩
abbrev main_v464 : Ref sig .tc := ⟨.hbm, 607, rfl⟩
abbrev main_v465 : Ref sig .tc := ⟨.hbm, 608, rfl⟩
abbrev main_v466 : Ref sig .tc := ⟨.hbm, 609, rfl⟩
abbrev main_v467 : Ref sig .tc := ⟨.hbm, 610, rfl⟩
abbrev main_v468 : Ref sig .tc := ⟨.hbm, 611, rfl⟩
abbrev main_c_98 : Ref sig .tc := ⟨.hbm, 612, rfl⟩
abbrev main_v469 : Ref sig .tc := ⟨.hbm, 613, rfl⟩
abbrev main_v470 : Ref sig .tc := ⟨.hbm, 614, rfl⟩
abbrev main_c_99 : Ref sig .tc := ⟨.hbm, 615, rfl⟩
abbrev main_v471 : Ref sig .tc := ⟨.hbm, 616, rfl⟩
abbrev main_v472 : Ref sig .tc := ⟨.hbm, 617, rfl⟩
abbrev main_c_100 : Ref sig .tc := ⟨.hbm, 618, rfl⟩
abbrev main_v473 : Ref sig .tc := ⟨.hbm, 619, rfl⟩
abbrev main_v474 : Ref sig .tc := ⟨.hbm, 620, rfl⟩
abbrev main_v475 : Ref sig .tc := ⟨.hbm, 621, rfl⟩
abbrev main_c_101 : Ref sig .tc := ⟨.hbm, 622, rfl⟩
abbrev main_v476 : Ref sig .tc := ⟨.hbm, 623, rfl⟩
abbrev main_v477 : Ref sig .tc := ⟨.hbm, 624, rfl⟩
abbrev main_c_102 : Ref sig .tc := ⟨.hbm, 625, rfl⟩
abbrev main_v478 : Ref sig .tc := ⟨.hbm, 626, rfl⟩
abbrev main_v479 : Ref sig .tc := ⟨.hbm, 627, rfl⟩
abbrev main_v480 : Ref sig .tc := ⟨.hbm, 628, rfl⟩
abbrev main_v481 : Ref sig .tc := ⟨.hbm, 629, rfl⟩
abbrev main_v482 : Ref sig .tc := ⟨.hbm, 630, rfl⟩
abbrev main_v483 : Ref sig .tc := ⟨.hbm, 631, rfl⟩
abbrev main_v484 : Ref sig .tc := ⟨.hbm, 632, rfl⟩
abbrev main_v485 : Ref sig .tc := ⟨.hbm, 633, rfl⟩
abbrev main_c_103 : Ref sig .tc := ⟨.hbm, 634, rfl⟩
abbrev main_v486 : Ref sig .tc := ⟨.hbm, 635, rfl⟩
abbrev main_v487 : Ref sig .tc := ⟨.hbm, 636, rfl⟩
abbrev main_cst_104 : Ref sig .tc := ⟨.hbm, 637, rfl⟩
abbrev main_call40_v0 : Ref sig .tc := ⟨.hbm, 638, rfl⟩
abbrev main_v488 : Ref sig .tc := ⟨.hbm, 639, rfl⟩
abbrev main_v489 : Ref sig .tc := ⟨.hbm, 640, rfl⟩
abbrev main_cst_105 : Ref sig .tc := ⟨.hbm, 641, rfl⟩
abbrev main_v490 : Ref sig .tc := ⟨.hbm, 642, rfl⟩
abbrev main_call41_v0 : Ref sig .tc := ⟨.hbm, 643, rfl⟩
abbrev main_v491 : Ref sig .tc := ⟨.hbm, 644, rfl⟩
abbrev main_v492 : Ref sig .tc := ⟨.hbm, 645, rfl⟩
abbrev main_call42_cst : Ref sig .tc := ⟨.hbm, 646, rfl⟩
abbrev main_call42_v0 : Ref sig .tc := ⟨.hbm, 647, rfl⟩
abbrev main_v493 : Ref sig .tc := ⟨.hbm, 648, rfl⟩
abbrev main_cst_106 : Ref sig .tc := ⟨.hbm, 649, rfl⟩
abbrev main_v494 : Ref sig .tc := ⟨.hbm, 650, rfl⟩
abbrev main_call43_v0 : Ref sig .tc := ⟨.hbm, 651, rfl⟩
abbrev main_v495 : Ref sig .tc := ⟨.hbm, 652, rfl⟩
abbrev main_v496 : Ref sig .tc := ⟨.hbm, 653, rfl⟩
abbrev main_v497 : Ref sig .tc := ⟨.hbm, 654, rfl⟩
abbrev main_v498 : Ref sig .tc := ⟨.hbm, 655, rfl⟩
abbrev main_v499 : Ref sig .tc := ⟨.hbm, 656, rfl⟩
abbrev main_v500 : Ref sig .tc := ⟨.hbm, 657, rfl⟩
abbrev main_v501 : Ref sig .tc := ⟨.hbm, 658, rfl⟩
abbrev main_cst_107 : Ref sig .tc := ⟨.hbm, 659, rfl⟩
abbrev main_v502 : Ref sig .tc := ⟨.hbm, 660, rfl⟩
abbrev main_v503 : Ref sig .tc := ⟨.hbm, 661, rfl⟩

abbrev nD : Nat := 1
abbrev τ : Topo := Topo.v7x

variable {F : FTy → Type} [FloatOps F]
-- ==== Proof.OrdStat.lean ====
/- Order statistics of finitely many extended reals: the `c`-th smallest value of a family, as the number that has at
   most `c` members strictly below it and more than `c` members at or below it; and the repeated "smallest value above
   the last one" search that finds the first four of them. -/
module

public import Idealize.ShloMosaic.Lib.Pointwise

@[expose] public section

noncomputable section

namespace Cert.Proof

open Finset

variable {N : ℕ}

/-- The number of members of the family strictly below `x`. -/
def below (f : Fin N → EReal) (x : EReal) : ℕ := (univ.filter fun h => f h < x).card

/-- The number of members of the family at or below `x`. -/
def upTo (f : Fin N → EReal) (x : EReal) : ℕ := (univ.filter fun h => f h ≤ x).card

/-- The number of members of the family equal to `x`. -/
def hits (f : Fin N → EReal) (x : EReal) : ℕ := (univ.filter fun h => f h = x).card

/-- `x` is the `c`-th smallest member of the family, counting from zero and counting repetitions. -/
def IsStat (f : Fin N → EReal) (c : ℕ) (x : EReal) : Prop :=
  (∃ h, f h = x) ∧ below f x ≤ c ∧ c < upTo f x

/-- Members at or below `x` are strictly below anything larger. -/
theorem upTo_le_below (f : Fin N → EReal) {x y : EReal} (h : x < y) : upTo f x ≤ below f y :=
  card_le_card fun a ha => by
    simp only [mem_filter, mem_univ, true_and] at ha ⊢
    exact lt_of_le_of_lt ha h

/-- The `c`-th smallest member is at most the `d`-th smallest for `c ≤ d`. -/
theorem IsStat.mono {f : Fin N → EReal} {c d : ℕ} {x y : EReal} (hx : IsStat f c x) (hy : IsStat f d y) (h : c ≤ d) :
    x ≤ y := by
  by_contra hlt
  have := upTo_le_below f (not_le.mp hlt)
  have h1 := hx.2.1
  have h2 := hy.2.2
  omega

/-- The `c`-th smallest member is one number. -/
theorem IsStat.unique {f : Fin N → EReal} {c : ℕ} {x y : EReal} (hx : IsStat f c x) (hy : IsStat f c y) : x = y :=
  le_antisymm (hx.mono hy le_rfl) (hy.mono hx le_rfl)

open Classical in
/-- The `c`-th smallest member of the family, where it exists. -/
def stat (f : Fin N → EReal) (c : ℕ) : EReal := if h : ∃ x, IsStat f c x then h.choose else 0

/-- The `c`-th smallest member is whatever has its defining property. -/
theorem stat_eq {f : Fin N → EReal} {c : ℕ} {x : EReal} (h : IsStat f c x) : stat f c = x := by
  have he : ∃ x, IsStat f c x := ⟨x, h⟩
  unfold stat
  rw [dif_pos he]
  exact he.choose_spec.unique h

/-- The members above `a`, the others replaced by `B`. -/
def above (B a : EReal) (f : Fin N → EReal) : Fin N → EReal := fun h => if a < f h then f h else B

/-- The smallest member. -/
def least (f : Fin N → EReal) : EReal := univ.fold min ⊤ f

theorem least_le (f : Fin N → EReal) (h : Fin N) : least f ≤ f h := by
  unfold least
  exact (fold_min_le (f h)).mpr (Or.inr ⟨h, mem_univ h, le_rfl⟩)

theorem le_least {f : Fin N → EReal} {b : EReal} (hb : ∀ h, b ≤ f h) : b ≤ least f := by
  unfold least
  exact (le_fold_min b).mpr ⟨le_top, fun h _ => hb h⟩

/-- The smallest member is a member, there being one. -/
theorem exists_least (f : Fin N → EReal) (h0 : Fin N) : ∃ h, f h = least f := by
  obtain ⟨h, -, hh⟩ := exists_min_image univ f ⟨h0, mem_univ h0⟩
  exact ⟨h, le_antisymm (le_least fun a => hh a (mem_univ a)) (least_le f h)⟩

theorem upTo_eq (f : Fin N → EReal) (x : EReal) : upTo f x = below f x + hits f x := by
  unfold upTo below hits
  rw [← card_union_of_disjoint]
  · congr 1
    ext a
    simp only [mem_filter, mem_univ, true_and, mem_union]
    exact le_iff_lt_or_eq
  · rw [disjoint_filter]
    intro a _ h1 h2
    exact absurd h2 h1.ne

/-- The smallest member has nothing below it. -/
theorem below_least (f : Fin N → EReal) : below f (least f) = 0 := by
  unfold below
  rw [card_eq_zero, filter_eq_empty_iff]
  intro h _
  exact not_lt.mpr (least_le f h)

/-- A member is hit. -/
theorem hits_pos {f : Fin N → EReal} {x : EReal} (h : ∃ h, f h = x) : 0 < hits f x := by
  obtain ⟨h, hh⟩ := h
  exact card_pos.mpr ⟨h, by simp [hh]⟩

/-- One step of the search: where not every member is at or below `a`, the smallest value of the members above `a` (the
    others raised to a bound `B` of all members) is a member, has exactly the members at or below `a` below it, and
    discarding up to it after discarding up to `a` is discarding up to it. -/
theorem next_least {f : Fin N → EReal} {B a : EReal} (hB : ∀ h, f h ≤ B) (hlt : upTo f a < N) :
    (∃ h, f h = least (above B a f)) ∧ below f (least (above B a f)) = upTo f a
      ∧ above B (least (above B a f)) (above B a f) = above B (least (above B a f)) f := by
  have hex : ∃ h0, a < f h0 := by
    by_contra hno
    push Not at hno
    have : upTo f a = N := by
      unfold upTo
      rw [filter_true_of_mem fun h _ => hno h]; simp
    omega
  obtain ⟨h0, hh0⟩ := hex
  obtain ⟨h1, hmem, hm⟩ := exists_min_image (univ.filter fun h => a < f h) f ⟨h0, by simp [hh0]⟩
  have h1' : a < f h1 := by simpa using hmem
  have hle : least (above B a f) = f h1 := by
    apply le_antisymm
    · have := least_le (above B a f) h1
      unfold above at this ⊢
      rwa [if_pos h1'] at this
    · apply le_least
      intro h
      unfold above
      split
      · exact hm h (by simpa)
      · exact hB h1
  rw [hle]
  refine ⟨⟨h1, rfl⟩, ?_, ?_⟩
  · unfold below upTo
    congr 1
    ext h
    simp only [mem_filter, mem_univ, true_and]
    constructor
    · intro hlt'
      by_contra hc
      exact absurd (hm h (by simpa using hc)) (not_le.mpr hlt')
    · intro h'
      exact lt_of_le_of_lt h' h1'
  · funext h
    unfold above
    by_cases ha : a < f h
    · rw [if_pos ha]
    · rw [if_neg ha]
      have : ¬ f h1 < f h := fun hc => ha (h1'.trans hc)
      rw [if_neg this]
      simp

/-- The four smallest members by the search: `m₁` the smallest, each next one the smallest above the last, and the
    `c`-th smallest chosen by how many members are at or below each. -/
def pick (B : EReal) (f : Fin N → EReal) (c : ℕ) : EReal :=
  if c < hits f (least f) then least f
  else if c < hits f (least f) + hits f (least (above B (least f) f)) then least (above B (least f) f)
  else if c < hits f (least f) + hits f (least (above B (least f) f))
      + hits f (least (above B (least (above B (least f) f)) (above B (least f) f))) then
    least (above B (least (above B (least f) f)) (above B (least f) f))
  else least (above B (least (above B (least (above B (least f) f)) (above B (least f) f)))
    (above B (least (above B (least f) f)) (above B (least f) f)))

/-- The search finds the order statistics `0`, `1`, `2` and `3` of a family of at least four members. -/
theorem pick_isStat {f : Fin N → EReal} {B : EReal} (hB : ∀ h, f h ≤ B) (hN : 4 ≤ N) {c : ℕ} (hc : c < 4) :
    IsStat f c (pick B f c) := by
  have h0 := below_least f
  have u0 := upTo_eq f (least f)
  have e0 := exists_least f ⟨0, by omega⟩
  unfold pick
  split
  · rename_i h
    exact ⟨e0, by omega, by omega⟩
  rename_i h
  obtain ⟨e1, b1, a1⟩ := next_least (a := least f) hB (by omega)
  have u1 := upTo_eq f (least (above B (least f) f))
  split
  · rename_i h'
    exact ⟨e1, by omega, by omega⟩
  rename_i h'
  obtain ⟨e2, b2, a2⟩ := next_least (a := least (above B (least f) f)) hB (by omega)
  rw [a1]
  have u2 := upTo_eq f (least (above B (least (above B (least f) f)) f))
  split
  · rename_i h''
    exact ⟨e2, by omega, by omega⟩
  rename_i h''
  obtain ⟨e3, b3, a3⟩ := next_least (a := least (above B (least (above B (least f) f)) f)) hB (by omega)
  rw [a2]
  refine ⟨e3, by omega, ?_⟩
  have u3 := upTo_eq f (least (above B (least (above B (least (above B (least f) f)) f)) f))
  have p0 := hits_pos e0
  have p1 := hits_pos e1
  have p2 := hits_pos e2
  have p3 := hits_pos e3
  omega

/-- The search computes `stat`. -/
theorem stat_eq_pick {f : Fin N → EReal} {B : EReal} (hB : ∀ h, f h ≤ B) (hN : 4 ≤ N) {c : ℕ} (hc : c < 4) :
    stat f c = pick B f c := stat_eq (pick_isStat hB hN hc)

/-- The first four order statistics exist. -/
theorem stat_isStat {f : Fin N → EReal} {B : EReal} (hB : ∀ h, f h ≤ B) (hN : 4 ≤ N) {c : ℕ} (hc : c < 4) :
    IsStat f c (stat f c) := (stat_eq_pick hB hN hc) ▸ pick_isStat hB hN hc

end Cert.Proof
-- ==== Proof.Model.lean ====
/- One ray through the network, as the mathematics both programs compute: a list of knots — a position on the ray and a
   feature vector at each — into which every layer inserts the zero crossings of its features between neighbouring
   knots, at most four per gap. -/
module

public import proofs.«01_k».proof.Proof.OrdStat

@[expose] public section

noncomputable section

namespace Cert.Proof

open Finset Idealize.ShloMosaic

/-- The tolerance of the crossing test. -/
def eps : EReal := Ideal.ofBits .f32 0x358637BD#32
/-- One minus the tolerance, rounded to a float. -/
def upper : EReal := Ideal.ofBits .f32 0x3F7FFFEF#32
/-- The value that stands for "no crossing". -/
def big : EReal := Ideal.ofBits .f32 0x41200000#32
/-- The kernel's threshold between a crossing and none. -/
def nine : EReal := Ideal.ofBits .f32 0x41100000#32

theorem upper_lt_nine : upper < nine := by
  unfold upper nine
  simp [Ideal.ofBits, Ideal.ieee, -EReal.coe_mul]
  norm_num

theorem nine_lt_big : nine < big := by
  unfold nine big
  simp [Ideal.ofBits, Ideal.ieee, -EReal.coe_mul]
  norm_num

theorem upper_lt_big : upper < big := upper_lt_nine.trans nine_lt_big

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem isReal_zero : IsReal 0 := ⟨0, EReal.coe_zero.symm⟩

theorem isReal_one : IsReal 1 := ⟨1, EReal.coe_one.symm⟩

theorem IsReal.max {x y : EReal} (hx : IsReal x) (hy : IsReal y) : IsReal (Max.max x y) := by
  rcases max_cases x y with h | h <;> rw [h.1] <;> assumption

theorem IsReal.sum {ι : Type} {s : Finset ι} {f : ι → EReal} (h : ∀ i ∈ s, IsReal (f i)) : IsReal (∑ i ∈ s, f i) := by
  classical
  induction s using Finset.induction_on with
  | empty => simpa using isReal_zero
  | insert a s ha ih =>
    rw [sum_insert ha]
    exact (h a (mem_insert_self a s)).add (ih fun i hi => h i (mem_insert_of_mem hi))

/-- A real number plus the two zero remainders of its split into itself is itself. -/
theorem split_eq {x : EReal} (hx : IsReal x) : x - x = 0 := by
  obtain ⟨a, rfl⟩ := hx
  rw [← EReal.coe_sub, sub_self, EReal.coe_zero]

theorem isReal_between {a x b : EReal} (h : a < x) (h' : x < b) : IsReal x := by
  induction x using EReal.rec with
  | bot => exact absurd h not_lt_bot
  | coe r => exact ⟨r, rfl⟩
  | top => exact absurd h' not_top_lt

theorem isReal_big : IsReal big := by
  unfold big
  simp [Ideal.ofBits, Ideal.ieee, -EReal.coe_mul]
  exact ⟨_, rfl⟩

/-- A ray: the number of its knots, and the position and the features at each; past the last knot the position is one
    and the features are zero. -/
structure Ray where
  n : ℕ
  t : ℕ → EReal
  z : ℕ → Fin 256 → EReal

namespace Ray

variable (ρ : Ray)

/-- The change of feature `h` over gap `i`. -/
def dz (i : ℕ) (h : Fin 256) : EReal := ρ.z (i + 1) h - ρ.z i h

/-- Feature `h` changes by more than the tolerance over gap `i`. -/
def Steep (i : ℕ) (h : Fin 256) : Prop := eps < max (ρ.dz i h) (-(ρ.dz i h))

open Classical in
/-- Where in gap `i` feature `h` crosses zero, as a fraction of the gap. -/
def ratio (i : ℕ) (h : Fin 256) : EReal := Ideal.div (-(ρ.z i h)) (if ρ.Steep i h then ρ.dz i h else 1)

/-- Feature `h` has a zero strictly inside gap `i`. -/
def Crosses (i : ℕ) (h : Fin 256) : Prop :=
  ((i + 1 < ρ.n ∧ ρ.Steep i h) ∧ eps < ρ.ratio i h) ∧ ρ.ratio i h < upper

open Classical in
/-- The crossing of feature `h` in gap `i`, or `big`. -/
def key (i : ℕ) (h : Fin 256) : EReal := if ρ.Crosses i h then ρ.ratio i h else big

/-- The `c`-th smallest crossing in gap `i`. -/
def cand (i c : ℕ) : EReal := stat (ρ.key i) c

open Classical in
/-- The number of knots gap `i` gains: the crossings among its four smallest candidates. -/
def mult (i : ℕ) : ℕ := ((range 4).filter fun c => ρ.cand i c < big).card

/-- Where old knot `i` goes. -/
def pos (i : ℕ) : ℕ := i + ∑ k ∈ range i, ρ.mult k

/-- The number of knots after the insertion, uncapped. -/
def total : ℕ := ρ.n + ∑ k ∈ range ρ.n, ρ.mult k

/-- The old knot at or before new knot `j`. -/
def left (j : ℕ) : ℕ := ((range ρ.n).filter fun i => ρ.pos i ≤ j).card - 1

/-- How far after it new knot `j` stands. -/
def off (j : ℕ) : ℕ := j - ρ.pos (ρ.left j)

/-- Where in its gap new knot `j` lies. -/
def frac (j : ℕ) : EReal := if ρ.off j = 0 then 0 else ρ.cand (ρ.left j) (ρ.off j - 1)

/-- The ray with the crossings inserted, cut to 64 knots. -/
def next : Ray where
  n := min ρ.total 64
  t j := if j < min ρ.total 64 then
      ρ.t (ρ.left j) + ρ.frac j * (ρ.t (ρ.left j + 1) - ρ.t (ρ.left j)) else 1
  z j h := if j < min ρ.total 64 then
      ρ.z (ρ.left j) h + ρ.frac j * (ρ.z (ρ.left j + 1) h - ρ.z (ρ.left j) h) else 0

variable {ρ}

theorem key_le (i : ℕ) (h : Fin 256) : ρ.key i h ≤ big := by
  unfold key
  split
  · rename_i hc
    exact (hc.2.trans upper_lt_big).le
  · exact le_rfl

theorem cand_isStat (i : ℕ) {c : ℕ} (hc : c < 4) : IsStat (ρ.key i) c (ρ.cand i c) :=
  stat_isStat (key_le i) (by norm_num) hc

/-- A candidate is one of the gap's values. -/
theorem cand_mem (i : ℕ) {c : ℕ} (hc : c < 4) : ∃ h, ρ.key i h = ρ.cand i c := (cand_isStat i hc).1

theorem cand_mono (i : ℕ) {c d : ℕ} (h : c ≤ d) (hd : d < 4) : ρ.cand i c ≤ ρ.cand i d :=
  (cand_isStat i (by omega)).mono (cand_isStat i hd) h

/-- A candidate is below the kernel's threshold exactly when it is a crossing. -/
theorem cand_lt_nine (i : ℕ) {c : ℕ} (hc : c < 4) : ρ.cand i c < nine ↔ ρ.cand i c < big := by
  obtain ⟨h, hh⟩ := cand_mem (ρ := ρ) i hc
  rw [← hh]
  unfold key
  split
  · rename_i hx
    exact ⟨fun h => h.trans nine_lt_big, fun _ => hx.2.trans upper_lt_nine⟩
  · exact ⟨fun h => absurd h (not_lt.mpr nine_lt_big.le), fun h => absurd h (lt_irrefl _)⟩

theorem mult_le (i : ℕ) : ρ.mult i ≤ 4 := by
  unfold mult
  exact (card_filter_le _ _).trans (by simp)

/-- The crossings are the first candidates. -/
theorem cand_lt_iff (i : ℕ) {c : ℕ} (hc : c < 4) : ρ.cand i c < big ↔ c < ρ.mult i := by
  classical
  constructor
  · intro h
    have : range (c + 1) ⊆ (range 4).filter fun c => ρ.cand i c < big := fun d hd => by
      simp only [mem_range, mem_filter] at hd ⊢
      exact ⟨by omega, lt_of_le_of_lt (cand_mono i (by omega) hc) h⟩
    have := card_le_card this
    rw [card_range] at this
    unfold mult
    convert Nat.lt_of_succ_le this using 1
  · intro h
    by_contra hn
    have : ((range 4).filter fun c => ρ.cand i c < big) ⊆ range c := fun d hd => by
      simp only [mem_range, mem_filter] at hd ⊢
      by_contra hcd
      exact hn (lt_of_le_of_lt (cand_mono i (by omega) hd.1) hd.2)
    have := card_le_card this
    rw [card_range] at this
    unfold mult at h
    have e : ∀ (a b : ℕ), a ≤ b → b < a → False := fun a b h1 h2 => by omega
    exact e _ _ this (by convert h using 1)

/-- The gap after the last knot, and those beyond, gain nothing. -/
theorem mult_last {i : ℕ} (h : ρ.n ≤ i + 1) : ρ.mult i = 0 := by
  by_contra hne
  have h0 : ρ.cand i 0 < big := (cand_lt_iff i (by norm_num)).mpr (by omega)
  obtain ⟨f, hf⟩ := cand_mem (ρ := ρ) i (c := 0) (by norm_num)
  rw [← hf] at h0
  unfold key at h0
  rw [if_neg (fun hc => by have := hc.1.1.1; omega)] at h0
  exact lt_irrefl _ h0

theorem pos_succ (i : ℕ) : ρ.pos (i + 1) = ρ.pos i + 1 + ρ.mult i := by
  unfold pos
  rw [sum_range_succ]
  omega

theorem pos_zero : ρ.pos 0 = 0 := by simp [pos]

theorem pos_strictMono : StrictMono ρ.pos := strictMono_nat_of_lt_succ fun i => by rw [pos_succ]; omega

theorem total_eq : ρ.total = ρ.pos ρ.n := rfl

/-- The old knots at or before new knot `j` are the first ones. -/
theorem left_iff (hn : 1 ≤ ρ.n) (j i : ℕ) : (i < ρ.n ∧ ρ.pos i ≤ j) ↔ i < ρ.left j + 1 := by
  have hmem : 0 ∈ (range ρ.n).filter fun i => ρ.pos i ≤ j := by
    simp only [mem_filter, mem_range, pos_zero]
    omega
  have hc : 0 < ((range ρ.n).filter fun i => ρ.pos i ≤ j).card := card_pos.mpr ⟨0, hmem⟩
  have he : ρ.left j + 1 = ((range ρ.n).filter fun i => ρ.pos i ≤ j).card := by unfold left; omega
  rw [he]
  constructor
  · rintro ⟨h1, h2⟩
    have : range (i + 1) ⊆ (range ρ.n).filter fun i => ρ.pos i ≤ j := fun d hd => by
      simp only [mem_range, mem_filter] at hd ⊢
      exact ⟨by omega, (pos_strictMono.monotone (by omega : d ≤ i)).trans h2⟩
    have := card_le_card this
    rw [card_range] at this
    omega
  · intro h
    by_contra hn'
    have : ((range ρ.n).filter fun i => ρ.pos i ≤ j) ⊆ range i := fun d hd => by
      simp only [mem_range, mem_filter] at hd ⊢
      by_contra hcd
      exact hn' ⟨by omega, (pos_strictMono.monotone (by omega : i ≤ d)).trans hd.2⟩
    have := card_le_card this
    rw [card_range] at this
    omega

theorem left_lt (hn : 1 ≤ ρ.n) (j : ℕ) : ρ.left j < ρ.n := ((left_iff hn j _).mpr (Nat.lt_succ_self _)).1

theorem pos_left_le (hn : 1 ≤ ρ.n) (j : ℕ) : ρ.pos (ρ.left j) ≤ j := ((left_iff hn j _).mpr (Nat.lt_succ_self _)).2

theorem lt_pos_left (hn : 1 ≤ ρ.n) {j : ℕ} (hj : j < ρ.total) : j < ρ.pos (ρ.left j + 1) := by
  by_contra hle
  rcases Nat.lt_or_ge (ρ.left j + 1) ρ.n with h | h
  · exact absurd ((left_iff hn j _).mp ⟨h, not_lt.mp hle⟩) (lt_irrefl _)
  · have := left_lt hn j
    have e : ρ.left j + 1 = ρ.n := by omega
    rw [e, ← total_eq] at hle
    omega

/-- The old knot before new knot `j` is the only one whose place and gained knots hold `j`. -/
theorem left_unique (hn : 1 ≤ ρ.n) {j i : ℕ} (hi : i < ρ.n) (h1 : ρ.pos i ≤ j) (h2 : j < ρ.pos (i + 1)) : ρ.left j = i := by
  have a := (left_iff hn j i).mp ⟨hi, h1⟩
  by_contra hne
  have b : ρ.pos (i + 1) ≤ ρ.pos (ρ.left j) := pos_strictMono.monotone (by omega)
  have := pos_left_le hn j
  omega

theorem off_le (hn : 1 ≤ ρ.n) {j : ℕ} (hj : j < ρ.total) : ρ.off j ≤ ρ.mult (ρ.left j) := by
  have h1 := lt_pos_left hn hj
  rw [pos_succ] at h1
  unfold off
  omega

theorem off_eq (hn : 1 ≤ ρ.n) (j : ℕ) : j = ρ.pos (ρ.left j) + ρ.off j := by
  have := pos_left_le hn j
  unfold off
  omega

theorem n_le_total : ρ.n ≤ ρ.total := Nat.le_add_right _ _

theorem total_le (hn : 1 ≤ ρ.n) : ρ.total ≤ 5 * ρ.n - 4 := by
  have key : ∀ k, k < ρ.n → ρ.pos k ≤ 5 * k := fun k => by
    induction k with
    | zero => intro _; rw [pos_zero]
    | succ k ih =>
      intro hk
      have := ih (by omega)
      have m := mult_le (ρ := ρ) k
      rw [pos_succ]
      omega
  have h1 := key (ρ.n - 1) (by omega)
  have h2 := pos_succ (ρ := ρ) (ρ.n - 1)
  rw [mult_last (by omega : ρ.n ≤ ρ.n - 1 + 1), show ρ.n - 1 + 1 = ρ.n by omega] at h2
  rw [total_eq]
  omega

theorem next_n_le (hn : 1 ≤ ρ.n) : ρ.next.n ≤ 5 * ρ.n - 4 := (min_le_left _ _).trans (total_le hn)

theorem one_le_next (hn : 1 ≤ ρ.n) : 1 ≤ ρ.next.n := le_min (hn.trans n_le_total) (by norm_num)

variable (ρ)

/-- All positions and features of the ray are real numbers. -/
def Real : Prop := (∀ i, IsReal (ρ.t i)) ∧ ∀ i h, IsReal (ρ.z i h)

variable {ρ}

theorem isReal_key (i : ℕ) (h : Fin 256) : IsReal (ρ.key i h) := by
  unfold key
  split
  · rename_i hc
    exact isReal_between hc.1.2 hc.2
  · exact isReal_big

theorem isReal_frac (hn : 1 ≤ ρ.n) {j : ℕ} (hj : j < ρ.total) : IsReal (ρ.frac j) := by
  unfold frac
  split
  · exact isReal_zero
  · have h1 := off_le hn hj
    have h2 := mult_le (ρ := ρ) (ρ.left j)
    obtain ⟨h, hh⟩ := cand_mem (ρ := ρ) (ρ.left j) (c := ρ.off j - 1) (by omega)
    rw [← hh]
    exact isReal_key _ _

/-- Inserting crossings keeps the numbers real. -/
theorem Real.next (hn : 1 ≤ ρ.n) (hr : ρ.Real) : ρ.next.Real := by
  constructor
  · intro j
    unfold Ray.next
    dsimp only
    split
    · rename_i h
      exact (hr.1 _).add ((isReal_frac hn (lt_of_lt_of_le h (min_le_left _ _))).mul ((hr.1 _).sub (hr.1 _)))
    · exact isReal_one
  · intro j h
    unfold Ray.next
    dsimp only
    split
    · rename_i hj
      exact (hr.2 _ _).add ((isReal_frac hn (lt_of_lt_of_le hj (min_le_left _ _))).mul ((hr.2 _ _).sub (hr.2 _ _)))
    · exact isReal_zero

end Ray

end Cert.Proof
-- ==== Proof.Net.lean ====
/- The network along one ray: the two end knots with the first layer's features, the layers between the insertions, and
   the output. -/
module

public import proofs.«01_k».proof.Proof.Model

@[expose] public section

noncomputable section

namespace Cert.Proof

open Finset Idealize.ShloMosaic

/-- The two end knots, with the features of the first layer: the ray runs from `s` along `d`. -/
def first (s d : Fin 3 → EReal) (W : Fin 256 → Fin 3 → EReal) (b : Fin 256 → EReal) : Ray where
  n := 2
  t j := if j = 0 then 0 else 1
  z j h := if j < 2 then (∑ x, d x * W h x) * (if j = 0 then 0 else 1) + (∑ x, s x * W h x + b h) else 0

namespace Ray

variable (ρ : Ray)

/-- The rectified features at knot `j`. -/
def hid (j : ℕ) (h : Fin 256) : EReal := if j < ρ.n then max (ρ.z j h) 0 else 0

/-- What a later layer reads at knot `j`: the rectified features and the point of the ray. -/
def read (s d : Fin 3 → EReal) (j : ℕ) (x : Fin 259) : EReal :=
  if hx : (x : ℕ) < 256 then ρ.hid j ⟨x, hx⟩
  else if j < ρ.n then s ⟨x - 256, by omega⟩ + ρ.t j * d ⟨x - 256, by omega⟩ else 0

/-- A later layer. -/
def layer (s d : Fin 3 → EReal) (W : Fin 256 → Fin 259 → EReal) (b : Fin 256 → EReal) : Ray where
  n := ρ.n
  t := ρ.t
  z j h := if j < ρ.n then ∑ x, ρ.read s d j x * W h x + b h else 0

/-- The output at knot `j`. -/
def out (W : Fin 256 → EReal) (b : EReal) (j : ℕ) : EReal := if j < ρ.n then ∑ x, ρ.hid j x * W x + b else 0

variable {ρ}

theorem Real.hid (hr : ρ.Real) (j : ℕ) (h : Fin 256) : IsReal (ρ.hid j h) := by
  unfold Ray.hid
  split
  · exact (hr.2 _ _).max isReal_zero
  · exact isReal_zero

theorem Real.read {s d : Fin 3 → EReal} (hr : ρ.Real) (hs : ∀ x, IsReal (s x)) (hd : ∀ x, IsReal (d x)) (j : ℕ) (x : Fin 259) :
    IsReal (ρ.read s d j x) := by
  unfold Ray.read
  split
  · exact hr.hid _ _
  · split
    · exact (hs _).add ((hr.1 _).mul (hd _))
    · exact isReal_zero

/-- A layer keeps the numbers real. -/
theorem Real.layer {s d : Fin 3 → EReal} {W : Fin 256 → Fin 259 → EReal} {b : Fin 256 → EReal} (hr : ρ.Real)
    (hs : ∀ x, IsReal (s x)) (hd : ∀ x, IsReal (d x)) (hW : ∀ h x, IsReal (W h x)) (hb : ∀ h, IsReal (b h)) :
    (ρ.layer s d W b).Real := by
  refine ⟨hr.1, fun j h => ?_⟩
  show IsReal (if j < ρ.n then ∑ x, ρ.read s d j x * W h x + b h else 0)
  split
  · exact (IsReal.sum fun x _ => (hr.read hs hd j x).mul (hW h x)).add (hb h)
  · exact isReal_zero

end Ray

theorem first_real {s d : Fin 3 → EReal} {W : Fin 256 → Fin 3 → EReal} {b : Fin 256 → EReal}
    (hs : ∀ x, IsReal (s x)) (hd : ∀ x, IsReal (d x)) (hW : ∀ h x, IsReal (W h x)) (hb : ∀ h, IsReal (b h)) :
    (first s d W b).Real := by
  have ht : ∀ j : ℕ, IsReal (if j = 0 then (0 : EReal) else 1) := fun j => by
    split
    · exact isReal_zero
    · exact isReal_one
  refine ⟨ht, fun j h => ?_⟩
  show IsReal (if j < 2 then (∑ x, d x * W h x) * (if j = 0 then 0 else 1) + (∑ x, s x * W h x + b h) else 0)
  split
  · exact ((IsReal.sum fun x _ => (hd x).mul (hW h x)).mul (ht j)).add
      ((IsReal.sum fun x _ => (hs x).mul (hW h x)).add (hb h))
  · exact isReal_zero

/-- The weights and the ends of one ray. -/
structure Net where
  e : Fin 3 → EReal
  s : Fin 3 → EReal
  W0 : Fin 256 → Fin 3 → EReal
  b0 : Fin 256 → EReal
  W1 : Fin 256 → Fin 259 → EReal
  b1 : Fin 256 → EReal
  W2 : Fin 256 → Fin 259 → EReal
  b2 : Fin 256 → EReal
  W3 : Fin 256 → EReal
  b3 : EReal

namespace Net

variable (N : Net)

/-- The direction of the ray. -/
def d (x : Fin 3) : EReal := N.e x - N.s x

/-- The ray before the first insertion. -/
def r1 : Ray := first N.s N.d N.W0 N.b0
/-- The ray before the second insertion. -/
def r2 : Ray := N.r1.next.layer N.s N.d N.W1 N.b1
/-- The ray before the third insertion. -/
def r3 : Ray := N.r2.next.layer N.s N.d N.W2 N.b2
/-- The ray after the third insertion. -/
def fin : Ray := N.r3.next
/-- The network's value at knot `j`. -/
def y (j : ℕ) : EReal := N.fin.out N.W3 N.b3 j

/-- Every number the network reads before its output layer is a real number. -/
structure Fine : Prop where
  e : ∀ x, IsReal (N.e x)
  s : ∀ x, IsReal (N.s x)
  W0 : ∀ h x, IsReal (N.W0 h x)
  b0 : ∀ h, IsReal (N.b0 h)
  W1 : ∀ h x, IsReal (N.W1 h x)
  b1 : ∀ h, IsReal (N.b1 h)
  W2 : ∀ h x, IsReal (N.W2 h x)
  b2 : ∀ h, IsReal (N.b2 h)

theorem grow {a b c : ℕ} (h : a ≤ 5 * b - 4) (h' : b ≤ c) : a ≤ 5 * c - 4 := by omega

theorem one_le_1 : 1 ≤ N.r1.n := one_le_two
theorem le_1 : N.r1.n ≤ 2 := le_refl 2
theorem one_le_2 : 1 ≤ N.r2.n := Ray.one_le_next (ρ := N.r1) N.one_le_1
theorem le_2 : N.r2.n ≤ 6 := grow (Ray.next_n_le (ρ := N.r1) N.one_le_1) N.le_1
theorem one_le_3 : 1 ≤ N.r3.n := Ray.one_le_next (ρ := N.r2) N.one_le_2
theorem le_3 : N.r3.n ≤ 26 := grow (Ray.next_n_le (ρ := N.r2) N.one_le_2) N.le_2

variable {N}

theorem Fine.d (h : N.Fine) (x : Fin 3) : IsReal (N.d x) := (h.e x).sub (h.s x)
theorem Fine.r1 (h : N.Fine) : N.r1.Real := first_real h.s h.d h.W0 h.b0
theorem Fine.r2 (h : N.Fine) : N.r2.Real :=
  Ray.Real.layer (Ray.Real.next N.one_le_1 h.r1) h.s h.d h.W1 h.b1
theorem Fine.r3 (h : N.Fine) : N.r3.Real :=
  Ray.Real.layer (Ray.Real.next N.one_le_2 h.r2) h.s h.d h.W2 h.b2

end Net

end Cert.Proof
-- ==== Proof.Answer.lean ====
/- The three results, as functions of the networks of the 256 rows. -/
module

public import proofs.«01_k».proof.Proof.Net

@[expose] public section

noncomputable section

namespace Cert.Proof.Answer

open Idealize.ShloMosaic

/-- The network of row `a` of ten arrays. -/
def netOf (x0 : FVec Ideal ⟨2, ![256, 3]⟩ .f32) (x1 : FVec Ideal ⟨2, ![256, 3]⟩ .f32) (x2 : FVec Ideal ⟨2, ![256, 3]⟩ .f32) (x3 : FVec Ideal ⟨1, ![256]⟩ .f32) (x4 : FVec Ideal ⟨2, ![256, 259]⟩ .f32) (x5 : FVec Ideal ⟨1, ![256]⟩ .f32) (x6 : FVec Ideal ⟨2, ![256, 259]⟩ .f32) (x7 : FVec Ideal ⟨1, ![256]⟩ .f32) (x8 : FVec Ideal ⟨2, ![1, 256]⟩ .f32) (x9 : FVec Ideal ⟨1, ![1]⟩ .f32) (a : Fin 256) : Net where
  e x := x0 (ix2 a x)
  s x := x1 (ix2 a x)
  W0 h x := x2 (ix2 h x)
  b0 h := x3 (ix1 h)
  W1 h x := x4 (ix2 h x)
  b1 h := x5 (ix1 h)
  W2 h x := x6 (ix2 h x)
  b2 h := x7 (ix1 h)
  W3 x := x8 (ix2 0 x)
  b3 := x9 (ix1 0)

/-- Equal arrays have equal networks. -/
theorem netOf_congr {x0 y0 : FVec Ideal ⟨2, ![256, 3]⟩ .f32} {x1 y1 : FVec Ideal ⟨2, ![256, 3]⟩ .f32} {x2 y2 : FVec Ideal ⟨2, ![256, 3]⟩ .f32} {x3 y3 : FVec Ideal ⟨1, ![256]⟩ .f32} {x4 y4 : FVec Ideal ⟨2, ![256, 259]⟩ .f32} {x5 y5 : FVec Ideal ⟨1, ![256]⟩ .f32} {x6 y6 : FVec Ideal ⟨2, ![256, 259]⟩ .f32} {x7 y7 : FVec Ideal ⟨1, ![256]⟩ .f32} {x8 y8 : FVec Ideal ⟨2, ![1, 256]⟩ .f32} {x9 y9 : FVec Ideal ⟨1, ![1]⟩ .f32} (h0 : x0 = y0) (h1 : x1 = y1) (h2 : x2 = y2) (h3 : x3 = y3) (h4 : x4 = y4) (h5 : x5 = y5) (h6 : x6 = y6) (h7 : x7 = y7) (h8 : x8 = y8) (h9 : x9 = y9) :
    netOf x0 x1 x2 x3 x4 x5 x6 x7 x8 x9 = netOf y0 y1 y2 y3 y4 y5 y6 y7 y8 y9 := by
  subst h0 h1 h2 h3 h4 h5 h6 h7 h8 h9
  rfl

variable (N : Fin 256 → Net)

/-- The knots' positions. -/
def times : FVec Ideal ⟨2, ![256, 64]⟩ .f32 := fun k => (fun (i : Fin 256) (j : Fin 64) => (N i).fin.t j) (k 0) (k 1)
/-- The marks of the knots in use. -/
def marks : IVec ⟨2, ![256, 64]⟩ 1 :=
  fun k => (fun (i : Fin 256) (j : Fin 64) => BitVec.ofBool (decide ((j : ℕ) < (N i).fin.n))) (k 0) (k 1)
/-- The network's values at the knots. -/
def values : FVec Ideal ⟨3, ![256, 64, 1]⟩ .f32 := fun k => (fun (i : Fin 256) (j : Fin 64) => (N i).y j) (k 0) (k 1)

end Cert.Proof.Answer

end
-- ==== Proof.Place.lean ====
/- The scalar steps of one insertion as the kernel computes them: indicators and counts as extended reals, where an old
   knot goes, which old knot a new knot stands on, and where in its gap the new knot lies. -/
module

public import proofs.«01_k».proof.Proof.Model

@[expose] public section

noncomputable section

namespace Cert.Proof

open Finset Idealize.ShloMosaic

/-- The value of a truth value widened to a word: one or zero. -/
theorem ind (P : Prop) [Decidable P] :
    (FloatOps.sitofp .f32 (BitVec.setWidth 32 (BitVec.ofBool (decide P))) : Ideal .f32) = if P then (1 : EReal) else 0 := by
  show (((BitVec.setWidth 32 (BitVec.ofBool (decide P))).toInt : ℝ) : EReal) = _
  by_cases h : P <;> simp [h]

/-- The value of a small number held in a word. -/
theorem word {i : ℕ} (h : i < 2 ^ 31) : (FloatOps.sitofp .f32 (BitVec.ofNat 32 i) : Ideal .f32) = ((i : ℕ) : EReal) := by
  show (((BitVec.ofNat 32 i).toInt : ℝ) : EReal) = _
  have : (BitVec.ofNat 32 i).toInt = (i : ℤ) := by
    rw [BitVec.toInt_eq_toNat_cond, BitVec.toNat_ofNat]
    rw [if_pos (by omega)]
    omega
  rw [this]
  simp

/-- The signed comparison of two small numbers held in words. -/
theorem slt_word {a b : ℕ} (ha : a < 2 ^ 31) (hb : b < 2 ^ 31) :
    IntOp.cmpi CmpIPredicate.slt (BitVec.ofNat 32 a) (BitVec.ofNat 32 b) = BitVec.ofBool (decide (a < b)) := by
  have e : ∀ i : ℕ, i < 2 ^ 31 → (BitVec.ofNat 32 i).toInt = (i : ℤ) := fun i h => by
    rw [BitVec.toInt_eq_toNat_cond, BitVec.toNat_ofNat, if_pos (by omega)]
    omega
  show BitVec.ofBool ((BitVec.ofNat 32 a).slt (BitVec.ofNat 32 b)) = _
  congr 1
  rw [BitVec.slt_eq_decide, e a ha, e b hb]
  simp

theorem select_and {P Q R S : Prop} [Decidable P] [Decidable Q] [Decidable R] [Decidable S] (a b : EReal) :
    (Scalar.select (IntOp.andi (IntOp.andi (IntOp.andi (BitVec.ofBool (decide P)) (BitVec.ofBool (decide Q)))
      (BitVec.ofBool (decide R))) (BitVec.ofBool (decide S))) a b) = if ((P ∧ Q) ∧ R) ∧ S then a else b := by
  by_cases hp : P <;> by_cases hq : Q <;> by_cases hr : R <;> by_cases hs : S <;>
    simp [hp, hq, hr, hs, Scalar.select, IntOp.andi]

theorem bits_two : Ideal.ofBits .f32 1073741824#32 = ((2 : ℕ) : EReal) := by
  simp [Ideal.ofBits, Ideal.ieee, -EReal.coe_mul]
  norm_num
  exact EReal.coe_coe_eq_natCast _

theorem bits_three : Ideal.ofBits .f32 1077936128#32 = ((3 : ℕ) : EReal) := by
  simp [Ideal.ofBits, Ideal.ieee, -EReal.coe_mul]
  norm_num
  exact EReal.coe_coe_eq_natCast _

theorem bits_sixtyfour : Ideal.ofBits .f32 1115684864#32 = ((64 : ℕ) : EReal) := by
  simp [Ideal.ofBits, Ideal.ieee, -EReal.coe_mul]
  norm_num
  exact EReal.coe_coe_eq_natCast _

theorem bits_far : Ideal.ofBits .f32 1315859240#32 = ((1000000000 : ℕ) : EReal) := by
  simp [Ideal.ofBits, Ideal.ieee, -EReal.coe_mul]
  norm_num
  exact EReal.coe_coe_eq_natCast _

theorem bits_top : Ideal.ofBits .f32 2139095040#32 = ⊤ := by
  simp [Ideal.ofBits, Ideal.ieee, -EReal.coe_mul]

theorem cast_sub {a b : ℕ} (h : b ≤ a) : ((a : ℕ) : EReal) - ((b : ℕ) : EReal) = ((a - b : ℕ) : EReal) := by
  rw [← EReal.coe_coe_eq_natCast, ← EReal.coe_coe_eq_natCast, ← EReal.coe_sub, ← EReal.coe_coe_eq_natCast, Nat.cast_sub h]

/-- The indicator of the product of two indicators. -/
theorem both {P Q : Prop} [Decidable P] [Decidable Q] :
    (0 : EReal) < (if P then 1 else 0) * (if Q then 1 else 0) ↔ P ∧ Q := by
  by_cases hp : P <;> by_cases hq : Q <;> simp [hp, hq]

theorem pos_ite {P : Prop} [Decidable P] : (0 : EReal) < (if P then 1 else 0) ↔ P := by
  by_cases hp : P <;> simp [hp]

/-- A one-hot sum reads the hot entry. -/
theorem sum_hot {N L : ℕ} (h : L < N) (f : Fin N → EReal) :
    ∑ x : Fin N, (if (x : ℕ) = L then (1 : EReal) else 0) * f x = f ⟨L, h⟩ := by
  rw [Finset.sum_eq_single (⟨L, h⟩ : Fin N)]
  · simp
  · intro b _ hb
    rw [if_neg (fun he => hb (Fin.ext he)), zero_mul]
  · intro hn
    exact absurd (mem_univ _) hn

/-- A one-hot sum whose hot entry lies outside is zero. -/
theorem sum_cold {N L : ℕ} (h : N ≤ L) (f : Fin N → EReal) :
    ∑ x : Fin N, (if (x : ℕ) = L then (1 : EReal) else 0) * f x = 0 :=
  Finset.sum_eq_zero fun x _ => by rw [if_neg (by omega), zero_mul]

/-- What a one-hot sum over the gaps reads, at a hot entry inside. -/
theorem sum_gap {N L : ℕ} (h : L < N) (g : Fin N → EReal) (f : ℕ → EReal) (hg : ∀ x : Fin N, g x = f x) :
    ∑ x : Fin N, (if (x : ℕ) = L then (1 : EReal) else 0) * g x = f L := by
  rw [sum_hot h, hg]

/-- A count as a sum of indicators. -/
theorem sum_count {N : ℕ} (p : Fin N → Prop) [DecidablePred p] :
    ∑ x : Fin N, (if p x then (1 : EReal) else 0) = (((univ.filter p).card : ℕ) : EReal) := by
  rw [Finset.sum_boole]

/-- The number of members equal to `m`, as a sum of indicators. -/
theorem hit_read {N : ℕ} (f : Fin N → EReal) (m : EReal) :
    ∑ x : Fin N, (FloatOps.sitofp .f32 (BitVec.setWidth 32 (BitVec.ofBool (decide (f x = m)))) : Ideal .f32)
      = ((hits f m : ℕ) : EReal) := by
  simp only [ind]
  rw [sum_count]
  unfold hits
  congr

theorem cast_sum {ι : Type} (s : Finset ι) (f : ι → ℕ) : ∑ x ∈ s, ((f x : ℕ) : EReal) = ((∑ x ∈ s, f x : ℕ) : EReal) := by
  classical
  induction s using Finset.induction_on with
  | empty => simp
  | insert a s ha ih => rw [sum_insert ha, sum_insert ha, ih, Nat.cast_add]

theorem sum_below {N : ℕ} (f : ℕ → ℕ) (i : ℕ) (hi : i ≤ N) :
    ∑ x : Fin N, ((f x : ℕ) : EReal) * (if (x : ℕ) < i then (1 : EReal) else 0) = ((∑ k ∈ range i, f k : ℕ) : EReal) := by
  have h1 : ∀ x : Fin N, ((f x : ℕ) : EReal) * (if (x : ℕ) < i then (1 : EReal) else 0)
      = (((if (x : ℕ) < i then f x else 0 : ℕ) : ℕ) : EReal) := fun x => by split <;> simp
  simp only [h1]
  rw [cast_sum, Fin.sum_univ_eq_sum_range (fun x => if x < i then f x else 0) N, ← Finset.sum_filter]
  congr 2
  ext k
  simp only [mem_filter, mem_range]
  omega

theorem card_lt {N n : ℕ} (h : n ≤ N) : (univ.filter fun x : Fin N => (x : ℕ) < n).card = n := by
  have : (univ.filter fun x : Fin N => (x : ℕ) < n) = (univ : Finset (Fin n)).map (Fin.castLEEmb h) := by
    ext x
    simp only [mem_filter, mem_univ, true_and, mem_map]
    constructor
    · intro hx
      exact ⟨⟨x, hx⟩, rfl⟩
    · rintro ⟨y, rfl⟩
      exact y.isLt
  rw [this, card_map, card_univ, Fintype.card_fin]

namespace Ray

variable {ρ : Ray}

open Classical in
/-- A gap's value as the kernel selects it. -/
theorem key_read (i : ℕ) (h : Fin 256) {va vb z d : EReal} (ha : va = if i < ρ.n then 1 else 0)
    (hb : vb = if i + 1 < ρ.n then 1 else 0) (hz : z = ρ.z i h) (hd : d = ρ.dz i h) :
    Scalar.select (IntOp.andi (IntOp.andi (IntOp.andi (BitVec.ofBool (decide (0 < va * vb)))
      (BitVec.ofBool (decide (eps < (FloatOps.absf (φ := .f32) (F := Ideal) d)))))
      (BitVec.ofBool (decide (eps < Ideal.div (0 - z) (if eps < (FloatOps.absf (φ := .f32) (F := Ideal) d) then d else 1)))))
      (BitVec.ofBool (decide (Ideal.div (0 - z) (if eps < (FloatOps.absf (φ := .f32) (F := Ideal) d) then d else 1) < upper))))
      (Ideal.div (0 - z) (if eps < (FloatOps.absf (φ := .f32) (F := Ideal) d) then d else 1)) big = ρ.key i h := by
  subst hd hz hb ha
  have hz0 : (0 : EReal) - ρ.z i h = -(ρ.z i h) := by rw [sub_eq_add_neg, zero_add]
  have hr : Ideal.div (0 - ρ.z i h) (if eps < (FloatOps.absf (φ := .f32) (F := Ideal) (ρ.dz i h)) then ρ.dz i h else 1)
      = ρ.ratio i h := by
    rw [hz0]
    unfold ratio Steep
    congr
  rw [select_and, hr]
  unfold key
  by_cases hc : ρ.Crosses i h
  · rw [if_pos hc, if_pos]
    exact ⟨⟨⟨both.mpr ⟨by have := hc.1.1.1; omega, hc.1.1.1⟩, hc.1.1.2⟩, hc.1.2⟩, hc.2⟩
  · rw [if_neg hc, if_neg]
    rintro ⟨⟨⟨a, b⟩, c⟩, d⟩
    exact hc ⟨⟨⟨(both.mp a).2, b⟩, c⟩, d⟩

/-- The order statistic the kernel picks, from the four successive minima and the running counts of their repetitions. -/
theorem cand_pick (i : ℕ) {c : ℕ} (hc : c < 4) {m1 m2 m3 m4 c1 c2 c3 s : EReal}
    (h1 : m1 = least (ρ.key i)) (h2 : m2 = least (above big m1 (ρ.key i)))
    (h3 : m3 = least (above big m2 (above big m1 (ρ.key i))))
    (h4 : m4 = least (above big m3 (above big m2 (above big m1 (ρ.key i)))))
    (k1 : c1 = ((hits (ρ.key i) m1 : ℕ) : EReal)) (k2 : c2 = c1 + ((hits (ρ.key i) m2 : ℕ) : EReal))
    (k3 : c3 = c2 + ((hits (ρ.key i) m3 : ℕ) : EReal)) (hs : s = ((c : ℕ) : EReal)) :
    (if s < c1 then m1 else if s < c2 then m2 else if s < c3 then m3 else m4) = ρ.cand i c := by
  unfold cand
  rw [stat_eq_pick (key_le i) (by norm_num) hc]
  subst hs h4 k3 k2 k1 h3 h2 h1
  simp only [← Nat.cast_add, EReal.natCast_lt_iff]
  rfl

open Classical in
/-- The number of gained knots as the kernel adds it up. -/
theorem mult_read (i : ℕ) {s0 s1 s2 s3 : EReal} (h0 : s0 = ρ.cand i 0) (h1 : s1 = ρ.cand i 1) (h2 : s2 = ρ.cand i 2)
    (h3 : s3 = ρ.cand i 3) :
    (if s0 < nine then (1 : EReal) else 0) + (if s1 < nine then (1 : EReal) else 0) + (if s2 < nine then (1 : EReal) else 0)
      + (if s3 < nine then (1 : EReal) else 0) = ((ρ.mult i : ℕ) : EReal) := by
  subst h0 h1 h2 h3
  simp only [cand_lt_nine i (by norm_num : 0 < 4), cand_lt_nine i (by norm_num : 1 < 4), cand_lt_nine i (by norm_num : 2 < 4),
    cand_lt_nine i (by norm_num : 3 < 4)]
  unfold mult
  rw [Finset.card_filter, ← cast_sum, Finset.sum_range_succ, Finset.sum_range_succ, Finset.sum_range_succ,
    Finset.sum_range_one]
  simp only [Nat.cast_ite, Nat.cast_one, Nat.cast_zero]

/-- Where old knot `i` goes, as the kernel adds it up. -/
theorem pos_read {N : ℕ} (i : ℕ) (hi : i ≤ N) :
    ((i : ℕ) : EReal) + ∑ x : Fin N, ((ρ.mult x : ℕ) : EReal) * (if (x : ℕ) < i then (1 : EReal) else 0)
      = ((ρ.pos i : ℕ) : EReal) := by
  rw [sum_below ρ.mult i hi, ← Nat.cast_add]
  rfl

/-- The number of old knots at or before new knot `j`, as the kernel counts them. -/
theorem left_read {K j : ℕ} (hn : 1 ≤ ρ.n) (hK : ρ.n ≤ K) (hj : j < 1000000000) :
    ∑ x : Fin K, (if (if (x : ℕ) < ρ.n then ((ρ.pos x : ℕ) : EReal) else ((1000000000 : ℕ) : EReal)) ≤ ((j : ℕ) : EReal)
      then (1 : EReal) else 0) - 1 = ((ρ.left j : ℕ) : EReal) := by
  have h : ∀ x : Fin K, (if (x : ℕ) < ρ.n then ((ρ.pos x : ℕ) : EReal) else ((1000000000 : ℕ) : EReal)) ≤ ((j : ℕ) : EReal)
      ↔ (x : ℕ) < ρ.left j + 1 := fun x => by
    rw [← left_iff hn]
    split
    · rw [EReal.natCast_le_iff]; tauto
    · rw [EReal.natCast_le_iff]; omega
  simp only [h]
  rw [sum_count, card_lt (by have := left_lt hn j; omega),
    show (1 : EReal) = ((1 : ℕ) : EReal) from Nat.cast_one.symm, cast_sub (by omega), Nat.add_sub_cancel]

/-- The number of knots after the insertion, as the kernel computes it. -/
theorem n_read {K N : ℕ} (hK : ρ.n ≤ K) (hN : ρ.n ≤ N + 1) :
    min (∑ x : Fin K, (if (x : ℕ) < ρ.n then (1 : EReal) else 0) + ∑ x : Fin N, ((ρ.mult x : ℕ) : EReal)) ((64 : ℕ) : EReal)
      = ((ρ.next.n : ℕ) : EReal) := by
  have hs : ∑ k ∈ range N, ρ.mult k = ∑ k ∈ range ρ.n, ρ.mult k := by
    rcases Nat.le_total N ρ.n with h | h
    · refine sum_subset (range_subset_range.mpr h) fun x hx hx' => mult_last ?_
      simp only [mem_range] at hx hx'
      omega
    · refine (sum_subset (range_subset_range.mpr h) fun x hx hx' => mult_last ?_).symm
      simp only [mem_range] at hx hx'
      omega
  rw [sum_count, card_lt hK, cast_sum, Fin.sum_univ_eq_sum_range (fun x => ρ.mult x) N, hs, ← Nat.cast_add]
  change min ((ρ.total : ℕ) : EReal) _ = ((min ρ.total 64 : ℕ) : EReal)
  rcases min_cases ρ.total 64 with h | h <;> rw [h.1]
  · exact min_eq_left (EReal.natCast_le_iff.mpr h.2)
  · exact min_eq_right (EReal.natCast_le_iff.mpr h.2.le)

/-- Where in its gap new knot `j` lies, as the kernel selects it. -/
theorem frac_read {j : ℕ} (hn : 1 ≤ ρ.n) (hj : j < ρ.total) {p c a0 a1 a2 a3 k2 k3 : EReal}
    (hp : p = ((ρ.pos (ρ.left j) : ℕ) : EReal)) (hc : c = ((j : ℕ) : EReal) - p - 1)
    (ha : ρ.left j + 1 < ρ.n → a0 = ρ.cand (ρ.left j) 0 ∧ a1 = ρ.cand (ρ.left j) 1 ∧ a2 = ρ.cand (ρ.left j) 2
      ∧ a3 = ρ.cand (ρ.left j) 3) (h2 : k2 = ((2 : ℕ) : EReal)) (h3 : k3 = ((3 : ℕ) : EReal)) :
    (if p = ((j : ℕ) : EReal) then 0 else (((if c = 0 then a0 else 0) + (if c = 1 then a1 else 0)) + (if c = k2 then a2 else 0))
      + (if c = k3 then a3 else 0)) = ρ.frac j := by
  have he := off_eq hn j
  have hle := off_le hn hj
  have h4 := mult_le (ρ := ρ) (ρ.left j)
  unfold frac
  by_cases h0 : ρ.off j = 0
  · rw [if_pos h0, if_pos (by rw [hp, EReal.natCast_eq_iff]; omega)]
  · rw [if_neg h0, if_neg (by rw [hp, EReal.natCast_eq_iff]; omega)]
    have hm : ρ.left j + 1 < ρ.n := by
      by_contra hx
      have := mult_last (ρ := ρ) (i := ρ.left j) (by omega)
      omega
    obtain ⟨rfl, rfl, rfl, rfl⟩ := ha hm
    have hcv : c = ((ρ.off j - 1 : ℕ) : EReal) := by
      rw [hc, hp, cast_sub (by omega), show (1 : EReal) = ((1 : ℕ) : EReal) from Nat.cast_one.symm, cast_sub (by omega)]
      rfl
    subst hcv h2 h3
    obtain ⟨o, ho⟩ : ∃ o, ρ.off j = o + 1 := ⟨ρ.off j - 1, by omega⟩
    have ho4 : o < 4 := by omega
    rw [ho, Nat.add_sub_cancel]
    have e0 : ∀ k : ℕ, ((k : ℕ) : EReal) = 0 ↔ k = 0 := fun k => by rw [← Nat.cast_zero, EReal.natCast_eq_iff]
    have e1 : ∀ k : ℕ, ((k : ℕ) : EReal) = 1 ↔ k = 1 := fun k => by rw [← Nat.cast_one, EReal.natCast_eq_iff]
    simp only [e0, e1, EReal.natCast_eq_iff]
    interval_cases o <;> simp

/-- The value at new knot `j`, a function of the old knots moved along its gap, as the kernel computes it. -/
theorem lerp_read {K N j : ℕ} (hn : 1 ≤ ρ.n) (hj : j < ρ.total) (hK : ρ.n ≤ K) (hN : ρ.n ≤ N + 1) {a : EReal}
    (ha : a = ρ.frac j) (u : ℕ → EReal) (f : Fin K → EReal) (g : Fin N → EReal) (hf : ∀ x : Fin K, f x = u x)
    (hg : ∀ x : Fin N, g x = u (x + 1) - u x) :
    ∑ x : Fin K, (if (x : ℕ) = ρ.left j then (1 : EReal) else 0) * f x
      + a * ∑ x : Fin N, (if (x : ℕ) = ρ.left j then (1 : EReal) else 0) * g x
      = u (ρ.left j) + ρ.frac j * (u (ρ.left j + 1) - u (ρ.left j)) := by
  have hl := left_lt hn j
  rw [sum_hot (show ρ.left j < K by omega), hf, ha]
  by_cases h : ρ.left j < N
  · rw [sum_hot h, hg]
  · have h0 : ρ.frac j = 0 := by
      unfold frac
      have h1 := off_le hn hj
      have h2 := mult_last (ρ := ρ) (i := ρ.left j) (by omega)
      rw [if_pos (by omega)]
    rw [h0, zero_mul, zero_mul]

theorem lt_total {j : ℕ} (h : j < ρ.next.n) : j < ρ.total := lt_of_lt_of_le h (min_le_left _ _)

theorem next_t {j : ℕ} (h : j < ρ.next.n) :
    ρ.next.t j = ρ.t (ρ.left j) + ρ.frac j * (ρ.t (ρ.left j + 1) - ρ.t (ρ.left j)) := if_pos h

theorem next_t_past {j : ℕ} (h : ¬j < ρ.next.n) : ρ.next.t j = 1 := if_neg h

theorem next_z {j : ℕ} (h : j < ρ.next.n) (c : Fin 256) :
    ρ.next.z j c = ρ.z (ρ.left j) c + ρ.frac j * (ρ.z (ρ.left j + 1) c - ρ.z (ρ.left j) c) := if_pos h

theorem next_z_past {j : ℕ} (h : ¬j < ρ.next.n) (c : Fin 256) : ρ.next.z j c = 0 := if_neg h

end Ray

end Cert.Proof
-- ==== Proof.First.lean ====
/- The first insertion as the kernel computes it on a block: eight slots in, eight slots out. -/
module

public import proofs.«01_k».proof.Proof.Gen.KernelIdeal.Skeleton
public import proofs.«01_k».proof.Proof.Place
public import Idealize.ShloMosaic.Lib.Pointwise

@[expose] public section

set_option maxRecDepth 16384

noncomputable section

namespace Cert.Proof.First

open Finset Idealize.ShloMosaic Cert.KernelIdeal Cert.KernelIdeal.Gen Cert.Proof

attribute [local instance] Cert.KernelIdeal.Gen.facts

variable {ρ : Ray} {r : Fin 32} {v15 : FVec Ideal S32x8 .f32} {v40 : FVec Ideal S32x8x256 .f32}

/-- The differences of the features. -/
theorem diff (hz : ∀ (i : Fin 8) (h : Fin 256), v40 (ix3 r i h) = ρ.z i h) (i : Fin 7) (h : Fin 256) :
    k0_pay7 v40 (ix3 r i h) = ρ.dz i h := by
  pointwise [k0_pay7, k0_pay6]
  rw [hz, hz]
  show ρ.z (1 + i) h - _ = _
  rw [add_comm]
  rfl

/-- The crossings of a gap. -/
theorem key (hv : ∀ i : Fin 8, v15 (ix2 r i) = if (i : ℕ) < ρ.n then (1 : EReal) else 0)
    (hz : ∀ (i : Fin 8) (h : Fin 256), v40 (ix3 r i h) = ρ.z i h) (i : Fin 7) (h : Fin 256) :
    k0_pay8 v15 v40 (ix3 r i h) = ρ.key i h := by
  have hd := diff hz i h
  pointwise [k0_pay8, k0_pay6]
  refine Ray.key_read (i : ℕ) h (hv _) ?_ (hz _ _) hd
  rw [hv]
  show (if 1 + (i : ℕ) < ρ.n then (1 : EReal) else 0) = _
  rw [add_comm]

/-- The smallest crossing of a gap, and the three next distinct ones. -/
theorem minima (hv : ∀ i : Fin 8, v15 (ix2 r i) = if (i : ℕ) < ρ.n then (1 : EReal) else 0)
    (hz : ∀ (i : Fin 8) (h : Fin 256), v40 (ix3 r i h) = ρ.z i h) (i : Fin 7) :
    k0_pay9 v15 v40 (ix2 r i) = least (ρ.key i)
      ∧ k0_pay11 v15 v40 (ix2 r i) = least (above big (k0_pay9 v15 v40 (ix2 r i)) (ρ.key i))
      ∧ k0_pay13 v15 v40 (ix2 r i) = least (above big (k0_pay11 v15 v40 (ix2 r i)) (above big (k0_pay9 v15 v40 (ix2 r i)) (ρ.key i)))
      ∧ k0_pay14 v15 v40 (ix2 r i) = least (above big (k0_pay13 v15 v40 (ix2 r i))
        (above big (k0_pay11 v15 v40 (ix2 r i)) (above big (k0_pay9 v15 v40 (ix2 r i)) (ρ.key i)))) := by
  have hk := key hv hz i
  have h10 : ∀ h, k0_pay10 v15 v40 (ix3 r i h) = above big (k0_pay9 v15 v40 (ix2 r i)) (ρ.key i) h := fun h => by
    pointwise [k0_pay10]
    rw [hk]
    rfl
  have h12 : ∀ h, k0_pay12 v15 v40 (ix3 r i h) = above big (k0_pay11 v15 v40 (ix2 r i))
      (above big (k0_pay9 v15 v40 (ix2 r i)) (ρ.key i)) h := fun h => by
    pointwise [k0_pay12]
    rw [h10]
    rfl
  refine ⟨?_, ?_, ?_, ?_⟩
  · pointwise [k0_pay9]
    simp only [hk, bits_top]
    rfl
  · pointwise [k0_pay11]
    simp only [h10, bits_top]
    rfl
  · pointwise [k0_pay13]
    simp only [h12, bits_top]
    rfl
  · pointwise [k0_pay14]
    simp only [h12, bits_top]
    rfl

variable {v67 : FVec Ideal S32x7x256 .f32} {v68 v74 v80 v86 : FVec Ideal S32x7 .f32} {i : Fin 7}

/-- The running counts of the repetitions of the successive minima. -/
theorem counts (hk : ∀ h, v67 (ix3 r i h) = ρ.key i h) :
    k0_pay15 v67 v68 (ix2 r i) = ((hits (ρ.key i) (v68 (ix2 r i)) : ℕ) : EReal)
      ∧ k0_pay16 v67 v68 v74 (ix2 r i) = k0_pay15 v67 v68 (ix2 r i) + ((hits (ρ.key i) (v74 (ix2 r i)) : ℕ) : EReal)
      ∧ k0_pay17 v67 v68 v74 v80 (ix2 r i)
        = k0_pay16 v67 v68 v74 (ix2 r i) + ((hits (ρ.key i) (v80 (ix2 r i)) : ℕ) : EReal) := by
  refine ⟨?_, ?_, ?_⟩
  · pointwise [k0_pay15]
    simp only [hk]
    exact hit_read _ _
  · pointwise [k0_pay16]
    simp only [hk]
    exact congrArg _ (hit_read _ _)
  · pointwise [k0_pay17]
    simp only [hk]
    exact congrArg _ (hit_read _ _)

/-- The four candidates of a gap, and how many of them are crossings. -/
theorem cands (hk : ∀ h, v67 (ix3 r i h) = ρ.key i h) (h1 : v68 (ix2 r i) = least (ρ.key i))
    (h2 : v74 (ix2 r i) = least (above big (v68 (ix2 r i)) (ρ.key i)))
    (h3 : v80 (ix2 r i) = least (above big (v74 (ix2 r i)) (above big (v68 (ix2 r i)) (ρ.key i))))
    (h4 : v86 (ix2 r i) = least (above big (v80 (ix2 r i)) (above big (v74 (ix2 r i)) (above big (v68 (ix2 r i)) (ρ.key i))))) :
    k0_pay18 v67 v68 v74 v80 v86 (ix2 r i) = ρ.cand i 0
      ∧ k0_pay20 v67 v68 v74 v80 v86 (ix2 r i) = ρ.cand i 1
      ∧ k0_pay22 v68 v74 v80 v86 (k0_pay15 v67 v68) (k0_pay16 v67 v68 v74) (k0_pay17 v67 v68 v74 v80) (ix2 r i) = ρ.cand i 2
      ∧ k0_pay23 v68 v74 v80 v86 (k0_pay15 v67 v68) (k0_pay16 v67 v68 v74) (k0_pay17 v67 v68 v74 v80) (ix2 r i) = ρ.cand i 3
      ∧ k0_pay24 v68 v74 v80 v86 (k0_pay15 v67 v68) (k0_pay16 v67 v68 v74) (k0_pay17 v67 v68 v74 v80)
          (k0_pay19 v67 v68 v74 v80 v86) (k0_pay21 v67 v68 v74 v80 v86) (ix2 r i) = ((ρ.mult i : ℕ) : EReal) := by
  obtain ⟨c1, c2, c3⟩ := counts (v68 := v68) (v74 := v74) (v80 := v80) hk
  have e0 : k0_pay18 v67 v68 v74 v80 v86 (ix2 r i) = ρ.cand i 0 := by
    pointwise [k0_pay18]
    exact Ray.cand_pick i (by norm_num) h1 h2 h3 h4 c1 c2 c3 Nat.cast_zero.symm
  have e1 : k0_pay20 v67 v68 v74 v80 v86 (ix2 r i) = ρ.cand i 1 := by
    pointwise [k0_pay20]
    exact Ray.cand_pick i (by norm_num) h1 h2 h3 h4 c1 c2 c3 Nat.cast_one.symm
  have e2 : k0_pay22 v68 v74 v80 v86 (k0_pay15 v67 v68) (k0_pay16 v67 v68 v74) (k0_pay17 v67 v68 v74 v80) (ix2 r i)
      = ρ.cand i 2 := by
    pointwise [k0_pay22]
    exact Ray.cand_pick i (by norm_num) h1 h2 h3 h4 c1 c2 c3 bits_two
  have e3 : k0_pay23 v68 v74 v80 v86 (k0_pay15 v67 v68) (k0_pay16 v67 v68 v74) (k0_pay17 v67 v68 v74 v80) (ix2 r i)
      = ρ.cand i 3 := by
    pointwise [k0_pay23]
    exact Ray.cand_pick i (by norm_num) h1 h2 h3 h4 c1 c2 c3 bits_three
  refine ⟨e0, e1, e2, e3, ?_⟩
  pointwise [k0_pay24, k0_pay19, k0_pay21]
  simp only [ind]
  exact Ray.mult_read (i : ℕ) e0 e1 e2 e3

variable {v92 v99 v106 v121 v134 : FVec Ideal S32x7 .f32}

/-- Where each old knot goes; far away for the slots without one. -/
theorem place (hv : ∀ i : Fin 8, v15 (ix2 r i) = if (i : ℕ) < ρ.n then (1 : EReal) else 0)
    (hm : ∀ i : Fin 7, k0_pay24 v68 v74 v80 v86 v92 v99 v106 v121 v134 (ix2 r i) = ((ρ.mult i : ℕ) : EReal)) (i : Fin 8) :
    k0_pay26 v15 v68 v74 v80 v86 v92 v99 v106 v121 v134 (ix2 r i)
      = if (i : ℕ) < ρ.n then ((ρ.pos i : ℕ) : EReal) else ((1000000000 : ℕ) : EReal) := by
  have hz : ∀ j, k0_pay25 (F := Ideal) (ix2 r j) = 0 := fun j => by pointwise [k0_pay25]
  pointwise [k0_pay26]
  simp only [hv, hm, hz, zero_mul, Finset.sum_const_zero, add_zero, pos_ite, bits_far]
  congr 1
  rw [word (by omega)]
  rw [← Ray.pos_read (ρ := ρ) (N := 7) i (by omega)]
  congr 1
  refine Finset.sum_congr rfl fun x _ => ?_
  rw [slt_word (by omega) (by omega), ind]

/-- The number of knots after the insertion. -/
theorem size {v163 : FVec Ideal S32x7 .f32} {v15 : FVec Ideal S32x8 .f32}
    (hv : ∀ i : Fin 8, v15 (ix2 r i) = if (i : ℕ) < ρ.n then (1 : EReal) else 0)
    (hm : ∀ i : Fin 7, v163 (ix2 r i) = ((ρ.mult i : ℕ) : EReal)) (hn : ρ.n ≤ 8) (j : Fin 1) :
    k0_pay28 v163 (k0_pay27 v15) (ix2 r j) = ((ρ.next.n : ℕ) : EReal) := by
  pointwise [k0_pay28, k0_pay27]
  simp only [hv, hm, bits_sixtyfour]
  exact Ray.n_read hn (by omega)

variable {v178 : FVec Ideal S32x8 .f32}

theorem slot (j : Fin 8) (k : Fin 1) : k0_pay29 (F := Ideal) (ix3 r j k) = ((j : ℕ) : EReal) := by
  pointwise [k0_pay29]
  exact word (by omega)

/-- The old knot each new knot stands on, as a one-hot row. -/
theorem hot (hn : 1 ≤ ρ.n) (hK : ρ.n ≤ 8)
    (hp : ∀ i : Fin 8, v178 (ix2 r i) = if (i : ℕ) < ρ.n then ((ρ.pos i : ℕ) : EReal) else ((1000000000 : ℕ) : EReal))
    (j i : Fin 8) : k0_pay30 v178 (ix3 r j i) = if (i : ℕ) = ρ.left j then (1 : EReal) else 0 := by
  pointwise [k0_pay30]
  simp only [ind, hp, slot]
  rw [Ray.left_read (j := (j : ℕ)) hn hK (by omega), word (by omega)]
  simp only [EReal.natCast_eq_iff]

/-- Where the old knot under each new knot stands, and how far past it the new knot is. -/
theorem under (hn : 1 ≤ ρ.n) (hK : ρ.n ≤ 8)
    (hp : ∀ i : Fin 8, v178 (ix2 r i) = if (i : ℕ) < ρ.n then ((ρ.pos i : ℕ) : EReal) else ((1000000000 : ℕ) : EReal))
    (j : Fin 8) (k : Fin 1) : k0_pay31 v178 (ix3 r j k) = ((ρ.pos (ρ.left j) : ℕ) : EReal)
      ∧ k0_pay32 v178 (ix3 r j k) = ((j : ℕ) : EReal) - k0_pay31 v178 (ix3 r j k) - 1 := by
  constructor
  · pointwise [k0_pay31]
    simp only [hot hn hK hp]
    have hl := Ray.left_lt hn j
    rw [sum_hot (show ρ.left j < 8 by omega) (fun x => v178 (ix2 r x)), hp]
    exact if_pos hl
  · pointwise [k0_pay32]
    rw [slot]

variable {v116 v130 v144 v158 : FVec Ideal S32x7 .f32} {one zero : Ideal .f32}

theorem pad (j : Fin 1) : k0_pay25 (F := Ideal) (ix2 r j) = 0 := by pointwise [k0_pay25]

/-- Where in its gap each new knot lies. -/
theorem frac (hn : 1 ≤ ρ.n) (hK : ρ.n ≤ 8)
    (hp : ∀ i : Fin 8, v178 (ix2 r i) = if (i : ℕ) < ρ.n then ((ρ.pos i : ℕ) : EReal) else ((1000000000 : ℕ) : EReal))
    (h0 : ∀ i : Fin 7, v116 (ix2 r i) = ρ.cand i 0) (h1 : ∀ i : Fin 7, v130 (ix2 r i) = ρ.cand i 1)
    (h2 : ∀ i : Fin 7, v144 (ix2 r i) = ρ.cand i 2) (h3 : ∀ i : Fin 7, v158 (ix2 r i) = ρ.cand i 3)
    (ho : one = (1 : EReal)) (j : Fin 8) (hj : (j : ℕ) < ρ.total) (k : Fin 1) :
    k0_pay35 v144 v158 k0_pay25 k0_pay29 (k0_pay30 v178) (k0_pay31 v178) (k0_pay32 v178) (k0_pay33 v116 k0_pay25 v178)
      (k0_pay34 v130 k0_pay25 v178) one (ix3 r j k) = ρ.frac j := by
  obtain ⟨e1, e2⟩ := under hn hK hp j k
  pointwise [k0_pay35, k0_pay33, k0_pay34]
  simp only [hot hn hK hp, pad, mul_zero, Finset.sum_const_zero, add_zero, slot, ho]
  exact Ray.frac_read hn hj e1 e2 (fun hm => ⟨sum_gap (by omega) _ (fun x => ρ.cand x 0) h0,
    sum_gap (by omega) _ (fun x => ρ.cand x 1) h1, sum_gap (by omega) _ (fun x => ρ.cand x 2) h2,
    sum_gap (by omega) _ (fun x => ρ.cand x 3) h3⟩) bits_two bits_three

variable {v185 : FVec Ideal S32x1 .f32}

/-- Which new slots hold a knot. -/
theorem mask (hs : ∀ j, v185 (ix2 r j) = ((ρ.next.n : ℕ) : EReal)) (j : Fin 8) (k : Fin 1) :
    k0_pay36 v185 k0_pay29 (ix3 r j k) = if (j : ℕ) < ρ.next.n then (1 : EReal) else 0 := by
  pointwise [k0_pay36]
  simp only [ind, slot, hs, EReal.natCast_lt_iff]

variable {v10 : FVec Ideal S32x8 .f32} {v203 : FVec Ideal S32x8x8 .f32} {v259 v264 : FVec Ideal S32x8x1 .f32}

/-- The positions of the new knots. -/
theorem time (hn : 1 ≤ ρ.n) (hK : ρ.n ≤ 8)
    (hO : ∀ j i : Fin 8, v203 (ix3 r j i) = if (i : ℕ) = ρ.left j then (1 : EReal) else 0)
    (ht : ∀ i : Fin 8, v10 (ix2 r i) = ρ.t i) (hw : ∀ j k, v264 (ix3 r j k) = if (j : ℕ) < ρ.next.n then (1 : EReal) else 0)
    (ha : ∀ j : Fin 8, (j : ℕ) < ρ.total → ∀ k, v259 (ix3 r j k) = ρ.frac j) (hz : zero = (0 : EReal)) (j : Fin 8) :
    k0_pay39 v259 v264 (k0_pay37 v10 v203) (k0_pay38 v10 k0_pay25 v203) zero (ix2 r j) = ρ.next.t j := by
  pointwise [k0_pay39, k0_pay37, k0_pay38]
  simp only [hO, hw, hz, pad, mul_zero, Finset.sum_const_zero, add_zero, pos_ite]
  by_cases hj : (j : ℕ) < ρ.next.n
  · rw [if_pos hj, Ray.next_t hj]
    refine Ray.lerp_read hn (Ray.lt_total hj) hK hK (ha j (Ray.lt_total hj) _) ρ.t _ _ (fun x => ht x) fun x => ?_
    rw [ht, ht]
    show ρ.t (1 + x) - _ = _
    rw [add_comm]
  · rw [if_neg hj, Ray.next_t_past hj]

variable {v43 : FVec Ideal S32x7x256 .f32}

/-- The features of the new knots, cut below at zero. -/
theorem feat (hn : 1 ≤ ρ.n) (hK : ρ.n ≤ 8) (hr : ρ.Real)
    (hO : ∀ j i : Fin 8, v203 (ix3 r j i) = if (i : ℕ) = ρ.left j then (1 : EReal) else 0)
    (hf : ∀ (i : Fin 8) (h : Fin 256), v40 (ix3 r i h) = ρ.z i h) (hd : ∀ (i : Fin 7) (h : Fin 256), v43 (ix3 r i h) = ρ.dz i h)
    (hw : ∀ j k, v264 (ix3 r j k) = if (j : ℕ) < ρ.next.n then (1 : EReal) else 0)
    (ha : ∀ j : Fin 8, (j : ℕ) < ρ.total → ∀ k, v259 (ix3 r j k) = ρ.frac j) (j : Fin 8) (h : Fin 256) :
    k0_pay41 v40 v43 v203 v259 v264 (ix3 r j h) = if (j : ℕ) < ρ.next.n then max (ρ.next.z j h) 0 else 0 := by
  have s1 : ∀ (i : ℕ) (h : Fin 256), ρ.z i h - ρ.z i h = 0 := fun i h => split_eq (hr.2 i h)
  have s2 : ∀ (i : ℕ) (h : Fin 256), ρ.dz i h - ρ.dz i h = 0 := fun i h => split_eq ((hr.2 (i + 1) h).sub (hr.2 i h))
  pointwise [k0_pay41, k0_pay40]
  simp only [hO, hw, hf, hd, s1, s2, sub_zero, mul_zero, Finset.sum_const_zero, add_zero, pos_ite]
  by_cases hj : (j : ℕ) < ρ.next.n
  · simp only [if_pos hj]
    rw [Ray.next_z hj]
    congr 1
    exact Ray.lerp_read hn (Ray.lt_total hj) hK hK (ha j (Ray.lt_total hj) _) (fun x => ρ.z x h) _ _ (fun x => rfl) fun x => rfl
  · simp only [if_neg hj]

end Cert.Proof.First
-- ==== Proof.Second.lean ====
/- The second insertion as the kernel computes it on a block: eight slots in, thirty-two slots out. -/
module

public import proofs.«01_k».proof.Proof.Gen.KernelIdeal.Skeleton
public import proofs.«01_k».proof.Proof.Place
public import proofs.«01_k».proof.Proof.Net
public import Idealize.ShloMosaic.Lib.Pointwise

@[expose] public section

set_option maxRecDepth 16384

noncomputable section

namespace Cert.Proof.Second

open Finset Idealize.ShloMosaic Cert.KernelIdeal Cert.KernelIdeal.Gen Cert.Proof

attribute [local instance] Cert.KernelIdeal.Gen.facts

variable {ρ : Ray} {r : Fin 32} {v311 : FVec Ideal S32x8 .f32} {v320 : FVec Ideal S32x8x256 .f32}
  {v322 : FVec Ideal S32x1x3 .f32} {v328 : FVec Ideal S32x8x3 .f32} {v343 : FVec Ideal S384x256 .f32}
  {v346 : FVec Ideal S1x256 .f32}

/-- The differences of the features. -/
theorem diff (hz : ∀ (i : Fin 8) (h : Fin 256), k0_pay44 v311 v320 v322 v328 v343 v346 (ix3 r i h) = ρ.z i h) (i : Fin 7)
    (h : Fin 256) : k0_pay46 v311 v320 v322 v328 v343 v346 (ix3 r i h) = ρ.dz i h := by
  pointwise [k0_pay46, k0_pay45]
  rw [hz, hz]
  show ρ.z (1 + i) h - _ = _
  rw [add_comm]
  rfl

/-- The crossings of a gap. -/
theorem key (hv : ∀ i : Fin 8, v311 (ix2 r i) = if (i : ℕ) < ρ.n then (1 : EReal) else 0)
    (hz : ∀ (i : Fin 8) (h : Fin 256), k0_pay44 v311 v320 v322 v328 v343 v346 (ix3 r i h) = ρ.z i h) (i : Fin 7) (h : Fin 256) :
    k0_pay50 (k0_pay47 v311 v320 v322 v328 v343 v346) (k0_pay48 v311 v320 v322 v328 v343 v346) (k0_pay49 v311) (ix3 r i h)
      = ρ.key i h := by
  have hd := diff hz i h
  pointwise [k0_pay50, k0_pay47, k0_pay48, k0_pay49, k0_pay45]
  refine Ray.key_read (i : ℕ) h (hv _) ?_ (hz _ _) hd
  rw [hv]
  show (if 1 + (i : ℕ) < ρ.n then (1 : EReal) else 0) = _
  rw [add_comm]

variable {v366 : IVec S32x7x256 1} {v371 : FVec Ideal S32x7x256 .f32} {v374 : IVec S32x7x1 1} {i : Fin 7}

/-- The smallest crossing of a gap, and the three next distinct ones. -/
theorem minima (hk : ∀ h, k0_pay50 v366 v371 v374 (ix3 r i h) = ρ.key i h) :
    k0_pay51 v366 v371 v374 (ix2 r i) = least (ρ.key i)
      ∧ k0_pay53 v366 v371 v374 (ix2 r i) = least (above big (k0_pay51 v366 v371 v374 (ix2 r i)) (ρ.key i))
      ∧ k0_pay55 v366 v371 v374 (ix2 r i) = least (above big (k0_pay53 v366 v371 v374 (ix2 r i))
        (above big (k0_pay51 v366 v371 v374 (ix2 r i)) (ρ.key i)))
      ∧ k0_pay56 v366 v371 v374 (ix2 r i) = least (above big (k0_pay55 v366 v371 v374 (ix2 r i))
        (above big (k0_pay53 v366 v371 v374 (ix2 r i)) (above big (k0_pay51 v366 v371 v374 (ix2 r i)) (ρ.key i)))) := by
  have h52 : ∀ h, k0_pay52 v366 v371 v374 (ix3 r i h) = above big (k0_pay51 v366 v371 v374 (ix2 r i)) (ρ.key i) h := fun h => by
    pointwise [k0_pay52]
    rw [hk]
    rfl
  have h54 : ∀ h, k0_pay54 v366 v371 v374 (ix3 r i h) = above big (k0_pay53 v366 v371 v374 (ix2 r i))
      (above big (k0_pay51 v366 v371 v374 (ix2 r i)) (ρ.key i)) h := fun h => by
    pointwise [k0_pay54]
    rw [h52]
    rfl
  refine ⟨?_, ?_, ?_, ?_⟩
  · pointwise [k0_pay51]
    simp only [hk, bits_top]
    rfl
  · pointwise [k0_pay53]
    simp only [h52, bits_top]
    rfl
  · pointwise [k0_pay55]
    simp only [h54, bits_top]
    rfl
  · pointwise [k0_pay56]
    simp only [h54, bits_top]
    rfl

/-- The running counts of the repetitions of the successive minima. -/
theorem counts (hk : ∀ h, k0_pay50 v366 v371 v374 (ix3 r i h) = ρ.key i h) :
    k0_pay57 v366 v371 v374 (ix2 r i) = ((hits (ρ.key i) (k0_pay51 v366 v371 v374 (ix2 r i)) : ℕ) : EReal)
      ∧ k0_pay58 v366 v371 v374 (ix2 r i)
        = k0_pay57 v366 v371 v374 (ix2 r i) + ((hits (ρ.key i) (k0_pay53 v366 v371 v374 (ix2 r i)) : ℕ) : EReal)
      ∧ k0_pay60 (k0_pay58 v366 v371 v374) (k0_pay59 v366 v371 v374) (ix2 r i)
        = k0_pay58 v366 v371 v374 (ix2 r i) + ((hits (ρ.key i) (k0_pay55 v366 v371 v374 (ix2 r i)) : ℕ) : EReal) := by
  refine ⟨?_, ?_, ?_⟩
  · pointwise [k0_pay57]
    simp only [hk]
    exact hit_read _ _
  · pointwise [k0_pay58]
    simp only [hk]
    exact congrArg _ (hit_read _ _)
  · pointwise [k0_pay60, k0_pay59]
    simp only [hk]
    exact congrArg _ (hit_read _ _)

variable {v385 v391 v397 v403 v409 v416 v423 v466 v467 : FVec Ideal S32x7 .f32} {v421 : FVec Ideal S32x7x256 .f32}

/-- The four candidates of a gap, and how many of them are crossings. -/
theorem cands (h1 : v385 (ix2 r i) = least (ρ.key i))
    (h2 : v391 (ix2 r i) = least (above big (v385 (ix2 r i)) (ρ.key i)))
    (h3 : v397 (ix2 r i) = least (above big (v391 (ix2 r i)) (above big (v385 (ix2 r i)) (ρ.key i))))
    (h4 : v403 (ix2 r i) = least (above big (v397 (ix2 r i)) (above big (v391 (ix2 r i)) (above big (v385 (ix2 r i)) (ρ.key i)))))
    (c1 : v409 (ix2 r i) = ((hits (ρ.key i) (v385 (ix2 r i)) : ℕ) : EReal))
    (c2 : v416 (ix2 r i) = v409 (ix2 r i) + ((hits (ρ.key i) (v391 (ix2 r i)) : ℕ) : EReal))
    (c3 : k0_pay60 v416 v421 (ix2 r i) = v416 (ix2 r i) + ((hits (ρ.key i) (v397 (ix2 r i)) : ℕ) : EReal)) :
    k0_pay61 v385 v391 v397 v403 v409 v416 v421 (ix2 r i) = ρ.cand i 0
      ∧ k0_pay62 v385 v391 v397 v403 v409 v416 v421 (ix2 r i) = ρ.cand i 1
      ∧ k0_pay63 v385 v391 v397 v403 v409 v416 v421 (ix2 r i) = ρ.cand i 2
      ∧ k0_pay66 v385 v391 v397 v403 v409 v416 (k0_pay60 v416 v421) k0_pay65 (ix2 r i) = ρ.cand i 3
      ∧ k0_pay67 v385 v391 v397 v403 v409 v416 (k0_pay60 v416 v421) (k0_pay64 v385 v391 v397 v403 v409 v416 v421) k0_pay65
          (ix2 r i) = ((ρ.mult i : ℕ) : EReal) := by
  have e0 : k0_pay61 v385 v391 v397 v403 v409 v416 v421 (ix2 r i) = ρ.cand i 0 := by
    pointwise [k0_pay61]
    exact Ray.cand_pick i (by norm_num) h1 h2 h3 h4 c1 c2 c3 Nat.cast_zero.symm
  have e1 : k0_pay62 v385 v391 v397 v403 v409 v416 v421 (ix2 r i) = ρ.cand i 1 := by
    pointwise [k0_pay62]
    exact Ray.cand_pick i (by norm_num) h1 h2 h3 h4 c1 c2 c3 Nat.cast_one.symm
  have e2 : k0_pay63 v385 v391 v397 v403 v409 v416 v421 (ix2 r i) = ρ.cand i 2 := by
    pointwise [k0_pay63]
    exact Ray.cand_pick i (by norm_num) h1 h2 h3 h4 c1 c2 c3 bits_two
  have e3 : k0_pay66 v385 v391 v397 v403 v409 v416 (k0_pay60 v416 v421) k0_pay65 (ix2 r i) = ρ.cand i 3 := by
    pointwise [k0_pay66, k0_pay65]
    exact Ray.cand_pick i (by norm_num) h1 h2 h3 h4 c1 c2 c3 bits_three
  refine ⟨e0, e1, e2, e3, ?_⟩
  pointwise [k0_pay67, k0_pay64]
  simp only [ind]
  exact Ray.mult_read (i : ℕ) e0 e1 e2 e3

theorem pad (j : Fin 1) : k0_pay68 (F := Ideal) (ix2 r j) = 0 := by pointwise [k0_pay68]

/-- Where each old knot goes; far away for the slots without one. -/
theorem place (hv : ∀ i : Fin 8, v311 (ix2 r i) = if (i : ℕ) < ρ.n then (1 : EReal) else 0)
    (hm : ∀ i : Fin 7, k0_pay67 v385 v391 v397 v403 v409 v416 v423 v466 v467 (ix2 r i) = ((ρ.mult i : ℕ) : EReal)) (i : Fin 8) :
    k0_pay69 v311 v385 v391 v397 v403 v409 v416 v423 v466 v467 (ix2 r i)
      = if (i : ℕ) < ρ.n then ((ρ.pos i : ℕ) : EReal) else ((1000000000 : ℕ) : EReal) := by
  pointwise [k0_pay69]
  simp only [hv, hm, pad, zero_mul, Finset.sum_const_zero, add_zero, pos_ite, bits_far]
  congr 1
  rw [word (by omega)]
  rw [← Ray.pos_read (ρ := ρ) (N := 7) i (by omega)]
  congr 1
  refine Finset.sum_congr rfl fun x _ => ?_
  rw [slt_word (by omega) (by omega), ind]

/-- The number of knots after the insertion. -/
theorem size (hv : ∀ i : Fin 8, v311 (ix2 r i) = if (i : ℕ) < ρ.n then (1 : EReal) else 0)
    (hm : ∀ i : Fin 7, k0_pay67 v385 v391 v397 v403 v409 v416 v423 v466 v467 (ix2 r i) = ((ρ.mult i : ℕ) : EReal))
    (hn : ρ.n ≤ 8) (j : Fin 1) :
    k0_pay70 v311 v385 v391 v397 v403 v409 v416 v423 v466 v467 (ix2 r j) = ((ρ.next.n : ℕ) : EReal) := by
  pointwise [k0_pay70]
  simp only [hv, hm, bits_sixtyfour]
  exact Ray.n_read hn (by omega)

theorem slot (j : Fin 32) (k : Fin 1) : k0_pay71 (F := Ideal) (ix3 r j k) = ((j : ℕ) : EReal) := by
  pointwise [k0_pay71]
  exact word (by omega)

/-- The old knot each new knot stands on. -/
theorem base (hn : 1 ≤ ρ.n) (hK : ρ.n ≤ 8) (hp : ∀ i : Fin 8, k0_pay69 v311 v385 v391 v397 v403 v409 v416 v423 v466 v467 (ix2 r i)
      = if (i : ℕ) < ρ.n then ((ρ.pos i : ℕ) : EReal) else ((1000000000 : ℕ) : EReal)) (j : Fin 32) (k : Fin 1) :
    k0_pay72 v311 v385 v391 v397 v403 v409 v416 v423 v466 v467 (ix3 r j k) = ((ρ.left j : ℕ) : EReal) := by
  pointwise [k0_pay72]
  simp only [ind, hp, slot]
  exact Ray.left_read (j := (j : ℕ)) hn hK (by omega)

variable {v495 : FVec Ideal S32x8 .f32} {v514 : FVec Ideal S32x32x1 .f32} {v515 : IVec S32x32x8 32}

/-- The old knot each new knot stands on, as a one-hot row. -/
theorem hot (hb : ∀ (j : Fin 32) (k : Fin 1), v514 (ix3 r j k) = ((ρ.left j : ℕ) : EReal))
    (hi : ∀ (j : Fin 32) (i : Fin 8), v515 (ix3 r j i) = BitVec.ofNat 32 i) (j : Fin 32) (i : Fin 8) :
    k0_pay73 (F := Ideal) v514 v515 (ix3 r j i) = if (i : ℕ) = ρ.left j then (1 : EReal) else 0 := by
  pointwise [k0_pay73]
  rw [hb, hi, ind, word (by omega)]
  simp only [EReal.natCast_eq_iff]

/-- Where the old knot under each new knot stands, and how far past it the new knot is. -/
theorem under (hn : 1 ≤ ρ.n) (hK : ρ.n ≤ 8)
    (hp : ∀ i : Fin 8, v495 (ix2 r i) = if (i : ℕ) < ρ.n then ((ρ.pos i : ℕ) : EReal) else ((1000000000 : ℕ) : EReal))
    (hb : ∀ (j : Fin 32) (k : Fin 1), v514 (ix3 r j k) = ((ρ.left j : ℕ) : EReal))
    (hi : ∀ (j : Fin 32) (i : Fin 8), v515 (ix3 r j i) = BitVec.ofNat 32 i) (j : Fin 32) (k : Fin 1) :
    k0_pay74 v495 v514 v515 (ix3 r j k) = ((ρ.pos (ρ.left j) : ℕ) : EReal)
      ∧ k0_pay75 v495 k0_pay71 v514 v515 (ix3 r j k) = ((j : ℕ) : EReal) - k0_pay74 v495 v514 v515 (ix3 r j k) - 1 := by
  constructor
  · pointwise [k0_pay74]
    simp only [hot hb hi]
    have hl := Ray.left_lt hn j
    rw [sum_hot (show ρ.left j < 8 by omega) (fun x => v495 (ix2 r x)), hp]
    exact if_pos hl
  · pointwise [k0_pay75]
    rw [slot]

variable {v433 v447 v461 v475 : FVec Ideal S32x7 .f32}

/-- Where in its gap each new knot lies. -/
theorem frac (hn : 1 ≤ ρ.n) (hK : ρ.n ≤ 8)
    (hp : ∀ i : Fin 8, v495 (ix2 r i) = if (i : ℕ) < ρ.n then ((ρ.pos i : ℕ) : EReal) else ((1000000000 : ℕ) : EReal))
    (hb : ∀ (j : Fin 32) (k : Fin 1), v514 (ix3 r j k) = ((ρ.left j : ℕ) : EReal))
    (hi : ∀ (j : Fin 32) (i : Fin 8), v515 (ix3 r j i) = BitVec.ofNat 32 i)
    (h0 : ∀ i : Fin 7, v433 (ix2 r i) = ρ.cand i 0) (h1 : ∀ i : Fin 7, v447 (ix2 r i) = ρ.cand i 1)
    (h2 : ∀ i : Fin 7, v461 (ix2 r i) = ρ.cand i 2) (h3 : ∀ i : Fin 7, v475 (ix2 r i) = ρ.cand i 3)
    (j : Fin 32) (hj : (j : ℕ) < ρ.total) (k : Fin 1) :
    k0_pay78 k0_pay71 (k0_pay73 v514 v515) (k0_pay74 v495 v514 v515) (k0_pay75 v495 k0_pay71 v514 v515)
      (k0_pay76 v433 v447 v461 k0_pay68 v495 k0_pay71 v514 v515) (k0_pay77 v475 k0_pay68) (ix3 r j k) = ρ.frac j := by
  obtain ⟨e1, e2⟩ := under hn hK hp hb hi j k
  pointwise [k0_pay78, k0_pay76, k0_pay77]
  simp only [hot hb hi, pad, mul_zero, Finset.sum_const_zero, add_zero, slot]
  exact Ray.frac_read hn hj e1 e2 (fun hm => ⟨sum_gap (by omega) _ (fun x => ρ.cand x 0) h0,
    sum_gap (by omega) _ (fun x => ρ.cand x 1) h1, sum_gap (by omega) _ (fun x => ρ.cand x 2) h2,
    sum_gap (by omega) _ (fun x => ρ.cand x 3) h3⟩) bits_two bits_three

variable {v502 : FVec Ideal S32x1 .f32}

/-- Which new slots hold a knot. -/
theorem mask (hs : ∀ j, v502 (ix2 r j) = ((ρ.next.n : ℕ) : EReal)) (j : Fin 32) (k : Fin 1) :
    k0_pay79 v502 k0_pay71 (ix3 r j k) = if (j : ℕ) < ρ.next.n then (1 : EReal) else 0 := by
  pointwise [k0_pay79]
  simp only [ind, slot, hs, EReal.natCast_lt_iff]

variable {v310 v563 : FVec Ideal S32x8 .f32} {v520 : FVec Ideal S32x32x8 .f32} {v525 v528 v562 : FVec Ideal S32x32x1 .f32}

/-- The positions of the new knots. -/
theorem time (hn : 1 ≤ ρ.n) (hK : ρ.n ≤ 8)
    (hO : ∀ (j : Fin 32) (i : Fin 8), v520 (ix3 r j i) = if (i : ℕ) = ρ.left j then (1 : EReal) else 0)
    (ht : ∀ i : Fin 8, v310 (ix2 r i) = ρ.t i) (hs : ∀ j, v502 (ix2 r j) = ((ρ.next.n : ℕ) : EReal))
    (ha : ∀ j : Fin 32, (j : ℕ) < ρ.total → ∀ k, k0_pay78 k0_pay71 v520 v525 v528 v562 v563 (ix3 r j k) = ρ.frac j)
    (j : Fin 32) (k : Fin 1) :
    k0_pay80 v310 k0_pay68 v502 k0_pay71 v520 v525 v528 v562 v563 (ix3 r j k) = ρ.next.t j := by
  have hw := fun j k => mask (v502 := v502) hs j k
  pointwise [k0_pay80]
  simp only [hO, hw, pad, mul_zero, Finset.sum_const_zero, add_zero, pos_ite]
  by_cases hj : (j : ℕ) < ρ.next.n
  · rw [if_pos hj, Ray.next_t hj]
    refine Ray.lerp_read hn (Ray.lt_total hj) hK hK (ha j (Ray.lt_total hj) _) ρ.t _ _ (fun x => ht x) fun x => ?_
    rw [ht, ht]
    show ρ.t (1 + x) - _ = _
    rw [add_comm]
  · rw [if_neg hj, Ray.next_t_past hj]

variable {v357 : FVec Ideal S32x8x256 .f32} {v360 : FVec Ideal S32x7x256 .f32}

/-- The features of a ray beside their differences. -/
def wide (ρ : Ray) (i : Fin 8) (c : Fin 512) : EReal :=
  if hc : (c : ℕ) < 256 then ρ.z i ⟨c, hc⟩ else if (i : ℕ) < 7 then ρ.dz i ⟨c - 256, by omega⟩ else 0

theorem wide_real (hr : ρ.Real) (i : Fin 8) (c : Fin 512) : wide ρ i c - wide ρ i c = 0 := by
  unfold wide
  split
  · exact split_eq (hr.2 _ _)
  · split
    · exact split_eq ((hr.2 _ _).sub (hr.2 _ _))
    · exact split_eq isReal_zero

/-- The features beside their differences, and the two zero remainders of their split. -/
theorem wides (hr : ρ.Real) (hf : ∀ (i : Fin 8) (h : Fin 256), v357 (ix3 r i h) = ρ.z i h)
    (hd : ∀ (i : Fin 7) (h : Fin 256), v360 (ix3 r i h) = ρ.dz i h) (i : Fin 8) (c : Fin 512) :
    k0_pay82 v357 v360 (ix3 r i c) = wide ρ i c ∧ k0_pay84 v357 v360 (ix3 r i c) = 0 ∧ k0_pay85 v357 v360 (ix3 r i c) = 0 := by
  have e81 : k0_pay81 v357 v360 (ix3 r i c) = wide ρ i c := by
    pointwise [k0_pay81]
    simp only [hf, hd, wide]
    rfl
  have e82 : k0_pay82 v357 v360 (ix3 r i c) = wide ρ i c := by
    pointwise [k0_pay82]
    exact e81
  have e83 : k0_pay83 v357 v360 (ix3 r i c) = 0 := by
    pointwise [k0_pay83]
    rw [e81]
    first
      | rw [e82]; exact wide_real hr i c
      | exact wide_real hr i c
  have e84 : k0_pay84 v357 v360 (ix3 r i c) = 0 := by
    pointwise [k0_pay84]
    exact e83
  refine ⟨e82, e84, ?_⟩
  pointwise [k0_pay85]
  rw [e83, e84, sub_zero]

variable {v3 v4 : FVec Ideal S32x128 .f32} {v576 v581 v601 : FVec Ideal S32x32x1 .f32} {s d : Fin 3 → EReal}

/-- What the third layer reads. -/
theorem feat (hn : 1 ≤ ρ.n) (hK : ρ.n ≤ 7) (hr : ρ.Real)
    (hO : ∀ (j : Fin 32) (i : Fin 8), v520 (ix3 r j i) = if (i : ℕ) = ρ.left j then (1 : EReal) else 0)
    (hf : ∀ (i : Fin 8) (h : Fin 256), v357 (ix3 r i h) = ρ.z i h) (hd : ∀ (i : Fin 7) (h : Fin 256), v360 (ix3 r i h) = ρ.dz i h)
    (ha : ∀ j : Fin 32, (j : ℕ) < ρ.total → ∀ k, v576 (ix3 r j k) = ρ.frac j)
    (hw : ∀ (j : Fin 32) k, v581 (ix3 r j k) = if (j : ℕ) < ρ.next.n then (1 : EReal) else 0)
    (ht : ∀ (j : Fin 32) k, v601 (ix3 r j k) = ρ.next.t j)
    (hs : ∀ x : Fin 3, v3 (ix2 r ⟨x, by omega⟩) = s x) (hdd : ∀ x : Fin 3, v4 (ix2 r ⟨x, by omega⟩) = d x)
    (j : Fin 32) (x : Fin 259) :
    k0_pay90 v3 v4 v520 v576 v581 v601 (k0_pay85 v357 v360) (k0_pay86 v357 v360 v520) (k0_pay87 v357 v360 v520)
      (ix2 ⟨r * 32 + j, by omega⟩ ⟨x, by omega⟩) = ρ.next.read s d j x := by
  have hX := fun i c => (wides (r := r) hr hf hd i c).1
  have hY := fun i c => (wides (r := r) hr hf hd i c).2.1
  have hZ := fun i c => (wides (r := r) hr hf hd i c).2.2
  have hw89 : ∀ j : Fin 32, k0_pay89 v581 (ix2 r j) = if (j : ℕ) < ρ.next.n then (1 : EReal) else 0 := fun j => by
    pointwise [k0_pay89]
    exact hw j _
  have ht88 : ∀ j : Fin 32, k0_pay88 v601 (ix2 r j) = ρ.next.t j := fun j => by
    pointwise [k0_pay88]
    exact ht j _
  have h86 : ∀ (j : Fin 32) (c : Fin 512), k0_pay86 v357 v360 v520 (ix3 r j c) = wide ρ ⟨ρ.left j, by have := Ray.left_lt hn j; omega⟩ c := fun j c => by
    pointwise [k0_pay86]
    simp only [hO, hX]
    exact sum_hot (by have := Ray.left_lt hn j; omega) _
  have h87 : ∀ (j : Fin 32) (c : Fin 512), k0_pay87 v357 v360 v520 (ix3 r j c) = 0 := fun j c => by
    pointwise [k0_pay87]
    simp only [hY, mul_zero, Finset.sum_const_zero]
  have er : ∀ h, (⟨(r * 32 + j : ℕ) / 32, h⟩ : Fin 32) = r := fun h => Fin.ext (by show (r * 32 + j : ℕ) / 32 = r; omega)
  have ej : ∀ h, (⟨(r * 32 + j : ℕ) % 32, h⟩ : Fin 32) = j := fun h => Fin.ext (by show (r * 32 + j : ℕ) % 32 = j; omega)
  pointwise [k0_pay90]
  simp only [er, ej, h86, h87, hZ, hw89, hw, hs, hdd, ht88, pos_ite, mul_zero, Finset.sum_const_zero, add_zero]
  unfold Ray.read Ray.hid
  by_cases hx : (x : ℕ) < 256
  · rw [dif_pos hx, dif_pos hx]
    by_cases hj : (j : ℕ) < ρ.next.n
    · rw [if_pos hj, if_pos hj, if_pos hj, Ray.next_z hj]
      have hl := Ray.left_lt hn j
      rw [ha j (Ray.lt_total hj)]
      unfold wide
      rw [dif_pos (show ((⟨(x : ℕ), by omega⟩ : Fin 512) : ℕ) < 256 from hx),
        dif_neg (show ¬((⟨256 + (x : ℕ), by omega⟩ : Fin 512) : ℕ) < 256 by show ¬256 + (x : ℕ) < 256; omega),
        if_pos (show ρ.left j < 7 by omega)]
      have ex : ∀ h, (⟨256 + (x : ℕ) - 256, h⟩ : Fin 256) = ⟨x, hx⟩ := fun h => Fin.ext (by show 256 + (x : ℕ) - 256 = x; omega)
      rw [ex]
      rfl
    · rw [if_neg hj, if_neg hj]
  · rw [dif_neg hx, dif_neg hx, dif_pos (show (x : ℕ) - 256 < 3 by omega)]
    have e1 := hs ⟨x - 256, by omega⟩
    have e2 := hdd ⟨x - 256, by omega⟩
    dsimp only at e1 e2
    rw [e1, e2]

end Cert.Proof.Second
-- ==== Proof.Third.lean ====
/- The third insertion as the kernel computes it on a block: thirty-two slots in, sixty-four slots out. -/
module

public import proofs.«01_k».proof.Proof.Gen.KernelIdeal.Skeleton
public import proofs.«01_k».proof.Proof.Place
public import Idealize.ShloMosaic.Lib.Pointwise

@[expose] public section

set_option maxRecDepth 16384

noncomputable section

namespace Cert.Proof.Third

open Finset Idealize.ShloMosaic Cert.KernelIdeal Cert.KernelIdeal.Gen Cert.Proof

attribute [local instance] Cert.KernelIdeal.Gen.facts

variable {ρ : Ray} {r : Fin 32} {v628 : FVec Ideal S32x32 .f32} {v659 : FVec Ideal S1024x384 .f32}
  {v661 : FVec Ideal S384x256 .f32} {v663 : FVec Ideal S1x256 .f32}

/-- The differences of the features. -/
theorem diff (hz : ∀ (i : Fin 32) (h : Fin 256), k0_pay92 v628 v659 v661 v663 (ix3 r i h) = ρ.z i h) (i : Fin 31)
    (h : Fin 256) : k0_pay94 v628 v659 v661 v663 (ix3 r i h) = ρ.dz i h := by
  pointwise [k0_pay94, k0_pay93]
  rw [hz, hz]
  show ρ.z (1 + i) h - _ = _
  rw [add_comm]
  rfl

/-- The crossings of a gap. -/
theorem key (hv : ∀ i : Fin 32, v628 (ix2 r i) = if (i : ℕ) < ρ.n then (1 : EReal) else 0)
    (hz : ∀ (i : Fin 32) (h : Fin 256), k0_pay92 v628 v659 v661 v663 (ix3 r i h) = ρ.z i h) (i : Fin 31) (h : Fin 256) :
    k0_pay95 v628 v659 v661 v663 (ix3 r i h) = ρ.key i h := by
  have hd := diff hz i h
  pointwise [k0_pay95, k0_pay93]
  refine Ray.key_read (i : ℕ) h (hv _) ?_ (hz _ _) hd
  rw [hv]
  show (if 1 + (i : ℕ) < ρ.n then (1 : EReal) else 0) = _
  rw [add_comm]

variable {i : Fin 31}

/-- The smallest crossing of a gap, and the crossings above it. -/
theorem first (hk : ∀ h, k0_pay95 v628 v659 v661 v663 (ix3 r i h) = ρ.key i h) :
    k0_pay96 v628 v659 v661 v663 (ix2 r i) = least (ρ.key i)
      ∧ ∀ h, k0_pay97 v628 v659 v661 v663 (ix3 r i h) = above big (k0_pay96 v628 v659 v661 v663 (ix2 r i)) (ρ.key i) h := by
  constructor
  · pointwise [k0_pay96]
    simp only [hk, bits_top]
    rfl
  · intro h
    pointwise [k0_pay97]
    rw [hk]
    rfl

variable {v707 : FVec Ideal S32x31x256 .f32} {m : EReal}

/-- The three next distinct crossings of a gap. -/
theorem minima (h97 : ∀ h, v707 (ix3 r i h) = above big m (ρ.key i) h) :
    k0_pay98 v707 (ix2 r i) = least (above big m (ρ.key i))
      ∧ k0_pay100 v707 (ix2 r i) = least (above big (k0_pay98 v707 (ix2 r i)) (above big m (ρ.key i)))
      ∧ k0_pay101 v707 (ix2 r i) = least (above big (k0_pay100 v707 (ix2 r i))
        (above big (k0_pay98 v707 (ix2 r i)) (above big m (ρ.key i)))) := by
  have h99 : ∀ h, k0_pay99 v707 (ix3 r i h) = above big (k0_pay98 v707 (ix2 r i)) (above big m (ρ.key i)) h := fun h => by
    pointwise [k0_pay99]
    rw [h97]
    rfl
  refine ⟨?_, ?_, ?_⟩
  · pointwise [k0_pay98]
    simp only [h97, bits_top]
    rfl
  · pointwise [k0_pay100]
    simp only [h99, bits_top]
    rfl
  · pointwise [k0_pay101]
    simp only [h99, bits_top]
    rfl

variable {v701 : FVec Ideal S32x31x256 .f32} {v702 : FVec Ideal S32x31 .f32}

/-- The running counts of the repetitions of the successive minima. -/
theorem counts (hk : ∀ h, v701 (ix3 r i h) = ρ.key i h) :
    k0_pay102 v701 v702 (ix2 r i) = ((hits (ρ.key i) (v702 (ix2 r i)) : ℕ) : EReal)
      ∧ k0_pay103 v701 v702 v707 (ix2 r i)
        = k0_pay102 v701 v702 (ix2 r i) + ((hits (ρ.key i) (k0_pay98 v707 (ix2 r i)) : ℕ) : EReal)
      ∧ k0_pay104 v701 v702 v707 (ix2 r i)
        = k0_pay103 v701 v702 v707 (ix2 r i) + ((hits (ρ.key i) (k0_pay100 v707 (ix2 r i)) : ℕ) : EReal) := by
  refine ⟨?_, ?_, ?_⟩
  · pointwise [k0_pay102]
    simp only [hk]
    exact hit_read _ _
  · pointwise [k0_pay103]
    simp only [hk]
    exact congrArg _ (hit_read _ _)
  · pointwise [k0_pay104]
    simp only [hk]
    exact congrArg _ (hit_read _ _)

/-- The four candidates of a gap, and how many of them are crossings. -/
theorem cands (hk : ∀ h, v701 (ix3 r i h) = ρ.key i h) (h1 : v702 (ix2 r i) = least (ρ.key i))
    (h97 : ∀ h, v707 (ix3 r i h) = above big (v702 (ix2 r i)) (ρ.key i) h) :
    k0_pay106 v701 v702 v707 (ix2 r i) = ρ.cand i 0
      ∧ k0_pay108 v702 (k0_pay98 v707) (k0_pay100 v707) (k0_pay101 v707) (k0_pay102 v701 v702) (k0_pay103 v701 v702 v707)
          (k0_pay104 v701 v702 v707) (ix2 r i) = ρ.cand i 1
      ∧ k0_pay109 v702 (k0_pay98 v707) (k0_pay100 v707) (k0_pay101 v707) (k0_pay102 v701 v702) (k0_pay103 v701 v702 v707)
          (k0_pay104 v701 v702 v707) (ix2 r i) = ρ.cand i 2
      ∧ k0_pay110 v702 (k0_pay98 v707) (k0_pay100 v707) (k0_pay101 v707) (k0_pay102 v701 v702) (k0_pay103 v701 v702 v707)
          (k0_pay104 v701 v702 v707) (ix2 r i) = ρ.cand i 3
      ∧ k0_pay111 v702 (k0_pay98 v707) (k0_pay100 v707) (k0_pay101 v707) (k0_pay102 v701 v702) (k0_pay103 v701 v702 v707)
          (k0_pay104 v701 v702 v707) k0_pay105 (k0_pay107 v701 v702 v707) (ix2 r i) = ((ρ.mult i : ℕ) : EReal) := by
  obtain ⟨h2, h3, h4⟩ := minima h97
  obtain ⟨c1, c2, c3⟩ := counts (v702 := v702) (v707 := v707) hk
  have e0 : k0_pay106 v701 v702 v707 (ix2 r i) = ρ.cand i 0 := by
    pointwise [k0_pay106]
    exact Ray.cand_pick i (by norm_num) h1 h2 h3 h4 c1 c2 c3 Nat.cast_zero.symm
  have e1 : k0_pay108 v702 (k0_pay98 v707) (k0_pay100 v707) (k0_pay101 v707) (k0_pay102 v701 v702) (k0_pay103 v701 v702 v707)
      (k0_pay104 v701 v702 v707) (ix2 r i) = ρ.cand i 1 := by
    pointwise [k0_pay108]
    exact Ray.cand_pick i (by norm_num) h1 h2 h3 h4 c1 c2 c3 Nat.cast_one.symm
  have e2 : k0_pay109 v702 (k0_pay98 v707) (k0_pay100 v707) (k0_pay101 v707) (k0_pay102 v701 v702) (k0_pay103 v701 v702 v707)
      (k0_pay104 v701 v702 v707) (ix2 r i) = ρ.cand i 2 := by
    pointwise [k0_pay109]
    exact Ray.cand_pick i (by norm_num) h1 h2 h3 h4 c1 c2 c3 bits_two
  have e3 : k0_pay110 v702 (k0_pay98 v707) (k0_pay100 v707) (k0_pay101 v707) (k0_pay102 v701 v702) (k0_pay103 v701 v702 v707)
      (k0_pay104 v701 v702 v707) (ix2 r i) = ρ.cand i 3 := by
    pointwise [k0_pay110]
    exact Ray.cand_pick i (by norm_num) h1 h2 h3 h4 c1 c2 c3 bits_three
  refine ⟨e0, e1, e2, e3, ?_⟩
  pointwise [k0_pay111, k0_pay107, k0_pay105]
  simp only [ind]
  exact Ray.mult_read (i : ℕ) e0 e1 e2 e3

theorem pad (j : Fin 1) : k0_pay112 (F := Ideal) (ix2 r j) = 0 := by pointwise [k0_pay112]

variable {v708 v714 v720 v726 v733 v740 v741 v754 v797 : FVec Ideal S32x31 .f32} {v799 : FVec Ideal S32x32 .f32}
  {v800 v801 : IVec S32x32 32}

/-- The numbers of gained knots, with a zero for the last slot. -/
theorem gained (hn : ρ.n ≤ 32)
    (hm : ∀ i : Fin 31, k0_pay111 v702 v708 v714 v720 v726 v733 v740 v741 v754 (ix2 r i) = ((ρ.mult i : ℕ) : EReal)) (i : Fin 32) :
    k0_pay113 v702 v708 v714 v720 v726 v733 v740 v741 v754 (ix2 r i) = ((ρ.mult i : ℕ) : EReal) := by
  pointwise [k0_pay113]
  split
  · rw [hm]
  · rw [pad, Ray.mult_last (by omega), Nat.cast_zero]

/-- Where each old knot goes; far away for the slots without one. -/
theorem place (hv : ∀ i : Fin 32, v628 (ix2 r i) = if (i : ℕ) < ρ.n then (1 : EReal) else 0)
    (hm : ∀ i : Fin 32, v799 (ix2 r i) = ((ρ.mult i : ℕ) : EReal))
    (ha : ∀ a b : Fin 32, v800 (ix2 a b) = BitVec.ofNat 32 a) (hb : ∀ a b : Fin 32, v801 (ix2 a b) = BitVec.ofNat 32 b)
    (i : Fin 32) :
    k0_pay114 v628 v799 v800 v801 (ix2 r i)
      = if (i : ℕ) < ρ.n then ((ρ.pos i : ℕ) : EReal) else ((1000000000 : ℕ) : EReal) := by
  pointwise [k0_pay114]
  simp only [hv, hm, ha, hb, pos_ite, bits_far]
  congr 1
  rw [word (by omega)]
  rw [← Ray.pos_read (ρ := ρ) (N := 32) i (by omega)]
  congr 1
  refine Finset.sum_congr rfl fun x _ => ?_
  rw [slt_word (by omega) (by omega), ind]

/-- The number of knots after the insertion. -/
theorem size (hv : ∀ i : Fin 32, v628 (ix2 r i) = if (i : ℕ) < ρ.n then (1 : EReal) else 0)
    (hm : ∀ i : Fin 31, v797 (ix2 r i) = ((ρ.mult i : ℕ) : EReal)) (hn : ρ.n ≤ 32) (j : Fin 1) :
    k0_pay115 v628 v797 (ix2 r j) = ((ρ.next.n : ℕ) : EReal) := by
  pointwise [k0_pay115]
  simp only [hv, hm, bits_sixtyfour]
  exact Ray.n_read hn (by omega)

theorem slot (j : Fin 64) (k : Fin 1) : k0_pay116 (F := Ideal) (ix3 r j k) = ((j : ℕ) : EReal) := by
  pointwise [k0_pay116]
  exact word (by omega)

/-- The old knot each new knot stands on, as a one-hot row. -/
theorem hot (hn : 1 ≤ ρ.n) (hK : ρ.n ≤ 32) (hp : ∀ i : Fin 32, k0_pay114 v628 v799 v800 v801 (ix2 r i)
      = if (i : ℕ) < ρ.n then ((ρ.pos i : ℕ) : EReal) else ((1000000000 : ℕ) : EReal)) (j : Fin 64) (i : Fin 32) :
    k0_pay117 v628 v799 v800 v801 (ix3 r j i) = if (i : ℕ) = ρ.left j then (1 : EReal) else 0 := by
  pointwise [k0_pay117]
  simp only [ind, hp, slot]
  rw [Ray.left_read (j := (j : ℕ)) hn hK (by omega), word (by omega)]
  simp only [EReal.natCast_eq_iff]

/-- Where the old knot under each new knot stands, and how far past it the new knot is. -/
theorem under (hn : 1 ≤ ρ.n) (hK : ρ.n ≤ 32) (hp : ∀ i : Fin 32, k0_pay114 v628 v799 v800 v801 (ix2 r i)
      = if (i : ℕ) < ρ.n then ((ρ.pos i : ℕ) : EReal) else ((1000000000 : ℕ) : EReal)) (j : Fin 64) (k : Fin 1) :
    k0_pay118 v628 v799 v800 v801 (ix3 r j k) = ((ρ.pos (ρ.left j) : ℕ) : EReal)
      ∧ k0_pay119 v628 v799 v800 v801 (ix3 r j k) = ((j : ℕ) : EReal) - k0_pay118 v628 v799 v800 v801 (ix3 r j k) - 1 := by
  constructor
  · pointwise [k0_pay118]
    simp only [hot hn hK hp]
    have hl := Ray.left_lt hn j
    rw [sum_hot (show ρ.left j < 32 by omega) (fun x => k0_pay114 v628 v799 v800 v801 (ix2 r x)), hp]
    exact if_pos hl
  · pointwise [k0_pay119]
    rw [slot]

variable {v750 v764 v778 v792 : FVec Ideal S32x31 .f32}

/-- Where in its gap each new knot lies. -/
theorem frac (hn : 1 ≤ ρ.n) (hK : ρ.n ≤ 32) (hp : ∀ i : Fin 32, k0_pay114 v628 v799 v800 v801 (ix2 r i)
      = if (i : ℕ) < ρ.n then ((ρ.pos i : ℕ) : EReal) else ((1000000000 : ℕ) : EReal))
    (h0 : ∀ i : Fin 31, v750 (ix2 r i) = ρ.cand i 0) (h1 : ∀ i : Fin 31, v764 (ix2 r i) = ρ.cand i 1)
    (h2 : ∀ i : Fin 31, v778 (ix2 r i) = ρ.cand i 2) (h3 : ∀ i : Fin 31, v792 (ix2 r i) = ρ.cand i 3)
    (j : Fin 64) (hj : (j : ℕ) < ρ.total) (k : Fin 1) :
    k0_pay122 v764 v778 v792 k0_pay112 k0_pay116 (k0_pay117 v628 v799 v800 v801) (k0_pay118 v628 v799 v800 v801)
      (k0_pay119 v628 v799 v800 v801) k0_pay120 (k0_pay121 v628 v750 k0_pay112 v799 v800 v801) (ix3 r j k) = ρ.frac j := by
  obtain ⟨e1, e2⟩ := under hn hK hp j k
  pointwise [k0_pay122, k0_pay121, k0_pay120]
  simp only [hot hn hK hp, pad, mul_zero, Finset.sum_const_zero, add_zero, slot]
  exact Ray.frac_read hn hj e1 e2 (fun hm => ⟨sum_gap (by omega) _ (fun x => ρ.cand x 0) h0,
    sum_gap (by omega) _ (fun x => ρ.cand x 1) h1, sum_gap (by omega) _ (fun x => ρ.cand x 2) h2,
    sum_gap (by omega) _ (fun x => ρ.cand x 3) h3⟩) bits_two bits_three

variable {v819 : FVec Ideal S32x1 .f32}

/-- Which new slots hold a knot. -/
theorem mask (hs : ∀ j, v819 (ix2 r j) = ((ρ.next.n : ℕ) : EReal)) (j : Fin 64) (k : Fin 1) :
    k0_pay124 (F := Ideal) (k0_pay123 v819 k0_pay116) (ix3 r j k) = if (j : ℕ) < ρ.next.n then (1 : EReal) else 0 := by
  pointwise [k0_pay124, k0_pay123]
  simp only [ind, slot, hs, EReal.natCast_lt_iff]

variable {v627 : FVec Ideal S32x32 .f32} {v837 : FVec Ideal S32x64x32 .f32} {v893 : FVec Ideal S32x64x1 .f32}
  {v897 : IVec S32x64x1 32}

/-- The positions of the new knots. -/
theorem time (hn : 1 ≤ ρ.n) (hK : ρ.n ≤ 32)
    (hO : ∀ (j : Fin 64) (i : Fin 32), v837 (ix3 r j i) = if (i : ℕ) = ρ.left j then (1 : EReal) else 0)
    (ht : ∀ i : Fin 32, v627 (ix2 r i) = ρ.t i)
    (hw : ∀ j k, k0_pay124 (F := Ideal) v897 (ix3 r j k) = if (j : ℕ) < ρ.next.n then (1 : EReal) else 0)
    (ha : ∀ j : Fin 64, (j : ℕ) < ρ.total → ∀ k, v893 (ix3 r j k) = ρ.frac j) (j : Fin 64) :
    k0_pay126 v627 k0_pay112 v837 v893 v897 (ix2 r j) = ρ.next.t j := by
  pointwise [k0_pay126]
  simp only [hO, hw, pad, mul_zero, Finset.sum_const_zero, add_zero, pos_ite]
  by_cases hj : (j : ℕ) < ρ.next.n
  · rw [if_pos hj, Ray.next_t hj]
    refine Ray.lerp_read hn (Ray.lt_total hj) hK hK (ha j (Ray.lt_total hj) _) ρ.t _ _ (fun x => ht x) fun x => ?_
    rw [ht, ht]
    show ρ.t (1 + x) - _ = _
    rw [add_comm]
  · rw [if_neg hj, Ray.next_t_past hj]

variable {v674 : FVec Ideal S32x32x256 .f32} {v677 : FVec Ideal S32x31x256 .f32}

/-- The features of the new knots. -/
theorem feat (hn : 1 ≤ ρ.n) (hK : ρ.n ≤ 32) (hr : ρ.Real)
    (hO : ∀ (j : Fin 64) (i : Fin 32), v837 (ix3 r j i) = if (i : ℕ) = ρ.left j then (1 : EReal) else 0)
    (hf : ∀ (i : Fin 32) (h : Fin 256), v674 (ix3 r i h) = ρ.z i h) (hd : ∀ (i : Fin 31) (h : Fin 256), v677 (ix3 r i h) = ρ.dz i h)
    (hw : ∀ j k, k0_pay124 (F := Ideal) v897 (ix3 r j k) = if (j : ℕ) < ρ.next.n then (1 : EReal) else 0)
    (ha : ∀ j : Fin 64, (j : ℕ) < ρ.total → ∀ k, v893 (ix3 r j k) = ρ.frac j) (j : Fin 64) (h : Fin 256) :
    k0_pay125 v674 v677 v837 v893 v897 (ix3 r j h) = ρ.next.z j h := by
  have s1 : ∀ (i : ℕ) (h : Fin 256), ρ.z i h - ρ.z i h = 0 := fun i h => split_eq (hr.2 i h)
  have s2 : ∀ (i : ℕ) (h : Fin 256), ρ.dz i h - ρ.dz i h = 0 := fun i h => split_eq ((hr.2 (i + 1) h).sub (hr.2 i h))
  pointwise [k0_pay125]
  simp only [hO, hw, hf, hd, s1, s2, sub_zero, mul_zero, Finset.sum_const_zero, add_zero, pos_ite]
  by_cases hj : (j : ℕ) < ρ.next.n
  · rw [if_pos hj, Ray.next_z hj]
    exact Ray.lerp_read hn (Ray.lt_total hj) hK hK (ha j (Ray.lt_total hj) _) (fun x => ρ.z x h) _ _ (fun x => rfl) fun x => rfl
  · rw [if_neg hj, Ray.next_z_past hj]

end Cert.Proof.Third
-- ==== Proof.Layers.lean ====
/- The layers as the kernel computes them on a block: the end knots with the first layer's features, the two layers
   between the insertions, and the output layer. -/
module

public import proofs.«01_k».proof.Proof.Gen.KernelIdeal.Skeleton
public import proofs.«01_k».proof.Proof.Place
public import proofs.«01_k».proof.Proof.Net
public import Idealize.ShloMosaic.Lib.Pointwise

@[expose] public section

set_option maxRecDepth 16384

noncomputable section

namespace Cert.Proof.Layers

open Finset Idealize.ShloMosaic Cert.KernelIdeal Cert.KernelIdeal.Gen Cert.Proof

attribute [local instance] Cert.KernelIdeal.Gen.facts

/-- A sum over padded lanes is the sum over the lanes in use. -/
theorem sum_pad {N M : ℕ} (hM : M ≤ N) (f : Fin N → EReal) (g : Fin M → EReal)
    (h : ∀ x : Fin M, f ⟨x, lt_of_lt_of_le x.2 hM⟩ = g x) (h0 : ∀ x : Fin N, M ≤ (x : ℕ) → f x = 0) :
    ∑ x, f x = ∑ x, g x := by
  obtain ⟨k, rfl⟩ := Nat.exists_eq_add_of_le hM
  rw [Fin.sum_univ_add]
  have e : ∑ i : Fin k, f (Fin.natAdd M i) = 0 := Finset.sum_eq_zero fun i _ => h0 _ (by simp)
  rw [e, add_zero]
  exact Finset.sum_congr rfl fun x _ => h x

/-- A sum against weights padded with zeros is the sum against the weights. -/
theorem sum_lanes {N M : ℕ} (hM : M ≤ N) {f : Fin N → EReal} {g : Fin M → EReal} (w : Fin M → EReal)
    (h : ∀ x : Fin M, f ⟨x, lt_of_lt_of_le x.2 hM⟩ = g x) :
    ∑ x : Fin N, f x * (if hx : (x : ℕ) < M then w ⟨x, hx⟩ else 0) = ∑ x, g x * w x := by
  refine sum_pad hM _ _ (fun x => ?_) fun x hx => ?_
  · rw [h, dif_pos x.2]
  · rw [dif_neg (not_lt.mpr hx), mul_zero]

/-- The two end knots hold a knot, the other slots do not. -/
theorem init_mask (r : Fin 32) (i : Fin 8) : k0_pay4 (F := Ideal) (ix2 r i) = if (i : ℕ) < 2 then (1 : EReal) else 0 := by
  pointwise [k0_pay4]
  rw [show (2#32 : BitVec 32) = BitVec.ofNat 32 2 from rfl, slt_word (by omega) (by omega), ind]

theorem select_zero {i : ℕ} (h : i < 2 ^ 31) (a b : EReal) :
    Scalar.select (IntOp.cmpi CmpIPredicate.eq (BitVec.ofNat 32 i) 0#32) a b = if i = 0 then a else b := by
  by_cases h0 : i = 0
  · subst h0
    rw [if_pos rfl]
    rfl
  · have e : ¬BitVec.ofNat 32 i = 0#32 := fun he => by
      have := congrArg BitVec.toNat he
      rw [BitVec.toNat_ofNat, BitVec.toNat_ofNat] at this
      omega
    rw [if_neg h0]
    show Scalar.select (BitVec.ofBool (BitVec.ofNat 32 i == 0#32)) a b = b
    rw [beq_eq_false_iff_ne.mpr e]
    rfl

/-- The positions of the end knots. -/
theorem init_time (r : Fin 32) (i : Fin 8) : k0_pay3 (F := Ideal) (ix2 r i) = if (i : ℕ) = 0 then (0 : EReal) else 1 := by
  pointwise [k0_pay3]
  exact select_zero (by omega) _ _

variable {N : Net} {r : Fin 32} {v0 v2 : Vec Ideal S32x128 .f32} {v16 v19 : Vec Ideal S128x256 .f32} {v22 : Vec Ideal S1x256 .f32}

/-- The features of the end knots. -/
theorem init_feat (he : ∀ x : Fin 3, v0 (ix2 r ⟨x, by omega⟩) = N.e x) (hs : ∀ x : Fin 3, v2 (ix2 r ⟨x, by omega⟩) = N.s x)
    (hW : ∀ (x : Fin 128) (h : Fin 256), v16 (ix2 x h) = if hx : (x : ℕ) < 3 then N.W0 h ⟨x, hx⟩ else 0)
    (hW' : ∀ (x : Fin 128) (h : Fin 256), v19 (ix2 x h) = if hx : (x : ℕ) < 3 then N.W0 h ⟨x, hx⟩ else 0)
    (hb : ∀ h : Fin 256, v22 (ix2 0 h) = N.b0 h) (i : Fin 8) (h : Fin 256) :
    k0_pay5 v0 v2 v16 v19 v22 (ix3 r i h) = N.r1.z i h := by
  pointwise [k0_pay5]
  simp only [init_mask, init_time, hb, hW, hW', pos_ite]
  show _ = if (i : ℕ) < 2 then (∑ x, N.d x * N.W0 h x) * (if (i : ℕ) = 0 then 0 else 1) + (∑ x, N.s x * N.W0 h x + N.b0 h) else 0
  have es : ∀ x : Fin 3, k0_pay1 v2 (ix2 r ⟨x, by omega⟩) = N.s x := fun x => by
    pointwise [k0_pay1]
    exact hs x
  have ed : ∀ x : Fin 3, k0_pay2 v0 v2 (ix2 r ⟨x, by omega⟩) = N.d x := fun x => by
    pointwise [k0_pay2]
    rw [es, he]
    rfl
  rw [sum_lanes (by norm_num) (N.W0 h) ed, sum_lanes (by norm_num) (N.W0 h) es]

variable {ρ : Ray} {s d : Fin 3 → EReal} {W : Fin 256 → Fin 259 → EReal} {b : Fin 256 → EReal}
  {v311 : FVec Ideal S32x8 .f32} {v320 : FVec Ideal S32x8x256 .f32} {v322 : FVec Ideal S32x1x3 .f32} {v328 : FVec Ideal S32x8x3 .f32}
  {v343 : Vec Ideal S384x256 .f32} {v346 : Vec Ideal S1x256 .f32}

/-- The second layer. -/
theorem second (hv : ∀ i : Fin 8, v311 (ix2 r i) = if (i : ℕ) < ρ.n then (1 : EReal) else 0)
    (hz : ∀ (i : Fin 8) (h : Fin 256), v320 (ix3 r i h) = if (i : ℕ) < ρ.n then max (ρ.z i h) 0 else 0)
    (hs : ∀ x, v322 (ix3 r 0 x) = s x) (hd : ∀ (i : Fin 8) x, v328 (ix3 r i x) = ρ.t i * d x)
    (hW : ∀ (x : Fin 384) (h : Fin 256), v343 (ix2 x h) = if hx : (x : ℕ) < 259 then W h ⟨x, hx⟩ else 0)
    (hb : ∀ h : Fin 256, v346 (ix2 0 h) = b h) (i : Fin 8) (h : Fin 256) :
    k0_pay44 v311 v320 v322 v328 v343 v346 (ix3 r i h) = (ρ.layer s d W b).z i h := by
  pointwise [k0_pay44]
  simp only [hv, hz, hs, hd, hb, hW, pos_ite]
  show _ = if (i : ℕ) < ρ.n then ∑ x, ρ.read s d i x * W h x + b h else 0
  rw [sum_lanes (by norm_num) (W h) (g := fun x => ρ.read s d i x)]
  intro x
  unfold Ray.read Ray.hid
  by_cases hx : (x : ℕ) < 256
  · rw [dif_pos hx, dif_pos hx]
  · rw [dif_neg hx, dif_neg hx, dif_pos (show (x : ℕ) - 256 < 3 by omega)]

variable {v628 : FVec Ideal S32x32 .f32} {v659 : FVec Ideal S1024x384 .f32} {v661 : FVec Ideal S384x256 .f32} {v663 : FVec Ideal S1x256 .f32}

/-- The third layer. -/
theorem third (hv : ∀ i : Fin 32, v628 (ix2 r i) = if (i : ℕ) < ρ.n then (1 : EReal) else 0)
    (hr : ∀ (i : Fin 32) (x : Fin 259), v659 (ix2 ⟨r * 32 + i, by omega⟩ ⟨x, by omega⟩) = ρ.read s d i x)
    (hW : ∀ (x : Fin 384) (h : Fin 256), v661 (ix2 x h) = if hx : (x : ℕ) < 259 then W h ⟨x, hx⟩ else 0)
    (hb : ∀ h : Fin 256, v663 (ix2 0 h) = b h) (i : Fin 32) (h : Fin 256) :
    k0_pay92 v628 v659 v661 v663 (ix3 r i h) = (ρ.layer s d W b).z i h := by
  pointwise [k0_pay92]
  simp only [hv, hb, hW, pos_ite]
  show _ = if (i : ℕ) < ρ.n then ∑ x, ρ.read s d i x * W h x + b h else 0
  rw [sum_lanes (by norm_num) (W h) (hr i)]

variable {v943 : FVec Ideal S32x64x256 .f32} {v945 : FVec Ideal S32x64 .f32} {v946 : FVec Ideal S32x64x1 .f32}
  {v956 : Vec Ideal S256x128 .f32} {v959 : Vec Ideal S1x128 .f32} {c : Ideal .f32}

/-- The output layer. -/
theorem output (hc : c = 0) (hv : ∀ j : Fin 64, v945 (ix2 r j) = if (j : ℕ) < ρ.n then (1 : EReal) else 0)
    (hw : ∀ (j : Fin 64) k, v946 (ix3 r j k) = if (j : ℕ) < ρ.n then (1 : EReal) else 0)
    (hz : ∀ (j : Fin 64) (h : Fin 256), v943 (ix3 r j h) = ρ.z j h) {W : Fin 256 → EReal} {b : EReal}
    (hW : ∀ h : Fin 256, v956 (ix2 h 0) = W h) (hb : v959 (ix2 0 0) = b) (j : Fin 64) :
    k0_pay129 v943 v945 v946 c v956 v959 (ix2 r j) = ρ.out W b j := by
  pointwise [k0_pay129]
  rw [hc]
  simp only [hv, hw, hz, hW, hb, pos_ite]
  rfl

end Cert.Proof.Layers
-- ==== Proof.Block.lean ====
/- One block of the kernel from its inputs to its outputs: the words of the body, one after another, are the network's
   knots, positions, masks and values along the block's rays. -/
module

public import proofs.«01_k».proof.Proof.First
public import proofs.«01_k».proof.Proof.Second
public import proofs.«01_k».proof.Proof.Third
public import proofs.«01_k».proof.Proof.Layers

@[expose] public section

set_option maxRecDepth 16384

noncomputable section

namespace Cert.Proof.Block

open Finset Idealize.ShloMosaic Cert.KernelIdeal Cert.KernelIdeal.Gen Cert.Proof

attribute [local instance] Cert.KernelIdeal.Gen.facts

theorem bits_one : (FloatOps.ofBits FTy.f32 1065353216#32 : Ideal .f32) = 1 := by
  show Ideal.ofBits .f32 1065353216#32 = 1
  simp [Ideal.ofBits, Ideal.ieee, -EReal.coe_mul]
  norm_num

theorem bits_zero : (FloatOps.ofBits FTy.f32 0#32 : Ideal .f32) = 0 := by
  show Ideal.ofBits .f32 0#32 = 0
  simp [Ideal.ofBits, Ideal.ieee, -EReal.coe_mul]

/-- The mask of the last insertion without its unit axis. -/
theorem flat_mask (v : IVec S32x64x1 32) (q : Fin 32) (j : Fin 64) :
    k0_pay127 (F := Ideal) v (ix2 q j) = k0_pay124 (F := Ideal) v (ix3 q j 0) := by pointwise [k0_pay127]

/-- The mask of the last insertion with its unit axis put back. -/
theorem tall_mask (v : IVec S32x64x1 32) (q : Fin 32) (j : Fin 64) (k : Fin 1) :
    k0_pay128 (F := Ideal) v (ix3 q j k) = k0_pay127 (F := Ideal) v (ix2 q j) := by pointwise [k0_pay128]

theorem weights (v : Vec Ideal S384x256 .f32) (x : Fin 384) (h : Fin 256) : k0_pay91 v (ix2 x h) = v (ix2 x h) := by
  pointwise [k0_pay91]

variable {N : Net} {q : Fin 32} {v0 v2 : Vec Ideal S32x128 .f32} {v16 : Vec Ideal S128x256 .f32} {v22 : Vec Ideal S1x256 .f32}
  {r r_1 : FVec Ideal S32x128 .f32} {r_2 r_33 : FVec Ideal S32x8x256 .f32} {r_3 r_4 : FVec Ideal S32x7x256 .f32}
  {r_5 r_6 r_7 r_8 r_9 r_10 r_11 r_12 r_13 r_14 r_15 r_16 r_17 r_18 : FVec Ideal S32x7 .f32} {r_19 r_31 r_32 : FVec Ideal S32x8 .f32}
  {r_20 r_21 : FVec Ideal S32x1 .f32} {r_22 : FVec Ideal S32x8x8 .f32} {r_23 r_24 r_25 r_26 r_27 r_28 : FVec Ideal S32x8x1 .f32}
  {r_29 r_30 : FVec Ideal S32x8x1 .f32} {r_34 : FVec Ideal S32x1x3 .f32} {r_35 : FVec Ideal S32x8x3 .f32} {one zero : Ideal .f32}

/-- The first insertion and what it hands to the second layer. -/
theorem stage1 (hN : N.Fine)
    (he : ∀ x : Fin 3, v0 (ix2 q ⟨x, by omega⟩) = N.e x) (hs : ∀ x : Fin 3, v2 (ix2 q ⟨x, by omega⟩) = N.s x)
    (hW : ∀ (x : Fin 128) (h : Fin 256), v16 (ix2 x h) = if hx : (x : ℕ) < 3 then N.W0 h ⟨x, hx⟩ else 0)
    (hb : ∀ h : Fin 256, v22 (ix2 0 h) = N.b0 h)
    (e : r = k0_pay1 v2) (e1 : r_1 = k0_pay2 v0 v2) (e2 : r_2 = k0_pay5 v0 v2 v16 v16 v22)
    (e3 : r_3 = k0_pay7 r_2) (e4 : r_4 = k0_pay8 k0_pay4 r_2) (e5 : r_5 = k0_pay9 k0_pay4 r_2) (e6 : r_6 = k0_pay11 k0_pay4 r_2)
    (e7 : r_7 = k0_pay13 k0_pay4 r_2) (e8 : r_8 = k0_pay14 k0_pay4 r_2) (e9 : r_9 = k0_pay15 r_4 r_5)
    (e10 : r_10 = k0_pay16 r_4 r_5 r_6) (e11 : r_11 = k0_pay17 r_4 r_5 r_6 r_7) (e12 : r_12 = k0_pay18 r_4 r_5 r_6 r_7 r_8)
    (e13 : r_13 = k0_pay19 r_4 r_5 r_6 r_7 r_8) (e14 : r_14 = k0_pay20 r_4 r_5 r_6 r_7 r_8)
    (e15 : r_15 = k0_pay21 r_4 r_5 r_6 r_7 r_8) (e16 : r_16 = k0_pay22 r_5 r_6 r_7 r_8 r_9 r_10 r_11)
    (e17 : r_17 = k0_pay23 r_5 r_6 r_7 r_8 r_9 r_10 r_11) (e18 : r_18 = k0_pay24 r_5 r_6 r_7 r_8 r_9 r_10 r_11 r_13 r_15)
    (e19 : r_19 = k0_pay26 k0_pay4 r_5 r_6 r_7 r_8 r_9 r_10 r_11 r_13 r_15) (e20 : r_20 = k0_pay27 k0_pay4)
    (e21 : r_21 = k0_pay28 r_18 r_20) (e22 : r_22 = k0_pay30 r_19) (e23 : r_23 = k0_pay31 r_19) (e24 : r_24 = k0_pay32 r_19)
    (e25 : r_25 = k0_pay33 r_12 k0_pay25 r_19) (e26 : r_26 = k0_pay34 r_14 k0_pay25 r_19)
    (e27 : r_27 = k0_pay35 r_16 r_17 k0_pay25 k0_pay29 r_22 r_23 r_24 r_25 r_26 one) (e28 : r_28 = k0_pay36 r_21 k0_pay29)
    (e29 : r_29 = k0_pay37 k0_pay3 r_22) (e30 : r_30 = k0_pay38 k0_pay3 k0_pay25 r_22) (e31 : r_31 = k0_pay39 r_27 r_28 r_29 r_30 zero)
    (e32 : r_32 = k0_pay40 r_28) (e33 : r_33 = k0_pay41 r_2 r_3 r_22 r_27 r_28) (e34 : r_34 = k0_pay42 r)
    (e35 : r_35 = k0_pay43 r_1 r_27 r_28 r_29 r_30 zero) (ho : one = (1 : EReal)) (hz : zero = (0 : EReal)) :
    (∀ i : Fin 8, r_31 (ix2 q i) = N.r1.next.t i)
      ∧ (∀ i : Fin 8, r_32 (ix2 q i) = if (i : ℕ) < N.r1.next.n then (1 : EReal) else 0)
      ∧ (∀ (i : Fin 8) (h : Fin 256), r_33 (ix3 q i h) = if (i : ℕ) < N.r1.next.n then max (N.r1.next.z i h) 0 else 0)
      ∧ (∀ x, r_34 (ix3 q 0 x) = N.s x) ∧ (∀ (i : Fin 8) x, r_35 (ix3 q i x) = N.r1.next.t i * N.d x) := by
  have hn := N.one_le_1
  have hK : N.r1.n ≤ 8 := N.le_1.trans (by norm_num)
  have hv : ∀ i : Fin 8, k0_pay4 (F := Ideal) (ix2 q i) = if (i : ℕ) < N.r1.n then (1 : EReal) else 0 := Layers.init_mask q
  have ht : ∀ i : Fin 8, k0_pay3 (F := Ideal) (ix2 q i) = N.r1.t i := Layers.init_time q
  have z0 : ∀ (i : Fin 8) (h : Fin 256), r_2 (ix3 q i h) = N.r1.z i h := fun i h => by
    rw [e2]
    exact Layers.init_feat he hs hW hW hb i h
  have hd : ∀ (i : Fin 7) (h : Fin 256), r_3 (ix3 q i h) = N.r1.dz i h := fun i h => by
    rw [e3]
    exact First.diff z0 i h
  have hk : ∀ (i : Fin 7) (h : Fin 256), r_4 (ix3 q i h) = N.r1.key i h := fun i h => by
    rw [e4]
    exact First.key hv z0 i h
  have hm := fun i : Fin 7 => First.minima (r := q) hv z0 i
  rw [← e5, ← e6, ← e7, ← e8] at hm
  have hc := fun i : Fin 7 => First.cands (hk i) (hm i).1 (hm i).2.1 (hm i).2.2.1 (hm i).2.2.2
  rw [← e9, ← e10, ← e11, ← e12, ← e13, ← e14, ← e15, ← e16, ← e17, ← e18] at hc
  have hp : ∀ i : Fin 8, r_19 (ix2 q i) = if (i : ℕ) < N.r1.n then ((N.r1.pos i : ℕ) : EReal) else ((1000000000 : ℕ) : EReal) :=
    fun i => by
      rw [e19]
      exact First.place hv (fun i => by rw [← e18]; exact (hc i).2.2.2.2) i
  have hsz : ∀ j, r_21 (ix2 q j) = ((N.r1.next.n : ℕ) : EReal) := fun j => by
    rw [e21, e20]
    exact First.size hv (fun i => (hc i).2.2.2.2) hK j
  have hO : ∀ j i : Fin 8, r_22 (ix3 q j i) = if (i : ℕ) = N.r1.left j then (1 : EReal) else 0 := fun j i => by
    rw [e22]
    exact First.hot hn hK hp j i
  have ha : ∀ j : Fin 8, (j : ℕ) < N.r1.total → ∀ k, r_27 (ix3 q j k) = N.r1.frac j := fun j hj k => by
    rw [e27, e22, e23, e24, e25, e26]
    exact First.frac hn hK hp (fun i => (hc i).1) (fun i => (hc i).2.1) (fun i => (hc i).2.2.1) (fun i => (hc i).2.2.2.1) ho j hj k
  have hw : ∀ j k, r_28 (ix3 q j k) = if (j : ℕ) < N.r1.next.n then (1 : EReal) else 0 := fun j k => by
    rw [e28]
    exact First.mask hsz j k
  have hT : ∀ i : Fin 8, r_31 (ix2 q i) = N.r1.next.t i := fun i => by
    rw [e31, e29, e30]
    exact First.time hn hK hO ht hw ha hz i
  refine ⟨hT, fun i => ?_, fun i h => ?_, fun x => ?_, fun i x => ?_⟩
  · rw [e32]
    pointwise [k0_pay40]
    exact hw i _
  · rw [e33]
    exact First.feat hn hK hN.r1 hO z0 hd hw ha i h
  · rw [e34, e]
    pointwise [k0_pay42, k0_pay1]
    exact hs x
  · rw [e35]
    have e31' := hT i
    rw [e31] at e31'
    pointwise [k0_pay43]
    first
      | rw [e31', e1]
      | skip
    pointwise [k0_pay2, k0_pay1]
    rw [hs, he]
    rfl

variable {v343 v661 : Vec Ideal S384x256 .f32} {v346 v663 : Vec Ideal S1x256 .f32} {r_36 : FVec Ideal S32x8x256 .f32}
  {r_37 r_39 : FVec Ideal S32x7x256 .f32} {r_38 : IVec S32x7x256 1} {r_40 : IVec S32x7x1 1}
  {r_41 r_42 r_43 r_44 r_45 r_46 r_48 r_49 r_50 r_51 r_52 r_53 : FVec Ideal S32x7 .f32} {r_47 : FVec Ideal S32x7x256 .f32}
  {r_54 : FVec Ideal S32x8 .f32} {r_55 : FVec Ideal S32x1 .f32} {r_56 r_58 r_59 r_60 r_62 r_63 r_64 : FVec Ideal S32x32x1 .f32}
  {r_57 : FVec Ideal S32x32x8 .f32} {r_61 : FVec Ideal S32x8 .f32} {r_65 : FVec Ideal S32x8x512 .f32}
  {r_66 r_67 : FVec Ideal S32x32x512 .f32} {r_68 r_69 : FVec Ideal S32x32 .f32} {r_70 : FVec Ideal S1024x384 .f32}
  {v515 : IVec S32x32x8 32}

/-- The second insertion and what it hands to the third layer. -/
theorem stage2 (hN : N.Fine)
    (hs : ∀ x : Fin 3, r (ix2 q ⟨x, by omega⟩) = N.s x) (hd : ∀ x : Fin 3, r_1 (ix2 q ⟨x, by omega⟩) = N.d x)
    (h31 : ∀ i : Fin 8, r_31 (ix2 q i) = N.r1.next.t i)
    (h32 : ∀ i : Fin 8, r_32 (ix2 q i) = if (i : ℕ) < N.r1.next.n then (1 : EReal) else 0)
    (h33 : ∀ (i : Fin 8) (h : Fin 256), r_33 (ix3 q i h) = if (i : ℕ) < N.r1.next.n then max (N.r1.next.z i h) 0 else 0)
    (h34 : ∀ x, r_34 (ix3 q 0 x) = N.s x) (h35 : ∀ (i : Fin 8) x, r_35 (ix3 q i x) = N.r1.next.t i * N.d x)
    (hW : ∀ (x : Fin 384) (h : Fin 256), v343 (ix2 x h) = if hx : (x : ℕ) < 259 then N.W1 h ⟨x, hx⟩ else 0)
    (hb : ∀ h : Fin 256, v346 (ix2 0 h) = N.b1 h) (hi : ∀ (j : Fin 32) (i : Fin 8), v515 (ix3 q j i) = BitVec.ofNat 32 i)
    (e36 : r_36 = k0_pay44 r_32 r_33 r_34 r_35 v343 v346) (e37 : r_37 = k0_pay46 r_32 r_33 r_34 r_35 v343 v346)
    (e38 : r_38 = k0_pay47 r_32 r_33 r_34 r_35 v343 v346) (e39 : r_39 = k0_pay48 r_32 r_33 r_34 r_35 v343 v346)
    (e40 : r_40 = k0_pay49 r_32) (e41 : r_41 = k0_pay51 r_38 r_39 r_40) (e42 : r_42 = k0_pay53 r_38 r_39 r_40)
    (e43 : r_43 = k0_pay55 r_38 r_39 r_40) (e44 : r_44 = k0_pay56 r_38 r_39 r_40) (e45 : r_45 = k0_pay57 r_38 r_39 r_40)
    (e46 : r_46 = k0_pay58 r_38 r_39 r_40) (e47 : r_47 = k0_pay59 r_38 r_39 r_40) (e48 : r_48 = k0_pay60 r_46 r_47)
    (e49 : r_49 = k0_pay61 r_41 r_42 r_43 r_44 r_45 r_46 r_47) (e50 : r_50 = k0_pay62 r_41 r_42 r_43 r_44 r_45 r_46 r_47)
    (e51 : r_51 = k0_pay63 r_41 r_42 r_43 r_44 r_45 r_46 r_47) (e52 : r_52 = k0_pay64 r_41 r_42 r_43 r_44 r_45 r_46 r_47)
    (e53 : r_53 = k0_pay66 r_41 r_42 r_43 r_44 r_45 r_46 r_48 k0_pay65)
    (e54 : r_54 = k0_pay69 r_32 r_41 r_42 r_43 r_44 r_45 r_46 r_48 r_52 k0_pay65)
    (e55 : r_55 = k0_pay70 r_32 r_41 r_42 r_43 r_44 r_45 r_46 r_48 r_52 k0_pay65)
    (e56 : r_56 = k0_pay72 r_32 r_41 r_42 r_43 r_44 r_45 r_46 r_48 r_52 k0_pay65)
    (e57 : r_57 = k0_pay73 r_56 v515) (e58 : r_58 = k0_pay74 r_54 r_56 v515) (e59 : r_59 = k0_pay75 r_54 k0_pay71 r_56 v515)
    (e60 : r_60 = k0_pay76 r_49 r_50 r_51 k0_pay68 r_54 k0_pay71 r_56 v515) (e61 : r_61 = k0_pay77 r_53 k0_pay68)
    (e62 : r_62 = k0_pay78 k0_pay71 r_57 r_58 r_59 r_60 r_61) (e63 : r_63 = k0_pay79 r_55 k0_pay71)
    (e64 : r_64 = k0_pay80 r_31 k0_pay68 r_55 k0_pay71 r_57 r_58 r_59 r_60 r_61) (e65 : r_65 = k0_pay85 r_36 r_37)
    (e66 : r_66 = k0_pay86 r_36 r_37 r_57) (e67 : r_67 = k0_pay87 r_36 r_37 r_57) (e68 : r_68 = k0_pay88 r_64)
    (e69 : r_69 = k0_pay89 r_63) (e70 : r_70 = k0_pay90 r r_1 r_57 r_62 r_63 r_64 r_65 r_66 r_67) :
    (∀ i : Fin 32, r_68 (ix2 q i) = N.r2.next.t i)
      ∧ (∀ i : Fin 32, r_69 (ix2 q i) = if (i : ℕ) < N.r2.next.n then (1 : EReal) else 0)
      ∧ (∀ (i : Fin 32) (x : Fin 259), r_70 (ix2 ⟨q * 32 + i, by omega⟩ ⟨x, by omega⟩) = N.r2.next.read N.s N.d i x) := by
  have hn := N.one_le_2
  have hK : N.r2.n ≤ 8 := N.le_2.trans (by norm_num)
  have hv : ∀ i : Fin 8, r_32 (ix2 q i) = if (i : ℕ) < N.r2.n then (1 : EReal) else 0 := h32
  have ht : ∀ i : Fin 8, r_31 (ix2 q i) = N.r2.t i := h31
  have z0 : ∀ (i : Fin 8) (h : Fin 256), k0_pay44 r_32 r_33 r_34 r_35 v343 v346 (ix3 q i h) = N.r2.z i h := fun i h =>
    Layers.second h32 h33 h34 h35 hW hb i h
  have hdz : ∀ (i : Fin 7) (h : Fin 256), r_37 (ix3 q i h) = N.r2.dz i h := fun i h => by
    rw [e37]
    exact Second.diff z0 i h
  have hk : ∀ (i : Fin 7) (h : Fin 256), k0_pay50 r_38 r_39 r_40 (ix3 q i h) = N.r2.key i h := fun i h => by
    rw [e38, e39, e40]
    exact Second.key hv z0 i h
  have hm := fun i : Fin 7 => Second.minima (hk i)
  rw [← e41, ← e42, ← e43, ← e44] at hm
  have hct := fun i : Fin 7 => Second.counts (hk i)
  rw [← e41, ← e42, ← e43, ← e45, ← e46, ← e47] at hct
  have hc := fun i : Fin 7 => Second.cands (hm i).1 (hm i).2.1 (hm i).2.2.1 (hm i).2.2.2 (hct i).1 (hct i).2.1 (hct i).2.2
  rw [← e48, ← e49, ← e50, ← e51, ← e52, ← e53] at hc
  have hp : ∀ i : Fin 8, r_54 (ix2 q i) = if (i : ℕ) < N.r2.n then ((N.r2.pos i : ℕ) : EReal) else ((1000000000 : ℕ) : EReal) :=
    fun i => by
      rw [e54]
      exact Second.place hv (fun i => (hc i).2.2.2.2) i
  have hsz : ∀ j, r_55 (ix2 q j) = ((N.r2.next.n : ℕ) : EReal) := fun j => by
    rw [e55]
    exact Second.size hv (fun i => (hc i).2.2.2.2) hK j
  have hbase : ∀ (j : Fin 32) (k : Fin 1), r_56 (ix3 q j k) = ((N.r2.left j : ℕ) : EReal) := fun j k => by
    rw [e56]
    exact Second.base hn hK (fun i => by rw [← e54]; exact hp i) j k
  have hO : ∀ (j : Fin 32) (i : Fin 8), r_57 (ix3 q j i) = if (i : ℕ) = N.r2.left j then (1 : EReal) else 0 := fun j i => by
    rw [e57]
    exact Second.hot hbase hi j i
  have ha : ∀ j : Fin 32, (j : ℕ) < N.r2.total → ∀ k, k0_pay78 k0_pay71 r_57 r_58 r_59 r_60 r_61 (ix3 q j k) = N.r2.frac j :=
    fun j hj k => by
      rw [e57, e58, e59, e60, e61]
      exact Second.frac hn hK hp hbase hi (fun i => (hc i).1) (fun i => (hc i).2.1) (fun i => (hc i).2.2.1)
        (fun i => (hc i).2.2.2.1) j hj k
  have hw : ∀ (j : Fin 32) k, r_63 (ix3 q j k) = if (j : ℕ) < N.r2.next.n then (1 : EReal) else 0 := fun j k => by
    rw [e63]
    exact Second.mask hsz j k
  have hT : ∀ (j : Fin 32) k, r_64 (ix3 q j k) = N.r2.next.t j := fun j k => by
    rw [e64]
    exact Second.time hn hK hO ht hsz ha j k
  refine ⟨fun i => ?_, fun i => ?_, fun i x => ?_⟩
  · rw [e68]
    pointwise [k0_pay88]
    exact hT i _
  · rw [e69]
    pointwise [k0_pay89]
    exact hw i _
  · rw [e70, e65, e66, e67]
    exact Second.feat hn (N.le_2.trans (by norm_num)) hN.r2 hO (fun i h => by rw [e36]; exact z0 i h) hdz
      (fun j hj k => by rw [e62]; exact ha j hj k) hw hT hs hd i x

variable {r_71 : FVec Ideal S384x256 .f32} {r_72 : FVec Ideal S32x32x256 .f32} {r_73 r_74 r_76 : FVec Ideal S32x31x256 .f32}
  {r_75 r_77 r_78 r_79 r_80 r_81 r_82 r_83 r_84 r_85 r_86 r_87 r_88 : FVec Ideal S32x31 .f32} {r_89 : FVec Ideal S32x32 .f32}
  {r_90 : FVec Ideal S32x1 .f32} {r_91 r_94 : FVec Ideal S32x64x32 .f32} {r_92 r_93 r_95 r_100 : FVec Ideal S32x64x1 .f32}
  {r_96 : IVec S32x64x1 32} {r_97 : FVec Ideal S32x64x256 .f32} {r_98 r_99 r_101 : FVec Ideal S32x64 .f32}
  {v800 v801 : IVec S32x32 32} {v956 : Vec Ideal S256x128 .f32} {v959 : Vec Ideal S1x128 .f32}

/-- The third insertion and the output layer. -/
theorem stage3 (hN : N.Fine)
    (h68 : ∀ i : Fin 32, r_68 (ix2 q i) = N.r2.next.t i)
    (h69 : ∀ i : Fin 32, r_69 (ix2 q i) = if (i : ℕ) < N.r2.next.n then (1 : EReal) else 0)
    (h70 : ∀ (i : Fin 32) (x : Fin 259), r_70 (ix2 ⟨q * 32 + i, by omega⟩ ⟨x, by omega⟩) = N.r2.next.read N.s N.d i x)
    (hW : ∀ (x : Fin 384) (h : Fin 256), v661 (ix2 x h) = if hx : (x : ℕ) < 259 then N.W2 h ⟨x, hx⟩ else 0)
    (hb : ∀ h : Fin 256, v663 (ix2 0 h) = N.b2 h)
    (hW3 : ∀ h : Fin 256, v956 (ix2 h 0) = N.W3 h) (hb3 : v959 (ix2 0 0) = N.b3)
    (h800 : ∀ a b : Fin 32, v800 (ix2 a b) = BitVec.ofNat 32 a) (h801 : ∀ a b : Fin 32, v801 (ix2 a b) = BitVec.ofNat 32 b)
    (e71 : r_71 = k0_pay91 v661)
    (e72 : r_72 = k0_pay92 r_69 r_70 r_71 v663) (e73 : r_73 = k0_pay94 r_69 r_70 r_71 v663)
    (e74 : r_74 = k0_pay95 r_69 r_70 r_71 v663) (e75 : r_75 = k0_pay96 r_69 r_70 r_71 v663)
    (e76 : r_76 = k0_pay97 r_69 r_70 r_71 v663) (e77 : r_77 = k0_pay98 r_76) (e78 : r_78 = k0_pay100 r_76)
    (e79 : r_79 = k0_pay101 r_76) (e80 : r_80 = k0_pay102 r_74 r_75) (e81 : r_81 = k0_pay103 r_74 r_75 r_76)
    (e82 : r_82 = k0_pay104 r_74 r_75 r_76) (e83 : r_83 = k0_pay106 r_74 r_75 r_76) (e84 : r_84 = k0_pay107 r_74 r_75 r_76)
    (e85 : r_85 = k0_pay108 r_75 r_77 r_78 r_79 r_80 r_81 r_82) (e86 : r_86 = k0_pay109 r_75 r_77 r_78 r_79 r_80 r_81 r_82)
    (e87 : r_87 = k0_pay110 r_75 r_77 r_78 r_79 r_80 r_81 r_82)
    (e88 : r_88 = k0_pay111 r_75 r_77 r_78 r_79 r_80 r_81 r_82 k0_pay105 r_84)
    (e89 : r_89 = k0_pay113 r_75 r_77 r_78 r_79 r_80 r_81 r_82 k0_pay105 r_84) (e90 : r_90 = k0_pay115 r_69 r_88)
    (e91 : r_91 = k0_pay117 r_69 r_89 v800 v801) (e92 : r_92 = k0_pay118 r_69 r_89 v800 v801)
    (e93 : r_93 = k0_pay119 r_69 r_89 v800 v801) (e94 : r_94 = k0_pay121 r_69 r_83 k0_pay112 r_89 v800 v801)
    (e95 : r_95 = k0_pay122 r_85 r_86 r_87 k0_pay112 k0_pay116 r_91 r_92 r_93 k0_pay120 r_94) (e96 : r_96 = k0_pay123 r_90 k0_pay116)
    (e97 : r_97 = k0_pay125 r_72 r_73 r_91 r_95 r_96) (e98 : r_98 = k0_pay126 r_68 k0_pay112 r_91 r_95 r_96)
    (e99 : r_99 = k0_pay127 r_96) (e100 : r_100 = k0_pay128 r_96) (e101 : r_101 = k0_pay129 r_97 r_99 r_100 zero v956 v959)
    (hz : zero = (0 : EReal)) :
    (∀ j : Fin 64, r_98 (ix2 q j) = N.fin.t j)
      ∧ (∀ j : Fin 64, r_99 (ix2 q j) = if (j : ℕ) < N.fin.n then (1 : EReal) else 0)
      ∧ (∀ j : Fin 64, r_101 (ix2 q j) = N.y j) := by
  have hn := N.one_le_3
  have hK : N.r3.n ≤ 32 := N.le_3.trans (by norm_num)
  have hv : ∀ i : Fin 32, r_69 (ix2 q i) = if (i : ℕ) < N.r3.n then (1 : EReal) else 0 := h69
  have ht : ∀ i : Fin 32, r_68 (ix2 q i) = N.r3.t i := h68
  have z0 : ∀ (i : Fin 32) (h : Fin 256), k0_pay92 r_69 r_70 r_71 v663 (ix3 q i h) = N.r3.z i h := fun i h =>
    Layers.third h69 h70 (fun x h => by rw [e71, weights]; exact hW x h) hb i h
  have hk : ∀ (i : Fin 31) (h : Fin 256), r_74 (ix3 q i h) = N.r3.key i h := fun i h => by
    rw [e74]
    exact Third.key hv z0 i h
  have h1 := fun i : Fin 31 => Third.first (i := i) (ρ := N.r3) (fun h => by rw [← e74]; exact hk i h)
  rw [← e75, ← e76] at h1
  have hc := fun i : Fin 31 => Third.cands (hk i) (h1 i).1 (h1 i).2
  rw [← e77, ← e78, ← e79, ← e80, ← e81, ← e82, ← e83, ← e84, ← e85, ← e86, ← e87, ← e88] at hc
  have hg : ∀ i : Fin 32, r_89 (ix2 q i) = ((N.r3.mult i : ℕ) : EReal) := fun i => by
    rw [e89]
    exact Third.gained hK (fun i => by rw [← e88]; exact (hc i).2.2.2.2) i
  have hp := fun i : Fin 32 => Third.place hv hg h800 h801 i
  have hsz : ∀ j, r_90 (ix2 q j) = ((N.r3.next.n : ℕ) : EReal) := fun j => by
    rw [e90]
    exact Third.size hv (fun i => (hc i).2.2.2.2) hK j
  have hO : ∀ (j : Fin 64) (i : Fin 32), r_91 (ix3 q j i) = if (i : ℕ) = N.r3.left j then (1 : EReal) else 0 := fun j i => by
    rw [e91]
    exact Third.hot hn hK hp j i
  have ha : ∀ j : Fin 64, (j : ℕ) < N.r3.total → ∀ k, r_95 (ix3 q j k) = N.r3.frac j := fun j hj k => by
    rw [e95, e91, e92, e93, e94]
    exact Third.frac hn hK hp (fun i => (hc i).1) (fun i => (hc i).2.1) (fun i => (hc i).2.2.1) (fun i => (hc i).2.2.2.1) j hj k
  have hw : ∀ (j : Fin 64) k, k0_pay124 (F := Ideal) r_96 (ix3 q j k) = if (j : ℕ) < N.r3.next.n then (1 : EReal) else 0 :=
    fun j k => by
      rw [e96]
      exact Third.mask hsz j k
  have hw2 : ∀ j : Fin 64, r_99 (ix2 q j) = if (j : ℕ) < N.fin.n then (1 : EReal) else 0 := fun j => by
    rw [e99, flat_mask]
    exact hw j _
  refine ⟨fun j => ?_, hw2, fun j => ?_⟩
  · rw [e98]
    exact Third.time hn hK hO ht hw ha j
  · rw [e101]
    refine Layers.output hz hw2 (fun j k => ?_) (fun j h => ?_) hW3 hb3 j
    · rw [e100, tall_mask, flat_mask]
      exact hw j _
    · rw [e97]
      exact Third.feat hn hK hN.r3 hO (fun i h => by rw [e72]; exact z0 i h)
        (fun i h => by rw [e73]; exact Third.diff z0 i h) hw ha j h

end Cert.Proof.Block
-- ==== Proof.Point.lean ====
/- One block of the kernel at a step of the grid: from what the ten input buffers hold to what the body leaves in the
   three output buffers. -/
module

public import proofs.«01_k».proof.Proof.Block
public import proofs.«01_k».proof.Proof.Gen.KernelIdeal.Frame
public import Idealize.ShloMosaic.Lib.Pipeline.ValueKit

@[expose] public section

set_option maxRecDepth 16384

noncomputable section

namespace Cert.Proof.Point

open Finset Idealize.ShloMosaic Cert.KernelIdeal Cert.KernelIdeal.Gen Cert.Proof

attribute [local instance] Cert.KernelIdeal.Gen.facts

/-- The numbers along the last axis of a three-axis array. -/
theorem third (q j : Fin 32) (i : Fin 8) : kernelRun0_A.sl.v515 (ix3 q j i) = BitVec.ofNat 32 i := by
  pointwise [kernelRun0_A.sl.v515]

/-- The row numbers of a square array. -/
theorem row (a b : Fin 32) : kernelRun0_A.sl.v800 (ix2 a b) = BitVec.ofNat 32 a := by pointwise [kernelRun0_A.sl.v800]

/-- The column numbers of a square array. -/
theorem column (a b : Fin 32) : kernelRun0_A.sl.v801 (ix2 a b) = BitVec.ofNat 32 b := by pointwise [kernelRun0_A.sl.v801]

variable {N : Net} {q : Fin 32} (c : Dev nD)
  (arg1 : Memref sig .tc .vmem S32x128 .f32) (harg1 : arg1.IsWhole)
  (arg2 : Memref sig .tc .vmem S32x128 .f32) (harg2 : arg2.IsWhole)
  (arg3 : Memref sig .tc .vmem S128x256 .f32) (harg3 : arg3.IsWhole)
  (arg4 : Memref sig .tc .vmem S1x256 .f32) (harg4 : arg4.IsWhole)
  (arg5 : Memref sig .tc .vmem S384x256 .f32) (harg5 : arg5.IsWhole)
  (arg6 : Memref sig .tc .vmem S1x256 .f32) (harg6 : arg6.IsWhole)
  (arg7 : Memref sig .tc .vmem S384x256 .f32) (harg7 : arg7.IsWhole)
  (arg8 : Memref sig .tc .vmem S1x256 .f32) (harg8 : arg8.IsWhole)
  (arg9 : Memref sig .tc .vmem S256x128 .f32) (harg9 : arg9.IsWhole)
  (arg10 : Memref sig .tc .vmem S1x128 .f32) (harg10 : arg10.IsWhole)
  (x0 : Vec Ideal S32x128 .f32)
  (x1 : Vec Ideal S32x128 .f32)
  (x2 : Vec Ideal S128x256 .f32)
  (x3 : Vec Ideal S1x256 .f32)
  (x4 : Vec Ideal S384x256 .f32)
  (x5 : Vec Ideal S1x256 .f32)
  (x6 : Vec Ideal S384x256 .f32)
  (x7 : Vec Ideal S1x256 .f32)
  (x8 : Vec Ideal S256x128 .f32)
  (x9 : Vec Ideal S1x128 .f32)

/-- The body's three stores, as functions of what the input buffers hold: at row `q` they are the final positions, the mask
    of the knots in use and the network's values along the ray. -/
theorem words (hN : N.Fine)
    (he : ∀ x : Fin 3, x0 (ix2 q ⟨x, by omega⟩) = N.e x) (hs : ∀ x : Fin 3, x1 (ix2 q ⟨x, by omega⟩) = N.s x)
    (hW0 : ∀ (x : Fin 128) (h : Fin 256), x2 (ix2 x h) = if hx : (x : ℕ) < 3 then N.W0 h ⟨x, hx⟩ else 0)
    (hb0 : ∀ h : Fin 256, x3 (ix2 0 h) = N.b0 h)
    (hW1 : ∀ (x : Fin 384) (h : Fin 256), x4 (ix2 x h) = if hx : (x : ℕ) < 259 then N.W1 h ⟨x, hx⟩ else 0)
    (hb1 : ∀ h : Fin 256, x5 (ix2 0 h) = N.b1 h)
    (hW2 : ∀ (x : Fin 384) (h : Fin 256), x6 (ix2 x h) = if hx : (x : ℕ) < 259 then N.W2 h ⟨x, hx⟩ else 0)
    (hb2 : ∀ h : Fin 256, x7 (ix2 0 h) = N.b2 h)
    (hW3 : ∀ h : Fin 256, x8 (ix2 h 0) = N.W3 h) (hb3 : x9 (ix2 0 0) = N.b3) :
    (∀ j : Fin 64, kernelRun0_A.sl.r_98 (F := Ideal) c arg1 harg1 arg2 harg2 arg3 harg3 arg4 harg4 arg5 harg5 arg6 harg6 arg7 harg7 arg8 harg8 x0 x1 x2 x3 x4 x5 x6 x7
        (ix2 q j) = N.fin.t j)
      ∧ (∀ j : Fin 64, kernelRun0_A.sl.r_99 (F := Ideal) c arg1 harg1 arg2 harg2 arg3 harg3 arg4 harg4 arg5 harg5 arg6 harg6 arg7 harg7 arg8 harg8 x0 x1 x2 x3 x4 x5 x6 x7
        (ix2 q j) = if (j : ℕ) < N.fin.n then (1 : EReal) else 0)
      ∧ (∀ j : Fin 64, kernelRun0_A.sl.r_101 (F := Ideal) c arg1 harg1 arg2 harg2 arg3 harg3 arg4 harg4 arg5 harg5 arg6 harg6 arg7 harg7 arg8 harg8 arg9 harg9 arg10 harg10 x0 x1 x2 x3 x4 x5 x6 x7 x8 x9
        (ix2 q j) = N.y j) := by
  have l0 : View.readAt (Elt Ideal) arg1.view (Rect.unit ![0, 0] S32x128.size inb_S32x128_S32x128_0_0).toLoadRect (harg1.unread x0) = x0 := by frame_out
  have l1 : View.readAt (Elt Ideal) arg2.view (Rect.unit ![0, 0] S32x128.size inb_S32x128_S32x128_0_0).toLoadRect (harg2.unread x1) = x1 := by frame_out
  have l2 : View.readAt (Elt Ideal) arg3.view (Rect.unit ![0, 0] S128x256.size inb_S128x256_S128x256_0_0).toLoadRect (harg3.unread x2) = x2 := by frame_out
  have l3 : View.readAt (Elt Ideal) arg4.view (Rect.unit ![0, 0] S1x256.size inb_S1x256_S1x256_0_0).toLoadRect (harg4.unread x3) = x3 := by frame_out
  have l4 : View.readAt (Elt Ideal) arg5.view (Rect.unit ![0, 0] S384x256.size inb_S384x256_S384x256_0_0).toLoadRect (harg5.unread x4) = x4 := by frame_out
  have l5 : View.readAt (Elt Ideal) arg6.view (Rect.unit ![0, 0] S1x256.size inb_S1x256_S1x256_0_0).toLoadRect (harg6.unread x5) = x5 := by frame_out
  have l6 : View.readAt (Elt Ideal) arg7.view (Rect.unit ![0, 0] S384x256.size inb_S384x256_S384x256_0_0).toLoadRect (harg7.unread x6) = x6 := by frame_out
  have l7 : View.readAt (Elt Ideal) arg8.view (Rect.unit ![0, 0] S1x256.size inb_S1x256_S1x256_0_0).toLoadRect (harg8.unread x7) = x7 := by frame_out
  have l8 : View.readAt (Elt Ideal) arg9.view (Rect.unit ![0, 0] S256x128.size inb_S256x128_S256x128_0_0).toLoadRect (harg9.unread x8) = x8 := by frame_out
  have l9 : View.readAt (Elt Ideal) arg10.view (Rect.unit ![0, 0] S1x128.size inb_S1x128_S1x128_0_0).toLoadRect (harg10.unread x9) = x9 := by frame_out
  have s1 := Block.stage1 (N := N) (q := q)
      (v0 := View.readAt (Elt Ideal) arg1.view (Rect.unit ![0, 0] S32x128.size inb_S32x128_S32x128_0_0).toLoadRect (harg1.unread x0))
      (v2 := View.readAt (Elt Ideal) arg2.view (Rect.unit ![0, 0] S32x128.size inb_S32x128_S32x128_0_0).toLoadRect (harg2.unread x1))
      (v16 := View.readAt (Elt Ideal) arg3.view (Rect.unit ![0, 0] S128x256.size inb_S128x256_S128x256_0_0).toLoadRect (harg3.unread x2))
      (v22 := View.readAt (Elt Ideal) arg4.view (Rect.unit ![0, 0] S1x256.size inb_S1x256_S1x256_0_0).toLoadRect (harg4.unread x3))
      (r := kernelRun0_A.sl.r (F := Ideal) c arg2 harg2 x1)
      (r_1 := kernelRun0_A.sl.r_1 (F := Ideal) c arg1 harg1 arg2 harg2 x0 x1)
      (r_2 := kernelRun0_A.sl.r_2 (F := Ideal) c arg1 harg1 arg2 harg2 arg3 harg3 arg4 harg4 x0 x1 x2 x3)
      (r_3 := kernelRun0_A.sl.r_3 (F := Ideal) c arg1 harg1 arg2 harg2 arg3 harg3 arg4 harg4 x0 x1 x2 x3)
      (r_4 := kernelRun0_A.sl.r_4 (F := Ideal) c arg1 harg1 arg2 harg2 arg3 harg3 arg4 harg4 x0 x1 x2 x3)
      (r_5 := kernelRun0_A.sl.r_5 (F := Ideal) c arg1 harg1 arg2 harg2 arg3 harg3 arg4 harg4 x0 x1 x2 x3)
      (r_6 := kernelRun0_A.sl.r_6 (F := Ideal) c arg1 harg1 arg2 harg2 arg3 harg3 arg4 harg4 x0 x1 x2 x3)
      (r_7 := kernelRun0_A.sl.r_7 (F := Ideal) c arg1 harg1 arg2 harg2 arg3 harg3 arg4 harg4 x0 x1 x2 x3)
      (r_8 := kernelRun0_A.sl.r_8 (F := Ideal) c arg1 harg1 arg2 harg2 arg3 harg3 arg4 harg4 x0 x1 x2 x3)
      (r_9 := kernelRun0_A.sl.r_9 (F := Ideal) c arg1 harg1 arg2 harg2 arg3 harg3 arg4 harg4 x0 x1 x2 x3)
      (r_10 := kernelRun0_A.sl.r_10 (F := Ideal) c arg1 harg1 arg2 harg2 arg3 harg3 arg4 harg4 x0 x1 x2 x3)
      (r_11 := kernelRun0_A.sl.r_11 (F := Ideal) c arg1 harg1 arg2 harg2 arg3 harg3 arg4 harg4 x0 x1 x2 x3)
      (r_12 := kernelRun0_A.sl.r_12 (F := Ideal) c arg1 harg1 arg2 harg2 arg3 harg3 arg4 harg4 x0 x1 x2 x3)
      (r_13 := kernelRun0_A.sl.r_13 (F := Ideal) c arg1 harg1 arg2 harg2 arg3 harg3 arg4 harg4 x0 x1 x2 x3)
      (r_14 := kernelRun0_A.sl.r_14 (F := Ideal) c arg1 harg1 arg2 harg2 arg3 harg3 arg4 harg4 x0 x1 x2 x3)
      (r_15 := kernelRun0_A.sl.r_15 (F := Ideal) c arg1 harg1 arg2 harg2 arg3 harg3 arg4 harg4 x0 x1 x2 x3)
      (r_16 := kernelRun0_A.sl.r_16 (F := Ideal) c arg1 harg1 arg2 harg2 arg3 harg3 arg4 harg4 x0 x1 x2 x3)
      (r_17 := kernelRun0_A.sl.r_17 (F := Ideal) c arg1 harg1 arg2 harg2 arg3 harg3 arg4 harg4 x0 x1 x2 x3)
      (r_18 := kernelRun0_A.sl.r_18 (F := Ideal) c arg1 harg1 arg2 harg2 arg3 harg3 arg4 harg4 x0 x1 x2 x3)
      (r_19 := kernelRun0_A.sl.r_19 (F := Ideal) c arg1 harg1 arg2 harg2 arg3 harg3 arg4 harg4 x0 x1 x2 x3)
      (r_20 := kernelRun0_A.sl.r_20 (F := Ideal))
      (r_21 := kernelRun0_A.sl.r_21 (F := Ideal) c arg1 harg1 arg2 harg2 arg3 harg3 arg4 harg4 x0 x1 x2 x3)
      (r_22 := kernelRun0_A.sl.r_22 (F := Ideal) c arg1 harg1 arg2 harg2 arg3 harg3 arg4 harg4 x0 x1 x2 x3)
      (r_23 := kernelRun0_A.sl.r_23 (F := Ideal) c arg1 harg1 arg2 harg2 arg3 harg3 arg4 harg4 x0 x1 x2 x3)
      (r_24 := kernelRun0_A.sl.r_24 (F := Ideal) c arg1 harg1 arg2 harg2 arg3 harg3 arg4 harg4 x0 x1 x2 x3)
      (r_25 := kernelRun0_A.sl.r_25 (F := Ideal) c arg1 harg1 arg2 harg2 arg3 harg3 arg4 harg4 x0 x1 x2 x3)
      (r_26 := kernelRun0_A.sl.r_26 (F := Ideal) c arg1 harg1 arg2 harg2 arg3 harg3 arg4 harg4 x0 x1 x2 x3)
      (r_27 := kernelRun0_A.sl.r_27 (F := Ideal) c arg1 harg1 arg2 harg2 arg3 harg3 arg4 harg4 x0 x1 x2 x3)
      (r_28 := kernelRun0_A.sl.r_28 (F := Ideal) c arg1 harg1 arg2 harg2 arg3 harg3 arg4 harg4 x0 x1 x2 x3)
      (r_29 := kernelRun0_A.sl.r_29 (F := Ideal) c arg1 harg1 arg2 harg2 arg3 harg3 arg4 harg4 x0 x1 x2 x3)
      (r_30 := kernelRun0_A.sl.r_30 (F := Ideal) c arg1 harg1 arg2 harg2 arg3 harg3 arg4 harg4 x0 x1 x2 x3)
      (r_31 := kernelRun0_A.sl.r_31 (F := Ideal) c arg1 harg1 arg2 harg2 arg3 harg3 arg4 harg4 x0 x1 x2 x3)
      (r_32 := kernelRun0_A.sl.r_32 (F := Ideal) c arg1 harg1 arg2 harg2 arg3 harg3 arg4 harg4 x0 x1 x2 x3)
      (r_33 := kernelRun0_A.sl.r_33 (F := Ideal) c arg1 harg1 arg2 harg2 arg3 harg3 arg4 harg4 x0 x1 x2 x3)
      (r_34 := kernelRun0_A.sl.r_34 (F := Ideal) c arg2 harg2 x1)
      (r_35 := kernelRun0_A.sl.r_35 (F := Ideal) c arg1 harg1 arg2 harg2 arg3 harg3 arg4 harg4 x0 x1 x2 x3)
      (one := kernelRun0_A.sl.cst_64 (F := Ideal)) (zero := kernelRun0_A.sl.cst_75 (F := Ideal))
      hN (fun x => (congrFun l0 _).trans (he x)) (fun x => (congrFun l1 _).trans (hs x)) (fun x h => (congrFun l2 _).trans (hW0 x h)) (fun x => (congrFun l3 _).trans (hb0 x))
      (by rfl) (by rfl) (by rfl) (by rfl) (by rfl) (by rfl) (by rfl) (by rfl) (by rfl) (by rfl) (by rfl) (by rfl) (by rfl)
      (by rfl) (by rfl) (by rfl) (by rfl) (by rfl) (by rfl) (by rfl) (by rfl) (by rfl) (by rfl) (by rfl) (by rfl) (by rfl)
      (by rfl) (by rfl) (by rfl) (by rfl) (by rfl) (by rfl) (by rfl) (by rfl) (by rfl) (by rfl)
      Block.bits_one Block.bits_zero
  obtain ⟨h31, h32, h33, h34, h35⟩ := s1
  have hr : ∀ x : Fin 3, kernelRun0_A.sl.r (F := Ideal) c arg2 harg2 x1 (ix2 q ⟨x, by omega⟩) = N.s x := fun x => by
    show k0_pay1 (View.readAt (Elt Ideal) arg2.view (Rect.unit ![0, 0] S32x128.size inb_S32x128_S32x128_0_0).toLoadRect (harg2.unread x1)) _ = _
    rw [l1]
    pointwise [k0_pay1]
    exact hs x
  have hd : ∀ x : Fin 3, kernelRun0_A.sl.r_1 (F := Ideal) c arg1 harg1 arg2 harg2 x0 x1 (ix2 q ⟨x, by omega⟩) = N.d x := fun x => by
    show k0_pay2 (View.readAt (Elt Ideal) arg1.view (Rect.unit ![0, 0] S32x128.size inb_S32x128_S32x128_0_0).toLoadRect (harg1.unread x0))
      (View.readAt (Elt Ideal) arg2.view (Rect.unit ![0, 0] S32x128.size inb_S32x128_S32x128_0_0).toLoadRect (harg2.unread x1)) _ = _
    rw [l0, l1]
    pointwise [k0_pay2, k0_pay1]
    rw [he, hs]
    rfl
  have s2 := Block.stage2 (N := N) (q := q)
      (v343 := View.readAt (Elt Ideal) arg5.view (Rect.unit ![0, 0] S384x256.size inb_S384x256_S384x256_0_0).toLoadRect (harg5.unread x4))
      (v346 := View.readAt (Elt Ideal) arg6.view (Rect.unit ![0, 0] S1x256.size inb_S1x256_S1x256_0_0).toLoadRect (harg6.unread x5))
      (r_36 := kernelRun0_A.sl.r_36 (F := Ideal) c arg1 harg1 arg2 harg2 arg3 harg3 arg4 harg4 arg5 harg5 arg6 harg6 x0 x1 x2 x3 x4 x5)
      (r_37 := kernelRun0_A.sl.r_37 (F := Ideal) c arg1 harg1 arg2 harg2 arg3 harg3 arg4 harg4 arg5 harg5 arg6 harg6 x0 x1 x2 x3 x4 x5)
      (r_38 := kernelRun0_A.sl.r_38 (F := Ideal) c arg1 harg1 arg2 harg2 arg3 harg3 arg4 harg4 arg5 harg5 arg6 harg6 x0 x1 x2 x3 x4 x5)
      (r_39 := kernelRun0_A.sl.r_39 (F := Ideal) c arg1 harg1 arg2 harg2 arg3 harg3 arg4 harg4 arg5 harg5 arg6 harg6 x0 x1 x2 x3 x4 x5)
      (r_40 := kernelRun0_A.sl.r_40 (F := Ideal) c arg1 harg1 arg2 harg2 arg3 harg3 arg4 harg4 x0 x1 x2 x3)
      (r_41 := kernelRun0_A.sl.r_41 (F := Ideal) c arg1 harg1 arg2 harg2 arg3 harg3 arg4 harg4 arg5 harg5 arg6 harg6 x0 x1 x2 x3 x4 x5)
      (r_42 := kernelRun0_A.sl.r_42 (F := Ideal) c arg1 harg1 arg2 harg2 arg3 harg3 arg4 harg4 arg5 harg5 arg6 harg6 x0 x1 x2 x3 x4 x5)
      (r_43 := kernelRun0_A.sl.r_43 (F := Ideal) c arg1 harg1 arg2 harg2 arg3 harg3 arg4 harg4 arg5 harg5 arg6 harg6 x0 x1 x2 x3 x4 x5)
      (r_44 := kernelRun0_A.sl.r_44 (F := Ideal) c arg1 harg1 arg2 harg2 arg3 harg3 arg4 harg4 arg5 harg5 arg6 harg6 x0 x1 x2 x3 x4 x5)
      (r_45 := kernelRun0_A.sl.r_45 (F := Ideal) c arg1 harg1 arg2 harg2 arg3 harg3 arg4 harg4 arg5 harg5 arg6 harg6 x0 x1 x2 x3 x4 x5)
      (r_46 := kernelRun0_A.sl.r_46 (F := Ideal) c arg1 harg1 arg2 harg2 arg3 harg3 arg4 harg4 arg5 harg5 arg6 harg6 x0 x1 x2 x3 x4 x5)
      (r_47 := kernelRun0_A.sl.r_47 (F := Ideal) c arg1 harg1 arg2 harg2 arg3 harg3 arg4 harg4 arg5 harg5 arg6 harg6 x0 x1 x2 x3 x4 x5)
      (r_48 := kernelRun0_A.sl.r_48 (F := Ideal) c arg1 harg1 arg2 harg2 arg3 harg3 arg4 harg4 arg5 harg5 arg6 harg6 x0 x1 x2 x3 x4 x5)
      (r_49 := kernelRun0_A.sl.r_49 (F := Ideal) c arg1 harg1 arg2 harg2 arg3 harg3 arg4 harg4 arg5 harg5 arg6 harg6 x0 x1 x2 x3 x4 x5)
      (r_50 := kernelRun0_A.sl.r_50 (F := Ideal) c arg1 harg1 arg2 harg2 arg3 harg3 arg4 harg4 arg5 harg5 arg6 harg6 x0 x1 x2 x3 x4 x5)
      (r_51 := kernelRun0_A.sl.r_51 (F := Ideal) c arg1 harg1 arg2 harg2 arg3 harg3 arg4 harg4 arg5 harg5 arg6 harg6 x0 x1 x2 x3 x4 x5)
      (r_52 := kernelRun0_A.sl.r_52 (F := Ideal) c arg1 harg1 arg2 harg2 arg3 harg3 arg4 harg4 arg5 harg5 arg6 harg6 x0 x1 x2 x3 x4 x5)
      (r_53 := kernelRun0_A.sl.r_53 (F := Ideal) c arg1 harg1 arg2 harg2 arg3 harg3 arg4 harg4 arg5 harg5 arg6 harg6 x0 x1 x2 x3 x4 x5)
      (r_54 := kernelRun0_A.sl.r_54 (F := Ideal) c arg1 harg1 arg2 harg2 arg3 harg3 arg4 harg4 arg5 harg5 arg6 harg6 x0 x1 x2 x3 x4 x5)
      (r_55 := kernelRun0_A.sl.r_55 (F := Ideal) c arg1 harg1 arg2 harg2 arg3 harg3 arg4 harg4 arg5 harg5 arg6 harg6 x0 x1 x2 x3 x4 x5)
      (r_56 := kernelRun0_A.sl.r_56 (F := Ideal) c arg1 harg1 arg2 harg2 arg3 harg3 arg4 harg4 arg5 harg5 arg6 harg6 x0 x1 x2 x3 x4 x5)
      (r_57 := kernelRun0_A.sl.r_57 (F := Ideal) c arg1 harg1 arg2 harg2 arg3 harg3 arg4 harg4 arg5 harg5 arg6 harg6 x0 x1 x2 x3 x4 x5)
      (r_58 := kernelRun0_A.sl.r_58 (F := Ideal) c arg1 harg1 arg2 harg2 arg3 harg3 arg4 harg4 arg5 harg5 arg6 harg6 x0 x1 x2 x3 x4 x5)
      (r_59 := kernelRun0_A.sl.r_59 (F := Ideal) c arg1 harg1 arg2 harg2 arg3 harg3 arg4 harg4 arg5 harg5 arg6 harg6 x0 x1 x2 x3 x4 x5)
      (r_60 := kernelRun0_A.sl.r_60 (F := Ideal) c arg1 harg1 arg2 harg2 arg3 harg3 arg4 harg4 arg5 harg5 arg6 harg6 x0 x1 x2 x3 x4 x5)
      (r_61 := kernelRun0_A.sl.r_61 (F := Ideal) c arg1 harg1 arg2 harg2 arg3 harg3 arg4 harg4 arg5 harg5 arg6 harg6 x0 x1 x2 x3 x4 x5)
      (r_62 := kernelRun0_A.sl.r_62 (F := Ideal) c arg1 harg1 arg2 harg2 arg3 harg3 arg4 harg4 arg5 harg5 arg6 harg6 x0 x1 x2 x3 x4 x5)
      (r_63 := kernelRun0_A.sl.r_63 (F := Ideal) c arg1 harg1 arg2 harg2 arg3 harg3 arg4 harg4 arg5 harg5 arg6 harg6 x0 x1 x2 x3 x4 x5)
      (r_64 := kernelRun0_A.sl.r_64 (F := Ideal) c arg1 harg1 arg2 harg2 arg3 harg3 arg4 harg4 arg5 harg5 arg6 harg6 x0 x1 x2 x3 x4 x5)
      (r_65 := kernelRun0_A.sl.r_65 (F := Ideal) c arg1 harg1 arg2 harg2 arg3 harg3 arg4 harg4 arg5 harg5 arg6 harg6 x0 x1 x2 x3 x4 x5)
      (r_66 := kernelRun0_A.sl.r_66 (F := Ideal) c arg1 harg1 arg2 harg2 arg3 harg3 arg4 harg4 arg5 harg5 arg6 harg6 x0 x1 x2 x3 x4 x5)
      (r_67 := kernelRun0_A.sl.r_67 (F := Ideal) c arg1 harg1 arg2 harg2 arg3 harg3 arg4 harg4 arg5 harg5 arg6 harg6 x0 x1 x2 x3 x4 x5)
      (r_68 := kernelRun0_A.sl.r_68 (F := Ideal) c arg1 harg1 arg2 harg2 arg3 harg3 arg4 harg4 arg5 harg5 arg6 harg6 x0 x1 x2 x3 x4 x5)
      (r_69 := kernelRun0_A.sl.r_69 (F := Ideal) c arg1 harg1 arg2 harg2 arg3 harg3 arg4 harg4 arg5 harg5 arg6 harg6 x0 x1 x2 x3 x4 x5)
      (r_70 := kernelRun0_A.sl.r_70 (F := Ideal) c arg1 harg1 arg2 harg2 arg3 harg3 arg4 harg4 arg5 harg5 arg6 harg6 x0 x1 x2 x3 x4 x5)
      (r := kernelRun0_A.sl.r (F := Ideal) c arg2 harg2 x1)
      (r_1 := kernelRun0_A.sl.r_1 (F := Ideal) c arg1 harg1 arg2 harg2 x0 x1)
      (r_31 := kernelRun0_A.sl.r_31 (F := Ideal) c arg1 harg1 arg2 harg2 arg3 harg3 arg4 harg4 x0 x1 x2 x3)
      (r_32 := kernelRun0_A.sl.r_32 (F := Ideal) c arg1 harg1 arg2 harg2 arg3 harg3 arg4 harg4 x0 x1 x2 x3)
      (r_33 := kernelRun0_A.sl.r_33 (F := Ideal) c arg1 harg1 arg2 harg2 arg3 harg3 arg4 harg4 x0 x1 x2 x3)
      (r_34 := kernelRun0_A.sl.r_34 (F := Ideal) c arg2 harg2 x1)
      (r_35 := kernelRun0_A.sl.r_35 (F := Ideal) c arg1 harg1 arg2 harg2 arg3 harg3 arg4 harg4 x0 x1 x2 x3)
      (v515 := kernelRun0_A.sl.v515)
      hN hr hd h31 h32 h33 h34 h35 (fun x h => (congrFun l4 _).trans (hW1 x h)) (fun x => (congrFun l5 _).trans (hb1 x))
      (third q)
      (by rfl) (by rfl) (by rfl) (by rfl) (by rfl) (by rfl) (by rfl) (by rfl) (by rfl) (by rfl) (by rfl) (by rfl) (by rfl)
      (by rfl) (by rfl) (by rfl) (by rfl) (by rfl) (by rfl) (by rfl) (by rfl) (by rfl) (by rfl) (by rfl) (by rfl) (by rfl)
      (by rfl) (by rfl) (by rfl) (by rfl) (by rfl) (by rfl) (by rfl) (by rfl) (by rfl)
  obtain ⟨h68, h69, h70⟩ := s2
  exact Block.stage3 (N := N) (q := q)
      (v661 := View.readAt (Elt Ideal) arg7.view (Rect.unit ![0, 0] S384x256.size inb_S384x256_S384x256_0_0).toLoadRect (harg7.unread x6))
      (v663 := View.readAt (Elt Ideal) arg8.view (Rect.unit ![0, 0] S1x256.size inb_S1x256_S1x256_0_0).toLoadRect (harg8.unread x7))
      (v956 := View.readAt (Elt Ideal) arg9.view (Rect.unit ![0, 0] S256x128.size inb_S256x128_S256x128_0_0).toLoadRect (harg9.unread x8))
      (v959 := View.readAt (Elt Ideal) arg10.view (Rect.unit ![0, 0] S1x128.size inb_S1x128_S1x128_0_0).toLoadRect (harg10.unread x9))
      (r_71 := kernelRun0_A.sl.r_71 (F := Ideal) c arg7 harg7 x6)
      (r_72 := kernelRun0_A.sl.r_72 (F := Ideal) c arg1 harg1 arg2 harg2 arg3 harg3 arg4 harg4 arg5 harg5 arg6 harg6 arg7 harg7 arg8 harg8 x0 x1 x2 x3 x4 x5 x6 x7)
      (r_73 := kernelRun0_A.sl.r_73 (F := Ideal) c arg1 harg1 arg2 harg2 arg3 harg3 arg4 harg4 arg5 harg5 arg6 harg6 arg7 harg7 arg8 harg8 x0 x1 x2 x3 x4 x5 x6 x7)
      (r_74 := kernelRun0_A.sl.r_74 (F := Ideal) c arg1 harg1 arg2 harg2 arg3 harg3 arg4 harg4 arg5 harg5 arg6 harg6 arg7 harg7 arg8 harg8 x0 x1 x2 x3 x4 x5 x6 x7)
      (r_75 := kernelRun0_A.sl.r_75 (F := Ideal) c arg1 harg1 arg2 harg2 arg3 harg3 arg4 harg4 arg5 harg5 arg6 harg6 arg7 harg7 arg8 harg8 x0 x1 x2 x3 x4 x5 x6 x7)
      (r_76 := kernelRun0_A.sl.r_76 (F := Ideal) c arg1 harg1 arg2 harg2 arg3 harg3 arg4 harg4 arg5 harg5 arg6 harg6 arg7 harg7 arg8 harg8 x0 x1 x2 x3 x4 x5 x6 x7)
      (r_77 := kernelRun0_A.sl.r_77 (F := Ideal) c arg1 harg1 arg2 harg2 arg3 harg3 arg4 harg4 arg5 harg5 arg6 harg6 arg7 harg7 arg8 harg8 x0 x1 x2 x3 x4 x5 x6 x7)
      (r_78 := kernelRun0_A.sl.r_78 (F := Ideal) c arg1 harg1 arg2 harg2 arg3 harg3 arg4 harg4 arg5 harg5 arg6 harg6 arg7 harg7 arg8 harg8 x0 x1 x2 x3 x4 x5 x6 x7)
      (r_79 := kernelRun0_A.sl.r_79 (F := Ideal) c arg1 harg1 arg2 harg2 arg3 harg3 arg4 harg4 arg5 harg5 arg6 harg6 arg7 harg7 arg8 harg8 x0 x1 x2 x3 x4 x5 x6 x7)
      (r_80 := kernelRun0_A.sl.r_80 (F := Ideal) c arg1 harg1 arg2 harg2 arg3 harg3 arg4 harg4 arg5 harg5 arg6 harg6 arg7 harg7 arg8 harg8 x0 x1 x2 x3 x4 x5 x6 x7)
      (r_81 := kernelRun0_A.sl.r_81 (F := Ideal) c arg1 harg1 arg2 harg2 arg3 harg3 arg4 harg4 arg5 harg5 arg6 harg6 arg7 harg7 arg8 harg8 x0 x1 x2 x3 x4 x5 x6 x7)
      (r_82 := kernelRun0_A.sl.r_82 (F := Ideal) c arg1 harg1 arg2 harg2 arg3 harg3 arg4 harg4 arg5 harg5 arg6 harg6 arg7 harg7 arg8 harg8 x0 x1 x2 x3 x4 x5 x6 x7)
      (r_83 := kernelRun0_A.sl.r_83 (F := Ideal) c arg1 harg1 arg2 harg2 arg3 harg3 arg4 harg4 arg5 harg5 arg6 harg6 arg7 harg7 arg8 harg8 x0 x1 x2 x3 x4 x5 x6 x7)
      (r_84 := kernelRun0_A.sl.r_84 (F := Ideal) c arg1 harg1 arg2 harg2 arg3 harg3 arg4 harg4 arg5 harg5 arg6 harg6 arg7 harg7 arg8 harg8 x0 x1 x2 x3 x4 x5 x6 x7)
      (r_85 := kernelRun0_A.sl.r_85 (F := Ideal) c arg1 harg1 arg2 harg2 arg3 harg3 arg4 harg4 arg5 harg5 arg6 harg6 arg7 harg7 arg8 harg8 x0 x1 x2 x3 x4 x5 x6 x7)
      (r_86 := kernelRun0_A.sl.r_86 (F := Ideal) c arg1 harg1 arg2 harg2 arg3 harg3 arg4 harg4 arg5 harg5 arg6 harg6 arg7 harg7 arg8 harg8 x0 x1 x2 x3 x4 x5 x6 x7)
      (r_87 := kernelRun0_A.sl.r_87 (F := Ideal) c arg1 harg1 arg2 harg2 arg3 harg3 arg4 harg4 arg5 harg5 arg6 harg6 arg7 harg7 arg8 harg8 x0 x1 x2 x3 x4 x5 x6 x7)
      (r_88 := kernelRun0_A.sl.r_88 (F := Ideal) c arg1 harg1 arg2 harg2 arg3 harg3 arg4 harg4 arg5 harg5 arg6 harg6 arg7 harg7 arg8 harg8 x0 x1 x2 x3 x4 x5 x6 x7)
      (r_89 := kernelRun0_A.sl.r_89 (F := Ideal) c arg1 harg1 arg2 harg2 arg3 harg3 arg4 harg4 arg5 harg5 arg6 harg6 arg7 harg7 arg8 harg8 x0 x1 x2 x3 x4 x5 x6 x7)
      (r_90 := kernelRun0_A.sl.r_90 (F := Ideal) c arg1 harg1 arg2 harg2 arg3 harg3 arg4 harg4 arg5 harg5 arg6 harg6 arg7 harg7 arg8 harg8 x0 x1 x2 x3 x4 x5 x6 x7)
      (r_91 := kernelRun0_A.sl.r_91 (F := Ideal) c arg1 harg1 arg2 harg2 arg3 harg3 arg4 harg4 arg5 harg5 arg6 harg6 arg7 harg7 arg8 harg8 x0 x1 x2 x3 x4 x5 x6 x7)
      (r_92 := kernelRun0_A.sl.r_92 (F := Ideal) c arg1 harg1 arg2 harg2 arg3 harg3 arg4 harg4 arg5 harg5 arg6 harg6 arg7 harg7 arg8 harg8 x0 x1 x2 x3 x4 x5 x6 x7)
      (r_93 := kernelRun0_A.sl.r_93 (F := Ideal) c arg1 harg1 arg2 harg2 arg3 harg3 arg4 harg4 arg5 harg5 arg6 harg6 arg7 harg7 arg8 harg8 x0 x1 x2 x3 x4 x5 x6 x7)
      (r_94 := kernelRun0_A.sl.r_94 (F := Ideal) c arg1 harg1 arg2 harg2 arg3 harg3 arg4 harg4 arg5 harg5 arg6 harg6 arg7 harg7 arg8 harg8 x0 x1 x2 x3 x4 x5 x6 x7)
      (r_95 := kernelRun0_A.sl.r_95 (F := Ideal) c arg1 harg1 arg2 harg2 arg3 harg3 arg4 harg4 arg5 harg5 arg6 harg6 arg7 harg7 arg8 harg8 x0 x1 x2 x3 x4 x5 x6 x7)
      (r_96 := kernelRun0_A.sl.r_96 (F := Ideal) c arg1 harg1 arg2 harg2 arg3 harg3 arg4 harg4 arg5 harg5 arg6 harg6 arg7 harg7 arg8 harg8 x0 x1 x2 x3 x4 x5 x6 x7)
      (r_97 := kernelRun0_A.sl.r_97 (F := Ideal) c arg1 harg1 arg2 harg2 arg3 harg3 arg4 harg4 arg5 harg5 arg6 harg6 arg7 harg7 arg8 harg8 x0 x1 x2 x3 x4 x5 x6 x7)
      (r_98 := kernelRun0_A.sl.r_98 (F := Ideal) c arg1 harg1 arg2 harg2 arg3 harg3 arg4 harg4 arg5 harg5 arg6 harg6 arg7 harg7 arg8 harg8 x0 x1 x2 x3 x4 x5 x6 x7)
      (r_99 := kernelRun0_A.sl.r_99 (F := Ideal) c arg1 harg1 arg2 harg2 arg3 harg3 arg4 harg4 arg5 harg5 arg6 harg6 arg7 harg7 arg8 harg8 x0 x1 x2 x3 x4 x5 x6 x7)
      (r_100 := kernelRun0_A.sl.r_100 (F := Ideal) c arg1 harg1 arg2 harg2 arg3 harg3 arg4 harg4 arg5 harg5 arg6 harg6 arg7 harg7 arg8 harg8 x0 x1 x2 x3 x4 x5 x6 x7)
      (r_101 := kernelRun0_A.sl.r_101 (F := Ideal) c arg1 harg1 arg2 harg2 arg3 harg3 arg4 harg4 arg5 harg5 arg6 harg6 arg7 harg7 arg8 harg8 arg9 harg9 arg10 harg10 x0 x1 x2 x3 x4 x5 x6 x7 x8 x9)
      (r_68 := kernelRun0_A.sl.r_68 (F := Ideal) c arg1 harg1 arg2 harg2 arg3 harg3 arg4 harg4 arg5 harg5 arg6 harg6 x0 x1 x2 x3 x4 x5)
      (r_69 := kernelRun0_A.sl.r_69 (F := Ideal) c arg1 harg1 arg2 harg2 arg3 harg3 arg4 harg4 arg5 harg5 arg6 harg6 x0 x1 x2 x3 x4 x5)
      (r_70 := kernelRun0_A.sl.r_70 (F := Ideal) c arg1 harg1 arg2 harg2 arg3 harg3 arg4 harg4 arg5 harg5 arg6 harg6 x0 x1 x2 x3 x4 x5)
      (v800 := kernelRun0_A.sl.v800) (v801 := kernelRun0_A.sl.v801) (zero := kernelRun0_A.sl.cst_75 (F := Ideal))
      hN h68 h69 h70 (fun x h => (congrFun l6 _).trans (hW2 x h)) (fun x => (congrFun l7 _).trans (hb2 x)) (fun x => (congrFun l8 _).trans (hW3 x)) ((congrFun l9 _).trans hb3)
      row column
      (by rfl) (by rfl) (by rfl) (by rfl) (by rfl) (by rfl) (by rfl) (by rfl) (by rfl) (by rfl) (by rfl) (by rfl) (by rfl)
      (by rfl) (by rfl) (by rfl) (by rfl) (by rfl) (by rfl) (by rfl) (by rfl) (by rfl) (by rfl) (by rfl) (by rfl) (by rfl)
      (by rfl) (by rfl) (by rfl) (by rfl) (by rfl)
      Block.bits_zero

end Cert.Proof.Point

end
-- ==== Proof.Host.lean ====
/- What the kernel's ten staged arrays hold when the grid starts: the arguments, transposed where the kernel multiplies by
   the transpose, and padded with zeros to whole tiles. -/
module

public import proofs.«01_k».proof.Proof.Point
public import Idealize.ShloMosaic.Lib.Claim
public import Idealize.ShloMosaic.Lib.StableHlo.ReadAt

@[expose] public section

set_option maxRecDepth 16384

noncomputable section

namespace Cert.Proof.Host

open Idealize.ShloMosaic Idealize.ShloMosaic.TcCoe Idealize.SL.Sem Cert.KernelIdeal Cert.KernelIdeal.Gen Cert.Proof

attribute [local instance] Cert.KernelIdeal.Gen.facts

variable (m : (ℓ : Loc nD τ sig) → Buf (Elt Ideal) ℓ) (c : Dev nD)

/-- The network of row `a`, from the kernel's ten arguments. -/
def net (a : Fin 256) : Net where
  e x := (show FVec Ideal S256x3 .f32 from m ((c : Thread nD τ).loc main_arg0)) (ix2 a x)
  s x := (show FVec Ideal S256x3 .f32 from m ((c : Thread nD τ).loc main_arg1)) (ix2 a x)
  W0 h x := (show FVec Ideal S256x3 .f32 from m ((c : Thread nD τ).loc main_arg2)) (ix2 h x)
  b0 h := (show FVec Ideal S256 .f32 from m ((c : Thread nD τ).loc main_arg3)) (ix1 h)
  W1 h x := (show FVec Ideal S256x259 .f32 from m ((c : Thread nD τ).loc main_arg4)) (ix2 h x)
  b1 h := (show FVec Ideal S256 .f32 from m ((c : Thread nD τ).loc main_arg5)) (ix1 h)
  W2 h x := (show FVec Ideal S256x259 .f32 from m ((c : Thread nD τ).loc main_arg6)) (ix2 h x)
  b2 h := (show FVec Ideal S256 .f32 from m ((c : Thread nD τ).loc main_arg7)) (ix1 h)
  W3 x := (show FVec Ideal S1x256 .f32 from m ((c : Thread nD τ).loc main_arg8)) (ix2 0 x)
  b3 := (show FVec Ideal S1 .f32 from m ((c : Thread nD τ).loc main_arg9)) (ix1 0)

/-- A padding word is zero. -/
theorem blank : (FloatOps.sitofp FTy.f32 (0#32) : Ideal .f32) = (0 : EReal) := by
  show (((0#32 : BitVec 32).toInt : ℝ) : EReal) = 0
  simp

/-- The far ends of the rays. -/
theorem ends (a : Fin 256) (x : Fin 3) :
    (show FVec Ideal S256x128 .f32 from V m c main_v0) (ix2 a ⟨x, by omega⟩) = (net m c a).e x := by
  simp only [V, V0, List.flatten_cons, List.flatten_nil, hostOps0, hostOps0_1, hostOps0_2, hostOps0_3, hostOps0_4, hostOps0_5,
    hostOps0_6, hostOps0_7, hostOps0_8, hostOps0_9, hostOps0_10, hostOps0_11, hostOps0_12, hostOps0_13, List.cons_append,
    List.nil_append, List.append_nil]
  after_reads_at
  rfl

/-- The near ends of the rays. -/
theorem starts (a : Fin 256) (x : Fin 3) :
    (show FVec Ideal S256x128 .f32 from V m c main_v1) (ix2 a ⟨x, by omega⟩) = (net m c a).s x := by
  simp only [V, V0, List.flatten_cons, List.flatten_nil, hostOps0, hostOps0_1, hostOps0_2, hostOps0_3, hostOps0_4, hostOps0_5,
    hostOps0_6, hostOps0_7, hostOps0_8, hostOps0_9, hostOps0_10, hostOps0_11, hostOps0_12, hostOps0_13, List.cons_append,
    List.nil_append, List.append_nil]
  after_reads_at
  rfl

/-- The first layer's weights. -/
theorem weights0 (a : Fin 256) (x : Fin 128) (h : Fin 256) :
    (show FVec Ideal S128x256 .f32 from V m c main_v3) (ix2 x h) = if hx : (x : ℕ) < 3 then (net m c a).W0 h ⟨x, hx⟩ else 0 := by
  simp only [V, V0, List.flatten_cons, List.flatten_nil, hostOps0, hostOps0_1, hostOps0_2, hostOps0_3, hostOps0_4, hostOps0_5,
    hostOps0_6, hostOps0_7, hostOps0_8, hostOps0_9, hostOps0_10, hostOps0_11, hostOps0_12, hostOps0_13, List.cons_append,
    List.nil_append, List.append_nil]
  after_reads_at
  simp only [blank]
  rfl

/-- The first layer's offsets. -/
theorem bias0 (a : Fin 256) (h : Fin 256) :
    (show FVec Ideal S1x256 .f32 from V m c main_v10) (ix2 0 h) = (net m c a).b0 h := by
  simp only [V, V0, List.flatten_cons, List.flatten_nil, hostOps0, hostOps0_1, hostOps0_2, hostOps0_3, hostOps0_4, hostOps0_5,
    hostOps0_6, hostOps0_7, hostOps0_8, hostOps0_9, hostOps0_10, hostOps0_11, hostOps0_12, hostOps0_13, List.cons_append,
    List.nil_append, List.append_nil]
  after_reads_at
  rfl

/-- The second layer's weights. -/
theorem weights1 (a : Fin 256) (x : Fin 384) (h : Fin 256) :
    (show FVec Ideal S384x256 .f32 from V m c main_v5) (ix2 x h) = if hx : (x : ℕ) < 259 then (net m c a).W1 h ⟨x, hx⟩ else 0 := by
  simp only [V, V0, List.flatten_cons, List.flatten_nil, hostOps0, hostOps0_1, hostOps0_2, hostOps0_3, hostOps0_4, hostOps0_5,
    hostOps0_6, hostOps0_7, hostOps0_8, hostOps0_9, hostOps0_10, hostOps0_11, hostOps0_12, hostOps0_13, List.cons_append,
    List.nil_append, List.append_nil]
  after_reads_at
  simp only [blank]
  rfl

/-- The second layer's offsets. -/
theorem bias1 (a : Fin 256) (h : Fin 256) :
    (show FVec Ideal S1x256 .f32 from V m c main_v11) (ix2 0 h) = (net m c a).b1 h := by
  simp only [V, V0, List.flatten_cons, List.flatten_nil, hostOps0, hostOps0_1, hostOps0_2, hostOps0_3, hostOps0_4, hostOps0_5,
    hostOps0_6, hostOps0_7, hostOps0_8, hostOps0_9, hostOps0_10, hostOps0_11, hostOps0_12, hostOps0_13, List.cons_append,
    List.nil_append, List.append_nil]
  after_reads_at
  rfl

/-- The third layer's weights. -/
theorem weights2 (a : Fin 256) (x : Fin 384) (h : Fin 256) :
    (show FVec Ideal S384x256 .f32 from V m c main_v7) (ix2 x h) = if hx : (x : ℕ) < 259 then (net m c a).W2 h ⟨x, hx⟩ else 0 := by
  simp only [V, V0, List.flatten_cons, List.flatten_nil, hostOps0, hostOps0_1, hostOps0_2, hostOps0_3, hostOps0_4, hostOps0_5,
    hostOps0_6, hostOps0_7, hostOps0_8, hostOps0_9, hostOps0_10, hostOps0_11, hostOps0_12, hostOps0_13, List.cons_append,
    List.nil_append, List.append_nil]
  after_reads_at
  simp only [blank]
  rfl

/-- The third layer's offsets. -/
theorem bias2 (a : Fin 256) (h : Fin 256) :
    (show FVec Ideal S1x256 .f32 from V m c main_v12) (ix2 0 h) = (net m c a).b2 h := by
  simp only [V, V0, List.flatten_cons, List.flatten_nil, hostOps0, hostOps0_1, hostOps0_2, hostOps0_3, hostOps0_4, hostOps0_5,
    hostOps0_6, hostOps0_7, hostOps0_8, hostOps0_9, hostOps0_10, hostOps0_11, hostOps0_12, hostOps0_13, List.cons_append,
    List.nil_append, List.append_nil]
  after_reads_at
  rfl

/-- The last layer's weights. -/
theorem weights3 (a : Fin 256) (h : Fin 256) :
    (show FVec Ideal S256x128 .f32 from V m c main_v9) (ix2 h 0) = (net m c a).W3 h := by
  simp only [V, V0, List.flatten_cons, List.flatten_nil, hostOps0, hostOps0_1, hostOps0_2, hostOps0_3, hostOps0_4, hostOps0_5,
    hostOps0_6, hostOps0_7, hostOps0_8, hostOps0_9, hostOps0_10, hostOps0_11, hostOps0_12, hostOps0_13, List.cons_append,
    List.nil_append, List.append_nil]
  after_reads_at
  rfl

/-- The last layer's offset. -/
theorem bias3 (a : Fin 256) :
    (show FVec Ideal S1x128 .f32 from V m c main_v14) (ix2 0 0) = (net m c a).b3 := by
  simp only [V, V0, List.flatten_cons, List.flatten_nil, hostOps0, hostOps0_1, hostOps0_2, hostOps0_3, hostOps0_4, hostOps0_5,
    hostOps0_6, hostOps0_7, hostOps0_8, hostOps0_9, hostOps0_10, hostOps0_11, hostOps0_12, hostOps0_13, List.cons_append,
    List.nil_append, List.append_nil]
  after_reads_at
  rfl

end Cert.Proof.Host

end
-- ==== Proof.Inputs.lean ====
/- The precondition says that every number read before the output layer is real. -/
module

public import proofs.«01_k».proof.Defs
public import proofs.«01_k».proof.Proof.Gen.Pre_finite
public import proofs.«01_k».proof.Proof.Host

@[expose] public section

set_option maxRecDepth 16384

noncomputable section

namespace Cert.Proof.Inputs

open Idealize.ShloMosaic Idealize.ShloMosaic.TcCoe Idealize.SL.Sem Cert.KernelIdeal Cert.Proof

attribute [local instance] Cert.KernelIdeal.Gen.facts Cert.Pre_finite.Gen.facts

/-- The largest word of the format is `+∞`. -/
theorem bits_top : (FloatOps.ofBits FTy.f32 2139095040#32 : Ideal .f32) = (⊤ : EReal) := by
  show Ideal.ofBits .f32 2139095040#32 = ⊤
  simp [Ideal.ofBits, Ideal.ieee]

/-- An extended real whose size is below `+∞` is a real number. -/
theorem real_of_abs {x : EReal} (h : max x (-x) < ⊤) : IsReal x := by
  refine ⟨x.toReal, (EReal.coe_toReal ?_ ?_).symm⟩
  · rintro rfl
    simp at h
  · rintro rfl
    simp at h

/-- The comparison of one array with `+∞`, where it holds. -/
theorem real_of_mark {s : Shape} (x : FVec Ideal s .f32) (hb : Pre_finite.S_.BroadcastsInDim s (![] : Fin 0 → Fin s.rank)) (i : s.Idx)
    (h : cmpf .olt (Host.absf x) (broadcastInDim s ![] hb (constant Pre_finite.S_ .f32 0x7F800000#32)) i = 1#1) : IsReal (x i) := by
  have h' : BitVec.ofBool (decide (max (x i) (-(x i)) < (FloatOps.ofBits FTy.f32 2139095040#32 : Ideal .f32))) = 1#1 := h
  rw [bits_top] at h'
  refine real_of_abs ?_
  by_contra hn
  rw [decide_eq_false hn] at h'
  exact absurd h' (by decide)

variable (m : (ℓ : Loc nD τ sig) → Buf (Elt Ideal) ℓ)

/-- Under the precondition every number of every row's network is real. -/
theorem fine (h : Cert.Pre_KernelIdeal_finite m) (c : Dev nD) (a : Fin 256) : (Host.net m c a).Fine := by
  obtain ⟨h0, h1, h2, h3, h4, h5, h6, h7⟩ := h c
  exact
    { e := fun x => real_of_mark _ _ (ix2 a x) (congrFun h0 (ix2 a x))
      s := fun x => real_of_mark _ _ (ix2 a x) (congrFun h1 (ix2 a x))
      W0 := fun k x => real_of_mark _ _ (ix2 k x) (congrFun h2 (ix2 k x))
      b0 := fun k => real_of_mark _ _ (ix1 k) (congrFun h3 (ix1 k))
      W1 := fun k x => real_of_mark _ _ (ix2 k x) (congrFun h4 (ix2 k x))
      b1 := fun k => real_of_mark _ _ (ix1 k) (congrFun h5 (ix1 k))
      W2 := fun k x => real_of_mark _ _ (ix2 k x) (congrFun h6 (ix2 k x))
      b2 := fun k => real_of_mark _ _ (ix1 k) (congrFun h7 (ix1 k)) }

end Cert.Proof.Inputs

end
-- ==== Proof.Arrays.lean ====
/- What the kernel's three output arrays hold when the grid has run: on every row the final positions, the mask of the
   knots in use and the network's values along the ray. -/
module

public import proofs.«01_k».proof.Proof.Host

@[expose] public section

set_option maxRecDepth 16384

noncomputable section

namespace Cert.Proof.Arrays

open Idealize.ShloMosaic Idealize.ShloMosaic.TcCoe Idealize.SL.Sem Cert.KernelIdeal Cert.KernelIdeal.Gen Cert.Proof
open Idealize.ShloMosaic.Pipeline (Dat)

attribute [local instance] Cert.KernelIdeal.Gen.facts

variable (m : (ℓ : Loc nD τ sig) → Buf (Elt Ideal) ℓ) (c : Dev nD)

/-- Where the blocks of the thirteen windows lie. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] := (by decide +kernel : ∀ t : Fin grid0.N, _)

/-- The row of the arrays that row `q` of the block of step `t` is. -/
def place (t : Fin cfg0.N) (q : Fin 32) : Fin 256 := ⟨t.val * 32 + q.val, by
  have h := t.isLt
  have e : cfg0.N = 8 := by decide
  omega⟩

/-- The block of step `t` is thirty-two rows of the array. -/
theorem read0 (t : Fin cfg0.N) (q : Fin 32) (x : Fin 128) :
    (show FVec Ideal S32x128 .f32 from iblk m c 0 t) (ix2 q x) = (show FVec Ideal S256x128 .f32 from V m c main_v0) (ix2 (place t q) x) := by
  blk_ext [iblk, place, idx t]

/-- The block of step `t` is thirty-two rows of the array. -/
theorem read1 (t : Fin cfg0.N) (q : Fin 32) (x : Fin 128) :
    (show FVec Ideal S32x128 .f32 from iblk m c 1 t) (ix2 q x) = (show FVec Ideal S256x128 .f32 from V m c main_v1) (ix2 (place t q) x) := by
  blk_ext [iblk, place, idx t]

/-- The block of a whole array is the array. -/
theorem read2 (t : Fin cfg0.N) (q : Fin 128) (x : Fin 256) :
    (show FVec Ideal S128x256 .f32 from iblk m c 2 t) (ix2 q x) = (show FVec Ideal S128x256 .f32 from V m c main_v3) (ix2 q x) := by
  blk_ext [iblk, idx t]

/-- The block of a whole array is the array. -/
theorem read3 (t : Fin cfg0.N) (q : Fin 1) (x : Fin 256) :
    (show FVec Ideal S1x256 .f32 from iblk m c 3 t) (ix2 q x) = (show FVec Ideal S1x256 .f32 from V m c main_v10) (ix2 q x) := by
  blk_ext [iblk, idx t]

/-- The block of a whole array is the array. -/
theorem read4 (t : Fin cfg0.N) (q : Fin 384) (x : Fin 256) :
    (show FVec Ideal S384x256 .f32 from iblk m c 4 t) (ix2 q x) = (show FVec Ideal S384x256 .f32 from V m c main_v5) (ix2 q x) := by
  blk_ext [iblk, idx t]

/-- The block of a whole array is the array. -/
theorem read5 (t : Fin cfg0.N) (q : Fin 1) (x : Fin 256) :
    (show FVec Ideal S1x256 .f32 from iblk m c 5 t) (ix2 q x) = (show FVec Ideal S1x256 .f32 from V m c main_v11) (ix2 q x) := by
  blk_ext [iblk, idx t]

/-- The block of a whole array is the array. -/
theorem read6 (t : Fin cfg0.N) (q : Fin 384) (x : Fin 256) :
    (show FVec Ideal S384x256 .f32 from iblk m c 6 t) (ix2 q x) = (show FVec Ideal S384x256 .f32 from V m c main_v7) (ix2 q x) := by
  blk_ext [iblk, idx t]

/-- The block of a whole array is the array. -/
theorem read7 (t : Fin cfg0.N) (q : Fin 1) (x : Fin 256) :
    (show FVec Ideal S1x256 .f32 from iblk m c 7 t) (ix2 q x) = (show FVec Ideal S1x256 .f32 from V m c main_v12) (ix2 q x) := by
  blk_ext [iblk, idx t]

/-- The block of a whole array is the array. -/
theorem read8 (t : Fin cfg0.N) (q : Fin 256) (x : Fin 128) :
    (show FVec Ideal S256x128 .f32 from iblk m c 8 t) (ix2 q x) = (show FVec Ideal S256x128 .f32 from V m c main_v9) (ix2 q x) := by
  blk_ext [iblk, idx t]

/-- The block of a whole array is the array. -/
theorem read9 (t : Fin cfg0.N) (q : Fin 1) (x : Fin 128) :
    (show FVec Ideal S1x128 .f32 from iblk m c 9 t) (ix2 q x) = (show FVec Ideal S1x128 .f32 from V m c main_v14) (ix2 q x) := by
  blk_ext [iblk, idx t]

/-- What the body leaves in output 0 is its one store. -/
theorem left_t (t : Fin cfg0.N) : (outsAt0 m c t).1 = kernelRun0_A.sl.r_98 (F := Ideal)
      c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t) := by
  unfold outsAt0
  dsimp only
  unfold out0_A_10
  rw [View.read_writes_junk_eq_canon]
  exact View.canon_unit_zero (S := S32x64) (funext fun a => by fin_cases a <;> rfl) _ _

/-- What the body leaves in output 1 is its one store. -/
theorem left_v (t : Fin cfg0.N) : (outsAt0 m c t).2.1 = kernelRun0_A.sl.r_99 (F := Ideal)
      c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t) := by
  unfold outsAt0
  dsimp only
  unfold out0_A_11
  rw [View.read_writes_junk_eq_canon]
  exact View.canon_unit_zero (S := S32x64) (funext fun a => by fin_cases a <;> rfl) _ _

/-- What the body leaves in output 2 is its one store. -/
theorem left_y (t : Fin cfg0.N) : (outsAt0 m c t).2.2 = kernelRun0_A.sl.r_101 (F := Ideal)
      c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (iblk m c 8 t) (iblk m c 9 t) := by
  unfold outsAt0
  dsimp only
  unfold out0_A_12
  rw [View.read_writes_junk_eq_canon]
  exact View.canon_unit_zero (S := S32x64) (funext fun a => by fin_cases a <;> rfl) _ _

/-- Row `q` of the output blocks after step `t`. -/
theorem stores (t : Fin cfg0.N) (q : Fin 32) (hN : (Host.net m c (place t q)).Fine) :
    (∀ j : Fin 64, (outsAt0 m c t).1 (ix2 q j) = (Host.net m c (place t q)).fin.t j)
      ∧ (∀ j : Fin 64, (outsAt0 m c t).2.1 (ix2 q j) = if (j : ℕ) < (Host.net m c (place t q)).fin.n then (1 : EReal) else 0)
      ∧ (∀ j : Fin 64, (outsAt0 m c t).2.2 (ix2 q j) = (Host.net m c (place t q)).y j) := by
  rw [left_t, left_v, left_y]
  exact Point.words (N := Host.net m c (place t q)) (q := q) c
    (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) (iblk m c 6 t) (iblk m c 7 t) (iblk m c 8 t) (iblk m c 9 t)
    hN
    (fun x => (read0 m c t q _).trans (Host.ends m c (place t q) x)) (fun x => (read1 m c t q _).trans (Host.starts m c (place t q) x))
    (fun x h => (read2 m c t x h).trans (Host.weights0 m c (place t q) x h)) (fun h => (read3 m c t 0 h).trans (Host.bias0 m c (place t q) h))
    (fun x h => (read4 m c t x h).trans (Host.weights1 m c (place t q) x h)) (fun h => (read5 m c t 0 h).trans (Host.bias1 m c (place t q) h))
    (fun x h => (read6 m c t x h).trans (Host.weights2 m c (place t q) x h)) (fun h => (read7 m c t 0 h).trans (Host.bias2 m c (place t q) h))
    (fun h => (read8 m c t h 0).trans (Host.weights3 m c (place t q) h)) ((read9 m c t 0 0).trans (Host.bias3 m c (place t q)))

/-- The whole array: the final positions on every ray. -/
theorem final_t (hN : ∀ a, (Host.net m c a).Fine) (i : Fin 256) (j : Fin 64) :
    (show FVec Ideal S256x64 .f32 from (dats m 0 c).arrAt 10 (cfgs 0).N) (ix2 i j) = (Host.net m c i).fin.t j := by
  refine congrFun (g := fun k : S256x64.Idx => (fun (i : Fin 256) (j : Fin 64) => (Host.net m c i).fin.t j) (k 0) (k 1))
    ((dats m 0 c).arrAt_eq_of_covers 10 _ (by decide +kernel) fun t _ y => ?_) (ix2 i j)
  blk_simp
  rw [after0_10]
  idx_vars y
  have e0 : (win0_10.blk t).view.emb (ix2 y0 y1) 0 = place t y0 := by
    apply Fin.ext
    blk_simp [idx t, place]
  have e1 : win0_10.index t 1 * 64 + (y1 : ℕ) = y1 := by
    rw [(idx t).2.2.2.2.2.2.2.2.2.2.1]
    simp
  refine ((stores m c t y0 (hN _)).1 y1).trans ?_
  exact congrArg₂ (fun (i : Fin 256) (j : ℕ) => (Host.net m c i).fin.t j) e0.symm e1.symm

/-- The whole array: the mask of the knots in use on every ray. -/
theorem final_v (hN : ∀ a, (Host.net m c a).Fine) (i : Fin 256) (j : Fin 64) :
    (show FVec Ideal S256x64 .f32 from (dats m 0 c).arrAt 11 (cfgs 0).N) (ix2 i j) = if (j : ℕ) < (Host.net m c i).fin.n then (1 : EReal) else 0 := by
  refine congrFun (g := fun k : S256x64.Idx => (fun (i : Fin 256) (j : Fin 64) => if (j : ℕ) < (Host.net m c i).fin.n then (1 : EReal) else 0) (k 0) (k 1))
    ((dats m 0 c).arrAt_eq_of_covers 11 _ (by decide +kernel) fun t _ y => ?_) (ix2 i j)
  blk_simp
  rw [after0_11]
  idx_vars y
  have e0 : (win0_11.blk t).view.emb (ix2 y0 y1) 0 = place t y0 := by
    apply Fin.ext
    blk_simp [idx t, place]
  have e1 : win0_11.index t 1 * 64 + (y1 : ℕ) = y1 := by
    rw [(idx t).2.2.2.2.2.2.2.2.2.2.2.1]
    simp
  refine ((stores m c t y0 (hN _)).2.1 y1).trans ?_
  exact congrArg₂ (fun (i : Fin 256) (j : ℕ) => if (j : ℕ) < (Host.net m c i).fin.n then (1 : EReal) else 0) e0.symm e1.symm

/-- The whole array: the network's values on every ray. -/
theorem final_y (hN : ∀ a, (Host.net m c a).Fine) (i : Fin 256) (j : Fin 64) :
    (show FVec Ideal S256x64 .f32 from (dats m 0 c).arrAt 12 (cfgs 0).N) (ix2 i j) = (Host.net m c i).y j := by
  refine congrFun (g := fun k : S256x64.Idx => (fun (i : Fin 256) (j : Fin 64) => (Host.net m c i).y j) (k 0) (k 1))
    ((dats m 0 c).arrAt_eq_of_covers 12 _ (by decide +kernel) fun t _ y => ?_) (ix2 i j)
  blk_simp
  rw [after0_12]
  idx_vars y
  have e0 : (win0_12.blk t).view.emb (ix2 y0 y1) 0 = place t y0 := by
    apply Fin.ext
    blk_simp [idx t, place]
  have e1 : win0_12.index t 1 * 64 + (y1 : ℕ) = y1 := by
    rw [(idx t).2.2.2.2.2.2.2.2.2.2.2.2]
    simp
  refine ((stores m c t y0 (hN _)).2.2 y1).trans ?_
  exact congrArg₂ (fun (i : Fin 256) (j : ℕ) => (Host.net m c i).y j) e0.symm e1.symm

end Cert.Proof.Arrays

end
-- ==== Proof.Results.lean ====
/- The kernel's three results, as the lines after the grid leave them. -/
module

public import proofs.«01_k».proof.Proof.Arrays

@[expose] public section

set_option maxRecDepth 16384

noncomputable section

namespace Cert.Proof.Results

open Idealize.ShloMosaic Idealize.ShloMosaic.TcCoe Idealize.SL.Sem Cert.KernelIdeal Cert.KernelIdeal.Gen Cert.Proof
open Idealize.ShloMosaic.Pipeline (Dat)

attribute [local instance] Cert.KernelIdeal.Gen.facts

variable (m : (ℓ : Loc nD τ sig) → Buf (Elt Ideal) ℓ) (c : Dev nD)

/-- The arrays of the windows are distinct. -/
theorem arrays_inj : Function.Injective (Pipeline.arrRef spec0) := by decide

/-- The second result is the mask compared with zero. -/
theorem tail_marks (W : Valuation τ sig (Elt Ideal)) (i : Fin 256) (j : Fin 64) (n : ℕ)
    (h : (show FVec Ideal S256x64 .f32 from W (Proc.devRef .tc main_v15_1)) (ix2 i j) = if (j : ℕ) < n then (1 : EReal) else 0) :
    (show IVec S256x64 1 from StableHlo.after hostOps1 W (Proc.devRef .tc main_v17)) (ix2 i j) = BitVec.ofBool (decide ((j : ℕ) < n)) := by
  unfold hostOps1
  after_reads_at
  refine congrArg BitVec.ofBool (decide_eq_decide.mpr ?_)
  show (0 : EReal) < (show FVec Ideal S256x64 .f32 from W (Proc.devRef .tc main_v15_1)) (ix2 i j) ↔ _
  rw [h]
  by_cases hj : (j : ℕ) < n <;> simp [hj]

/-- The third result is the array of values with one more axis. -/
theorem tail_values (W : Valuation τ sig (Elt Ideal)) (i : Fin 256) (j : Fin 64) :
    (show FVec Ideal S256x64x1 .f32 from StableHlo.after hostOps1 W (Proc.devRef .tc main_v18)) (ix3 i j 0)
      = (show FVec Ideal S256x64 .f32 from W (Proc.devRef .tc main_v15_2)) (ix2 i j) := by
  unfold hostOps1
  after_reads_at

/-- The second result: the marks of the knots in use. -/
theorem marks (hN : ∀ a, (Host.net m c a).Fine) (i : Fin 256) (j : Fin 64) :
    (show IVec S256x64 1 from Pipeline.afterTail₀ cfgs (dats m) 0 (V0 m) [hostOps1] c main_v17) (ix2 i j)
      = BitVec.ofBool (decide ((j : ℕ) < (Host.net m c i).fin.n)) := by
  have e : Pipeline.withArrays spec0 c (V0 m c) (fun w => (dats m 0 c).arrAt w (cfgs 0).N) (Proc.devRef .tc main_v15_1)
      = (dats m 0 c).arrAt 11 (cfgs 0).N := Pipeline.withArrays_arr spec0 arrays_inj c _ _ 11
  exact tail_marks _ i j _ ((congrFun e _).trans (Arrays.final_v m c hN i j))

/-- The third result: the values. -/
theorem values (hN : ∀ a, (Host.net m c a).Fine) (i : Fin 256) (j : Fin 64) :
    (show FVec Ideal S256x64x1 .f32 from Pipeline.afterTail₀ cfgs (dats m) 0 (V0 m) [hostOps1] c main_v18) (ix3 i j 0)
      = (Host.net m c i).y j := by
  have e : Pipeline.withArrays spec0 c (V0 m c) (fun w => (dats m 0 c).arrAt w (cfgs 0).N) (Proc.devRef .tc main_v15_2)
      = (dats m 0 c).arrAt 12 (cfgs 0).N := Pipeline.withArrays_arr spec0 arrays_inj c _ _ 12
  exact (tail_values _ i j).trans ((congrFun e _).trans (Arrays.final_y m c hN i j))

end Cert.Proof.Results

end
-- ==== Proof.KernelRun.lean ====
/- The run of the kernel: its three results are those of the rows' networks. -/
module

public import proofs.«01_k».proof.Proof.Answer
public import proofs.«01_k».proof.Proof.Inputs
public import proofs.«01_k».proof.Proof.Results

@[expose] public section

set_option maxRecDepth 16384

noncomputable section

namespace Cert.Proof.KernelRun

open Idealize.ShloMosaic Idealize.ShloMosaic.StableHlo Idealize.ShloMosaic.TcCoe Idealize.SL.Sem Cert.KernelIdeal Cert.KernelIdeal.Gen Cert.Proof

attribute [local instance] Cert.KernelIdeal.Gen.facts Cert.Pre_finite.Gen.facts

variable (m : (ℓ : Loc nD τ sig) → Buf (Elt Ideal) ℓ)

/-- The first result, whole. -/
theorem times (hN : ∀ c a, (Host.net m c a).Fine) (c : Dev nD) :
    (show FVec Ideal S256x64 .f32 from (dats m 0 c).arrAt 10 (cfgs 0).N) = Answer.times (Host.net m c) := by
  funext k
  idx_vars k
  exact Arrays.final_t m c (hN c) _ _

/-- The second result, whole. -/
theorem marks (hN : ∀ c a, (Host.net m c a).Fine) (c : Dev nD) :
    (show IVec S256x64 1 from Pipeline.afterTail₀ cfgs (dats m) 0 (V0 m) [hostOps1] c main_v17) = Answer.marks (Host.net m c) := by
  funext k
  idx_vars k
  exact Results.marks m c (hN c) _ _

/-- The third result, whole. -/
theorem values (hN : ∀ c a, (Host.net m c a).Fine) (c : Dev nD) :
    (show FVec Ideal S256x64x1 .f32 from Pipeline.afterTail₀ cfgs (dats m) 0 (V0 m) [hostOps1] c main_v18) = Answer.values (Host.net m c) := by
  funext k
  idx_vars k
  obtain rfl : k2 = 0 := Subsingleton.elim _ _
  exact Results.values m c (hN c) _ _

/-- From arguments of real numbers the kernel runs to its end, its results are the networks', its arguments are unchanged. -/
theorem run (ρ : Dev nD → PrngReg) (hN : ∀ c a, (Host.net m c a).Fine) :
    θ_run defs (onTc (τ := τ) (main (F := Ideal))) ⟨m, fun _ => 0, ρ⟩ fun r => ∀ c : Dev nD,
      r.2.mem ((c.tc : Thread nD τ).loc main_v15_0) = (show Buf (Elt Ideal) ((c.tc : Thread nD τ).loc main_v15_0) from Answer.times (Host.net m c))
      ∧ r.2.mem ((c.tc : Thread nD τ).loc main_v17) = (show Buf (Elt Ideal) ((c.tc : Thread nD τ).loc main_v17) from Answer.marks (Host.net m c))
      ∧ r.2.mem ((c.tc : Thread nD τ).loc main_v18) = (show Buf (Elt Ideal) ((c.tc : Thread nD τ).loc main_v18) from Answer.values (Host.net m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨((h c).1 10).trans (times m hN c),
      ((h c).2 main_v17 (Pipeline.mem_restRefs_of main_v17 (by decide) (by decide))).trans (marks m hN c),
      ((h c).2 main_v18 (Pipeline.mem_restRefs_of main_v18 (by decide) (by decide))).trans (values m hN c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩) (run_main m ρ)

end Cert.Proof.KernelRun

end
-- ==== Proof.Moves.lean ====
/- What the reference's data movements compute: its sort along the features, its running count along a row, and its
   scatters into the rows of knots. -/
module

public import proofs.«01_k».proof.Proof.Gen.ReferenceIdeal
public import proofs.«01_k».proof.Proof.OrdStat
public import Idealize.ShloMosaic.Lib.Pointwise
public import Idealize.ShloMosaic.Lib.SortFacts
public import Idealize.ShloMosaic.Lib.Routing.OpsPair
public import Idealize.ShloMosaic.Lib.Routing.Ops

@[expose] public section

set_option maxRecDepth 16384

noncomputable section

namespace Cert.Proof.Moves

open Finset Idealize.ShloMosaic Cert.ReferenceIdeal Cert.ReferenceIdeal.Gen Cert.Proof

attribute [local instance] Cert.ReferenceIdeal.Gen.facts

/-! The sort. -/

/-- The comparator of the sort says "before" exactly for the smaller number. -/
theorem before_iff (l r : EReal) : comparator_f32_d2 (F := Ideal) l r = BitVec.ofBool (decide (l < r)) := by
  have hz : ∀ x : EReal, Scalar.select (FloatOps.cmpf (F := Ideal) (φ := .f32) .oeq x (FloatOps.ofBits .f32 0x00000000#32))
      (FloatOps.ofBits (F := Ideal) .f32 0x00000000#32) x = x := fun x => by
    show Scalar.select (BitVec.ofBool (decide (x = _))) _ x = x
    by_cases h : x = FloatOps.ofBits (F := Ideal) .f32 0x00000000#32
    · rw [decide_eq_true h]
      exact h.symm
    · rw [decide_eq_false h]
      rfl
  have hn : ∀ x y z : EReal, Scalar.select (FloatOps.cmpf (F := Ideal) (φ := .f32) .une x x) y z = z := fun x y z => by
    show Scalar.select (BitVec.ofBool (decide (x ≠ x))) y z = z
    rw [decide_eq_false (by simp)]
    rfl
  unfold comparator_f32_d2
  dsimp only
  rw [hz, hz, hn, hn]
  rfl

/-- A family read through a permutation that orders it shows its order statistics. -/
theorem stat_of_sorted {n : ℕ} (f : Fin n → EReal) (σ : Fin n → Fin n) (hσ : Function.Bijective σ)
    (hm : ∀ i j, i < j → f (σ i) ≤ f (σ j)) (c : Fin n) : IsStat f c (f (σ c)) := by
  classical
  have hle : ∀ i j, i ≤ j → f (σ i) ≤ f (σ j) := fun i j h => by
    rcases h.eq_or_lt with rfl | h
    · exact le_rfl
    · exact hm i j h
  refine ⟨⟨σ c, rfl⟩, ?_, ?_⟩
  · have hs : (univ.filter fun h => f h < f (σ c)) ⊆ (Finset.Iio c).image σ := fun h hh => by
      obtain ⟨k, rfl⟩ := hσ.2 h
      simp only [mem_filter, mem_univ, true_and] at hh
      refine mem_image_of_mem _ (mem_Iio.mpr ?_)
      by_contra hk
      exact absurd hh (not_lt.mpr (hle c k (not_lt.mp hk)))
    exact (card_le_card hs).trans (card_image_le.trans (by rw [Fin.card_Iio]))
  · have hs : (Finset.Iic c).image σ ⊆ univ.filter fun h => f h ≤ f (σ c) := fun h hh => by
      obtain ⟨k, hk, rfl⟩ := mem_image.mp hh
      simp only [mem_filter, mem_univ, true_and]
      exact hle k c (mem_Iic.mp hk)
    have := card_le_card hs
    rw [card_image_of_injective _ hσ.1, Fin.card_Iic] at this
    exact this

/-- The sorted array holds at place `c` of a fibre the `c`-th smallest entry of the fibre. -/
theorem sort_stat (x : S256x63x256.Idx → Ideal .f32) (a : Fin 256) (i : Fin 63) (c : Fin 256) :
    IsStat (fun h : Fin 256 => x (ix3 a i h)) c (Host.sort S256x63x256 2 (comparator_f32_d2 (F := Ideal)) x (ix3 a i c)) := by
  have hal : ∀ k : Fin 256, (ix3 a i c : S256x63x256.Idx).along (2 : Fin 3) k = ix3 a i k := fun k => by
    funext q
    fin_cases q <;> rfl
  have hs : Host.sort S256x63x256 2 (comparator_f32_d2 (F := Ideal)) x (ix3 a i c)
      = x (ix3 a i (sortedFrom (fun k k' : Fin 256 => comparator_f32_d2 (F := Ideal) (x (ix3 a i k)) (x (ix3 a i k')) == 1#1) c)) := by
    have hB : (fun k k' : Fin 256 => comparator_f32_d2 (F := Ideal) (x (ix3 a i k)) (x (ix3 a i k')) == 1#1)
        = fun k k' : Fin 256 => comparator_f32_d2 (F := Ideal) (x ((ix3 a i c : S256x63x256.Idx).along (2 : Fin 3) k))
          (x ((ix3 a i c : S256x63x256.Idx).along (2 : Fin 3) k')) == 1#1 := by
      funext k k'
      rw [hal, hal]
    refine Eq.trans ?_ (congrArg x (hal _))
    rw [hB]
    unfold Host.sort
    rw [dif_pos (show 2 < S256x63x256.rank by decide)]
    rfl
  rw [hs]
  set B : Fin 256 → Fin 256 → Bool := fun k k' => comparator_f32_d2 (F := Ideal) (x (ix3 a i k)) (x (ix3 a i k')) == 1#1 with hB
  have hb : ∀ k k', B k k' = true ↔ x (ix3 a i k) < x (ix3 a i k') := fun k k' => by
    rw [hB]
    dsimp only
    rw [before_iff]
    by_cases h : x (ix3 a i k) < x (ix3 a i k') <;> simp [h]
  have hf : ∀ k k', B k k' = false ↔ x (ix3 a i k') ≤ x (ix3 a i k) := fun k k' => by
    rw [← not_lt, ← hb, Bool.not_eq_true]
  refine stat_of_sorted (fun h => x (ix3 a i h)) (sortedFrom B) ⟨sortedFrom_injective B, sortedFrom_surjective B⟩ (fun p q hpq => ?_) c
  have := sortedFrom_noInversion B B (fun k k' h => (hf _ _).mpr ((hb _ _).mp h).le) (fun k k' h => h)
    (fun k k' k'' h h' => (hf _ _).mpr (((hf _ _).mp h').trans ((hf _ _).mp h))) p q hpq
  exact (hf _ _).mp this

/-! The running count. -/

/-- A prefix sum as a sum over a window that reaches back over the whole row. -/
theorem window_sum {N : ℕ} (f : ℕ → ℕ) {j : ℕ} (hj : j ≤ N) :
    ∑ b : Fin (N + 1), (if N ≤ j + b then f (j + b - N) else 0) = ∑ l ∈ range (j + 1), f l := by
  have hr : N + 1 = (N - j) + (j + 1) := by omega
  rw [Fin.sum_univ_eq_sum_range (fun b => if N ≤ j + b then f (j + b - N) else 0) (N + 1), hr, Finset.sum_range_add]
  rw [Finset.sum_eq_zero fun b hb => if_neg (by have := mem_range.mp hb; omega), zero_add]
  exact Finset.sum_congr rfl fun l hl => by
    have := mem_range.mp hl
    rw [if_pos (by omega)]
    congr 1
    omega

/-- The running sum of a row of small numbers held in words. -/
theorem running (x : IVec S256x316 32) (init : IVec S_ 32) (a : Fin 256) (f : ℕ → ℕ)
    (hx : ∀ l : Fin 316, x (ix2 a l) = BitVec.ofNat 32 (f l)) (hi : ∀ k, init k = 0#32)
    (h : S256x316.ReduceWindows ![1, 316] ![1, 1] ![0, 315] ![0, 0] S256x316) (hu : 0 < S_.numel) (j : Fin 316) :
    Host.reduceWindow IntOp.addi ![1, 316] ![1, 1] ![0, 315] ![0, 0] x init h hu (ix2 a j)
      = BitVec.ofNat 32 (∑ l ∈ range (j + 1), f l) := by
  have hj := j.isLt
  unfold Host.reduceWindow
  dsimp only
  rw [hi]
  refine (Routing.foldl_addi_ofNat _ _
    (fun n => (fun w : (⟨2, ![1, 316]⟩ : Shape).Idx => if 315 ≤ (j : ℕ) + (w 1).val then f (j + (w 1).val - 315) else 0)
      ((⟨2, ![1, 316]⟩ : Shape).rowMajor.symm n)) (fun n _ => ?_) _ 0 rfl).trans ?_
  · let w := (⟨2, ![1, 316]⟩ : Shape).rowMajor.symm n
    show _ = BitVec.ofNat 32 (if 315 ≤ (j : ℕ) + (w 1).val then f (j + (w 1).val - 315) else 0)
    have w0 : (w 0).val = 0 := by
      have : (w 0).val < 1 := (w 0).isLt
      omega
    have w1 : (w 1).val < 316 := (w 1).isLt
    split
    · rename_i hin
      have h1 := hin 1
      change 315 ≤ (j : ℕ) * 1 + (w 1).val ∧ (j : ℕ) * 1 + (w 1).val - 315 < 316 at h1
      rw [if_pos (by omega)]
      refine (congrArg x (funext fun q => Fin.ext ?_)).trans (hx ⟨j + (w 1).val - 315, by omega⟩)
      match q with
      | ⟨0, _⟩ =>
        show (a : ℕ) * 1 + (w 0).val - 0 = a
        omega
      | ⟨1, _⟩ =>
        show (j : ℕ) * 1 + (w 1).val - 315 = j + (w 1).val - 315
        omega
    · rename_i hin
      rw [if_neg fun hle => hin fun q => ?_]
      match q with
      | ⟨0, _⟩ =>
        show 0 ≤ (a : ℕ) * 1 + (w 0).val ∧ (a : ℕ) * 1 + (w 0).val - 0 < 256
        omega
      | ⟨1, _⟩ =>
        show 315 ≤ (j : ℕ) * 1 + (w 1).val ∧ (j : ℕ) * 1 + (w 1).val - 315 < 316
        omega
  · rw [Nat.zero_add, ← Fin.sum_univ_def, Equiv.sum_comp (⟨2, ![1, 316]⟩ : Shape).rowMajor.symm
      (fun w : (⟨2, ![1, 316]⟩ : Shape).Idx => if 315 ≤ (j : ℕ) + (w 1).val then f (j + (w 1).val - 315) else 0), sum_idx2]
    rw [Fin.sum_univ_one]
    exact congrArg _ (window_sum (N := 315) f (by omega))

/-! The scatters. -/

/-- The signed value of a small number held in a word. -/
theorem toInt_small {n : ℕ} (h : n < 2 ^ 31) : (BitVec.ofNat 32 n).toInt = (n : ℤ) := by
  rw [BitVec.toInt_eq_toNat_cond, BitVec.toNat_ofNat, if_pos (by omega)]
  omega

variable {idx : IVec S256x316x2 32} {a : Fin 256} {w : Fin 316 → ℕ}

/-- Where a source of the row scatter lands. -/
theorem lands2 (ha : ∀ (b : Fin 256) (l : Fin 316), idx (ix3 b l 0) = BitVec.ofNat 32 b)
    (hw : ∀ l : Fin 316, idx (ix3 a l 1) = BitVec.ofNat 32 (w l)) (hs : ∀ l, w l < 2 ^ 31) (b : Fin 256) (l : Fin 316) (j : Fin 64) :
    scatter_S256x64_S256x316x2_S256x316_n_01_01_2.resultIdx? (ix2 b l) idx = some (ix2 a j) ↔ b = a ∧ w l = j := by
  refine (Routing.scatter_lands2 _ rfl rfl rfl idx b l a j).trans ?_
  show (idx (ix3 b l 0)).toInt = _ ∧ (idx (ix3 b l 1)).toInt = _ ↔ _
  rw [ha, toInt_small (by omega)]
  constructor
  · rintro ⟨h1, h2⟩
    have hb : b = a := Fin.ext (by exact_mod_cast h1)
    subst hb
    rw [hw, toInt_small (hs l)] at h2
    exact ⟨rfl, by exact_mod_cast h2⟩
  · rintro ⟨rfl, h2⟩
    rw [hw, toInt_small (hs l), h2]
    exact ⟨rfl, rfl⟩

/-- Where a source of the feature scatter starts, and where in its window it lies. -/
theorem start3 (b : Fin 256) (l : Fin 316) (h : Fin 256) :
    scatter_S256x64x256_S256x316x2_S256x316x256_2_01_01_2.start (ix3 b l h) idx 0 = (idx (ix3 b l 0)).toInt
      ∧ scatter_S256x64x256_S256x316x2_S256x316x256_2_01_01_2.start (ix3 b l h) idx 1 = (idx (ix3 b l 1)).toInt := by
  constructor
  · show (idx _).toInt = _
    congr 2
    funext q
    fin_cases q <;> rfl
  · show (idx _).toInt = _
    congr 2
    funext q
    fin_cases q <;> rfl

/-- Where a source of the feature scatter lands. -/
theorem lands3 (ha : ∀ (b : Fin 256) (l : Fin 316), idx (ix3 b l 0) = BitVec.ofNat 32 b)
    (hw : ∀ l : Fin 316, idx (ix3 a l 1) = BitVec.ofNat 32 (w l)) (hs : ∀ l, w l < 2 ^ 31) (b : Fin 256) (l : Fin 316) (h : Fin 256)
    (j : Fin 64) (k : Fin 256) :
    scatter_S256x64x256_S256x316x2_S256x316x256_2_01_01_2.resultIdx? (ix3 b l h) idx = some (ix3 a j k)
      ↔ b = a ∧ w l = j ∧ h = k := by
  rw [Routing.resultIdx?_eq_some]
  obtain ⟨s0, s1⟩ := start3 (idx := idx) b l h
  constructor
  · intro hq
    have h0 := hq 0
    have h1 := hq 1
    have h2 : (0 : ℤ) + (h : ℕ) = (k : ℕ) := hq 2
    rw [s0, ha, toInt_small (by omega)] at h0
    change ((b : ℕ) : ℤ) + (0 : ℕ) = ((a : ℕ) : ℤ) at h0
    have hb : b = a := Fin.ext (by omega)
    subst hb
    rw [s1, hw, toInt_small (hs l)] at h1
    change ((w l : ℕ) : ℤ) + (0 : ℕ) = ((j : ℕ) : ℤ) at h1
    exact ⟨rfl, by omega, Fin.ext (by omega)⟩
  · rintro ⟨rfl, h1, rfl⟩ q
    match q with
    | ⟨0, _⟩ =>
      show scatter_S256x64x256_S256x316x2_S256x316x256_2_01_01_2.start (ix3 b l h) idx 0 + ((0 : ℕ) : ℤ) = ((b : ℕ) : ℤ)
      rw [s0, ha, toInt_small (by omega)]
      omega
    | ⟨1, _⟩ =>
      show scatter_S256x64x256_S256x316x2_S256x316x256_2_01_01_2.start (ix3 b l h) idx 1 + ((0 : ℕ) : ℤ) = ((j : ℕ) : ℤ)
      rw [s1, hw, toInt_small (hs l)]
      omega
    | ⟨2, _⟩ =>
      show (0 : ℤ) + ((h : ℕ) : ℤ) = ((h : ℕ) : ℤ)
      omega

/-- An adding scatter of words holding natural numbers holds the sum of the numbers that land. -/
theorem scatter_words {s si u : Shape} {v : ℕ} (d : ScatterDims s si u) (x : IVec s 32) (idx : IVec si v) (upd : IVec u 32) (ι : s.Idx)
    (U : u.Idx → ℕ) (hU : ∀ k, (if d.resultIdx? k idx = some ι then upd k else 0#32) = BitVec.ofNat 32 (U k)) (hx : x ι = 0#32) :
    Host.scatter d IntOp.addi x idx upd ι = BitVec.ofNat 32 (∑ k, U k) := by
  rw [Routing.scatter_at]
  have hstep : ∀ (c : Prop) [Decidable c] (p q : BitVec 32), (if c then IntOp.addi p q else p) = IntOp.addi p (if c then q else 0#32) :=
    fun c _ p q => by
      by_cases h : c
      · rw [if_pos h, if_pos h]
      · rw [if_neg h, if_neg h]
        exact (BitVec.add_zero p).symm
  simp only [hstep]
  rw [Routing.foldl_addi_ofNat _ _ (fun n => U (u.rowMajor.symm n)) (fun n _ => hU _) _ 0 hx, Nat.zero_add,
    ← Fin.sum_univ_def, Equiv.sum_comp u.rowMajor.symm U]

/-- The counting scatter. -/
theorem scatter_count {x : IVec S256x64 32} {upd : IVec S256x316 32} {u : Fin 316 → ℕ}
    (ha : ∀ (b : Fin 256) (l : Fin 316), idx (ix3 b l 0) = BitVec.ofNat 32 b)
    (hw : ∀ l : Fin 316, idx (ix3 a l 1) = BitVec.ofNat 32 (w l)) (hs : ∀ l, w l < 2 ^ 31) (j : Fin 64)
    (hx : x (ix2 a j) = 0#32) (hu : ∀ l : Fin 316, upd (ix2 a l) = BitVec.ofNat 32 (u l)) :
    Host.scatter scatter_S256x64_S256x316x2_S256x316_n_01_01_2 IntOp.addi x idx upd (ix2 a j)
      = BitVec.ofNat 32 (∑ l : Fin 316, if w l = j then u l else 0) := by
  classical
  let U : S256x316.Idx → ℕ := fun k => if scatter_S256x64_S256x316x2_S256x316_n_01_01_2.resultIdx? k idx = some (ix2 a j)
    then (if k 0 = a then u (k 1) else 0) else 0
  have hU : ∀ k : S256x316.Idx, (if scatter_S256x64_S256x316x2_S256x316_n_01_01_2.resultIdx? k idx = some (ix2 a j)
      then upd k else 0#32) = BitVec.ofNat 32 (U k) := fun k => by
    show _ = BitVec.ofNat 32 (if _ then _ else 0)
    idx_vars k
    split
    · rename_i hl
      obtain ⟨rfl, -⟩ := (lands2 ha hw hs k0 k1 j).mp hl
      rw [hu]
      exact congrArg _ (if_pos rfl).symm
    · rfl
  rw [scatter_words _ _ _ _ _ U hU hx]
  refine congrArg (BitVec.ofNat 32) ((sum_idx2 U).trans ?_)
  rw [Finset.sum_eq_single a]
  · refine Finset.sum_congr rfl fun l _ => ?_
    by_cases h : w l = j
    · rw [if_pos h]
      refine Eq.trans (if_pos ?_) (if_pos rfl)
      exact (lands2 ha hw hs a l j).mpr ⟨rfl, h⟩
    · rw [if_neg h]
      exact if_neg fun hl => h ((lands2 ha hw hs a l j).mp hl).2
  · intro b _ hb
    refine Finset.sum_eq_zero fun l _ => ?_
    exact if_neg fun hl => hb ((lands2 ha hw hs b l j).mp hl).1
  · intro h
    exact absurd (mem_univ a) h

/-- The scatter of the positions. -/
theorem scatter_row {x : FVec Ideal S256x64 .f32} {upd : FVec Ideal S256x316 .f32}
    (ha : ∀ (b : Fin 256) (l : Fin 316), idx (ix3 b l 0) = BitVec.ofNat 32 b)
    (hw : ∀ l : Fin 316, idx (ix3 a l 1) = BitVec.ofNat 32 (w l)) (hs : ∀ l, w l < 2 ^ 31) (j : Fin 64) (hx : x (ix2 a j) = 0) :
    Host.scatterAdd scatter_S256x64_S256x316x2_S256x316_n_01_01_2 x idx upd (ix2 a j)
      = ∑ l : Fin 316, if w l = j then upd (ix2 a l) else 0 := by
  classical
  show x (ix2 a j) + ∑ k ∈ univ.filter (fun k => scatter_S256x64_S256x316x2_S256x316_n_01_01_2.resultIdx? k idx = some (ix2 a j)), upd k = _
  rw [hx, zero_add, Finset.sum_filter, show (∑ k : S256x316.Idx, if scatter_S256x64_S256x316x2_S256x316_n_01_01_2.resultIdx? k idx
    = some (ix2 a j) then upd k else 0) = ∑ b : Fin 256, ∑ l : Fin 316, _ from sum_idx2 _, Finset.sum_eq_single a]
  · refine Finset.sum_congr rfl fun l _ => ?_
    by_cases h : w l = j
    · rw [if_pos h, if_pos ((lands2 ha hw hs a l j).mpr ⟨rfl, h⟩)]
    · rw [if_neg h, if_neg fun hl => h ((lands2 ha hw hs a l j).mp hl).2]
  · intro b _ hb
    exact Finset.sum_eq_zero fun l _ => if_neg fun hl => hb ((lands2 ha hw hs b l j).mp hl).1
  · intro h
    exact absurd (mem_univ a) h

/-- The scatter of the features. -/
theorem scatter_feat {x : FVec Ideal S256x64x256 .f32} {upd : FVec Ideal S256x316x256 .f32}
    (ha : ∀ (b : Fin 256) (l : Fin 316), idx (ix3 b l 0) = BitVec.ofNat 32 b)
    (hw : ∀ l : Fin 316, idx (ix3 a l 1) = BitVec.ofNat 32 (w l)) (hs : ∀ l, w l < 2 ^ 31) (j : Fin 64) (k : Fin 256)
    (hx : x (ix3 a j k) = 0) :
    Host.scatterAdd scatter_S256x64x256_S256x316x2_S256x316x256_2_01_01_2 x idx upd (ix3 a j k)
      = ∑ l : Fin 316, if w l = j then upd (ix3 a l k) else 0 := by
  classical
  show x (ix3 a j k) + ∑ p ∈ univ.filter (fun p => scatter_S256x64x256_S256x316x2_S256x316x256_2_01_01_2.resultIdx? p idx
    = some (ix3 a j k)), upd p = _
  rw [hx, zero_add, Finset.sum_filter, show (∑ p : S256x316x256.Idx, if scatter_S256x64x256_S256x316x2_S256x316x256_2_01_01_2.resultIdx? p idx
    = some (ix3 a j k) then upd p else 0) = ∑ b : Fin 256, ∑ l : Fin 316, ∑ h : Fin 256, _ from sum_idx3 _, Finset.sum_eq_single a]
  · refine Finset.sum_congr rfl fun l _ => ?_
    rw [Finset.sum_eq_single k]
    · by_cases h : w l = j
      · rw [if_pos h, if_pos ((lands3 ha hw hs a l k j k).mpr ⟨rfl, h, rfl⟩)]
      · rw [if_neg h, if_neg fun hl => h ((lands3 ha hw hs a l k j k).mp hl).2.1]
    · intro h _ hne
      exact if_neg fun hl => hne ((lands3 ha hw hs a l h j k).mp hl).2.2
    · intro h
      exact absurd (mem_univ k) h
  · intro b _ hb
    exact Finset.sum_eq_zero fun l _ => Finset.sum_eq_zero fun h _ => if_neg fun hl => hb ((lands3 ha hw hs b l h j k).mp hl).1
  · intro h
    exact absurd (mem_univ a) h

/-- Writing one value at several places. -/
theorem scatter_set {α : Type} {s si u : Shape} {v : ℕ} (d : ScatterDims s si u) (x : s.Idx → α) (idx : IVec si v) (c : α) (ι : s.Idx) :
    ((∃ k, d.resultIdx? k idx = some ι) → Host.scatter d (fun _ b => b) x idx (fun _ => c) ι = c)
      ∧ ((∀ k, d.resultIdx? k idx ≠ some ι) → Host.scatter d (fun _ b => b) x idx (fun _ => c) ι = x ι) := by
  rw [Routing.scatter_at]
  constructor
  · rintro ⟨k, hk⟩
    have key : ∀ (l : List (Fin u.numel)) (z : α), (z = c ∨ ∃ n ∈ l, d.resultIdx? (u.rowMajor.symm n) idx = some ι) →
        l.foldl (fun a n => if d.resultIdx? (u.rowMajor.symm n) idx = some ι then c else a) z = c := by
      intro l
      induction l with
      | nil =>
        rintro z (h | ⟨n, h, -⟩)
        · exact h
        · exact absurd h List.not_mem_nil
      | cons n l ih =>
        intro z h
        rw [List.foldl_cons]
        refine ih _ ?_
        by_cases hn : d.resultIdx? (u.rowMajor.symm n) idx = some ι
        · rw [if_pos hn]
          exact Or.inl rfl
        · rw [if_neg hn]
          rcases h with h | ⟨m, hm, hm'⟩
          · exact Or.inl h
          · rcases List.mem_cons.mp hm with rfl | hm
            · exact absurd hm' hn
            · exact Or.inr ⟨m, hm, hm'⟩
    exact key _ _ (Or.inr ⟨u.rowMajor k, List.mem_finRange _, by rw [Equiv.symm_apply_apply]; exact hk⟩)
  · intro hk
    have key : ∀ (l : List (Fin u.numel)) (z : α),
        l.foldl (fun a n => if d.resultIdx? (u.rowMajor.symm n) idx = some ι then c else a) z = z := by
      intro l
      induction l with
      | nil => intro z; rfl
      | cons n l ih =>
        intro z
        rw [List.foldl_cons, if_neg (hk _)]
        exact ih z
    exact key _ _

/-- Writing one value down column `c` of the rows of knots. -/
theorem set_column {α : Type} (x : S256x64.Idx → α) {p : IVec S1 32} {n : ℕ} (hn : n < 64) (hp : p (ix1 0) = BitVec.ofNat 32 n) (c : α)
    (a : Fin 256) (j : Fin 64) :
    Host.scatter scatter_S256x64_S1_S256_0_1_1_0 (fun _ b => b) x p (fun _ => c) (ix2 a j)
      = if (j : ℕ) = n then c else x (ix2 a j) := by
  have hst : ∀ b : Fin 256, scatter_S256x64_S1_S256_0_1_1_0.start (ix1 b) p 1 = (n : ℤ) := fun b => by
    have : scatter_S256x64_S1_S256_0_1_1_0.start (ix1 b) p 1 = (p (ix1 0)).toInt := by
      show (p _).toInt = _
      congr 2
      funext q
      fin_cases q <;> rfl
    rw [this, hp, toInt_small (by omega)]
  have hl : ∀ b : Fin 256, scatter_S256x64_S1_S256_0_1_1_0.resultIdx? (ix1 b) p = some (ix2 a j) ↔ b = a ∧ (j : ℕ) = n := fun b => by
    refine (Routing.resultIdx?_ix2 _ _ _ _ _).trans ?_
    rw [hst]
    show (0 : ℤ) + ((b : ℕ) : ℤ) = (a : ℕ) ∧ (n : ℤ) + ((0 : ℕ) : ℤ) = (j : ℕ) ↔ _
    rw [Fin.ext_iff]
    omega
  obtain ⟨h1, h2⟩ := scatter_set scatter_S256x64_S1_S256_0_1_1_0 x p c (ix2 a j)
  by_cases h : (j : ℕ) = n
  · rw [if_pos h]
    exact h1 ⟨ix1 a, (hl a).mpr ⟨rfl, h⟩⟩
  · rw [if_neg h]
    refine h2 fun k => ?_
    idx_vars k
    exact fun hk => h ((hl k0).mp hk).2

/-- Writing one value down the first two columns of the rows of knots. -/
theorem set_pair {α : Type} (x : S256x64.Idx → α) {p : IVec S1 32} (hp : p (ix1 0) = 0#32) (c : α) (a : Fin 256) (j : Fin 64) :
    Host.scatter scatter_S256x64_S1_S256x2_01_n_1_0 (fun _ b => b) x p (fun _ => c) (ix2 a j)
      = if (j : ℕ) < 2 then c else x (ix2 a j) := by
  have hst : ∀ (b : Fin 256) (i : Fin 2), scatter_S256x64_S1_S256x2_01_n_1_0.start (ix2 b i) p 1 = 0 := fun b i => by
    have : scatter_S256x64_S1_S256x2_01_n_1_0.start (ix2 b i) p 1 = (p (ix1 0)).toInt := by
      show (p _).toInt = _
      congr 2
      funext q
      fin_cases q <;> rfl
    rw [this, hp]
    rfl
  have hl : ∀ (b : Fin 256) (i : Fin 2), scatter_S256x64_S1_S256x2_01_n_1_0.resultIdx? (ix2 b i) p = some (ix2 a j)
      ↔ b = a ∧ (i : ℕ) = j := fun b i => by
    refine (Routing.resultIdx?_ix2 _ _ _ _ _).trans ?_
    rw [hst]
    show (0 : ℤ) + ((b : ℕ) : ℤ) = (a : ℕ) ∧ (0 : ℤ) + ((i : ℕ) : ℤ) = (j : ℕ) ↔ _
    rw [Fin.ext_iff]
    omega
  obtain ⟨h1, h2⟩ := scatter_set scatter_S256x64_S1_S256x2_01_n_1_0 x p c (ix2 a j)
  by_cases h : (j : ℕ) < 2
  · rw [if_pos h]
    exact h1 ⟨ix2 a ⟨j, h⟩, (hl a _).mpr ⟨rfl, rfl⟩⟩
  · rw [if_neg h]
    refine h2 fun k => ?_
    idx_vars k
    exact fun hk => h (by have := ((hl k0 k1).mp hk).2; omega)

end Cert.Proof.Moves
-- ==== Proof.Count.lean ====
/- The sources of an insertion, laid out five to a gap — a knot and up to four crossings after it — and which of them
   becomes each new knot. -/
module

public import proofs.«01_k».proof.Proof.Model

@[expose] public section

noncomputable section

namespace Cert.Proof.Ray

open Finset

variable {ρ : Ray}

/-- Source `l` is there: a knot, or a crossing. -/
def Src (ρ : Ray) (l : ℕ) : Prop := (l % 5 = 0 ∧ l / 5 < ρ.n) ∨ (l % 5 ≠ 0 ∧ l % 5 - 1 < ρ.mult (l / 5))

open Classical in
/-- The number of sources before source `l`. -/
def before (ρ : Ray) (l : ℕ) : ℕ := ∑ k ∈ range l, if ρ.Src k then 1 else 0

theorem src_knot (i : ℕ) : ρ.Src (5 * i) ↔ i < ρ.n := by
  unfold Src
  rw [show 5 * i % 5 = 0 by omega, show 5 * i / 5 = i by omega]
  omega

theorem src_cross (i : ℕ) {s : ℕ} (h : s < 4) : ρ.Src (5 * i + (s + 1)) ↔ s < ρ.mult i := by
  unfold Src
  rw [show (5 * i + (s + 1)) % 5 = s + 1 by omega, show (5 * i + (s + 1)) / 5 = i by omega]
  omega

/-- A gap with a crossing is followed by a knot. -/
theorem lt_of_mult {i : ℕ} (h : 0 < ρ.mult i) : i + 1 < ρ.n := by
  by_contra hn
  have := mult_last (ρ := ρ) (i := i) (by omega)
  omega

/-- The sources of one gap up to `s` of its crossings. -/
theorem before_within {i s : ℕ} (hi : i < ρ.n) (hs : s ≤ 4) :
    ρ.before (5 * i + (s + 1)) = ρ.before (5 * i) + 1 + min s (ρ.mult i) := by
  classical
  induction s with
  | zero =>
    unfold before
    rw [sum_range_succ, Nat.add_zero, if_pos ((src_knot i).mpr hi), Nat.zero_min]
  | succ s ih =>
    have e : ρ.before (5 * i + (s + 1 + 1)) = ρ.before (5 * i + (s + 1)) + if ρ.Src (5 * i + (s + 1)) then 1 else 0 := by
      unfold before
      rw [← Nat.add_assoc, sum_range_succ]
    rw [e, ih (by omega)]
    by_cases h : s < ρ.mult i
    · rw [if_pos ((src_cross i (by omega)).mpr h)]
      omega
    · rw [if_neg (mt (src_cross i (by omega)).mp h)]
      omega

/-- The sources before a knot are as many as its new place says. -/
theorem before_knot {i : ℕ} (hi : i ≤ ρ.n) : ρ.before (5 * i) = ρ.pos i := by
  induction i with
  | zero => rw [pos_zero]; rfl
  | succ i ih =>
    have hm := mult_le (ρ := ρ) i
    rw [show 5 * (i + 1) = 5 * i + (4 + 1) by omega, before_within (by omega) le_rfl, ih (by omega), pos_succ]
    omega

/-- The place of a source. -/
theorem before_src {l : ℕ} (h : ρ.Src l) : l / 5 < ρ.n ∧ l % 5 ≤ ρ.mult (l / 5) ∧ ρ.before l = ρ.pos (l / 5) + l % 5 := by
  rcases h with ⟨h0, h1⟩ | ⟨h0, h1⟩
  · refine ⟨h1, by omega, ?_⟩
    rw [h0, Nat.add_zero, ← before_knot h1.le]
    congr 1
    omega
  · have hn : l / 5 + 1 < ρ.n := lt_of_mult (by omega)
    have hm := mult_le (ρ := ρ) (l / 5)
    refine ⟨by omega, by omega, ?_⟩
    have e := before_within (ρ := ρ) (i := l / 5) (s := l % 5 - 1) (by omega) (by omega)
    rw [show 5 * (l / 5) + (l % 5 - 1 + 1) = l by omega, before_knot (by omega)] at e
    omega

/-- The source of new knot `j`. -/
def source (ρ : Ray) (j : ℕ) : ℕ := 5 * ρ.left j + ρ.off j

theorem source_parts (hn : 1 ≤ ρ.n) {j : ℕ} (hj : j < ρ.total) : ρ.source j / 5 = ρ.left j ∧ ρ.source j % 5 = ρ.off j := by
  have h := off_le hn hj
  have hm := mult_le (ρ := ρ) (ρ.left j)
  unfold source
  omega

theorem source_lt (hn : 1 ≤ ρ.n) (hK : ρ.n ≤ 64) {j : ℕ} (hj : j < ρ.total) : ρ.source j < 316 := by
  have h := off_le hn hj
  have hl := left_lt (ρ := ρ) hn j
  have hm := mult_le (ρ := ρ) (ρ.left j)
  have hp := lt_of_mult (ρ := ρ) (i := ρ.left j)
  unfold source
  omega

/-- Source `l` becomes new knot `j` exactly if it is the source of `j`. -/
theorem source_iff (hn : 1 ≤ ρ.n) (l j : ℕ) : (ρ.Src l ∧ ρ.before l = j) ↔ (j < ρ.total ∧ l = ρ.source j) := by
  constructor
  · rintro ⟨h, rfl⟩
    obtain ⟨h1, h2, h3⟩ := before_src h
    have hp := pos_succ (ρ := ρ) (l / 5)
    have hle : ρ.pos (l / 5 + 1) ≤ ρ.pos ρ.n := pos_strictMono.monotone h1
    have ht : ρ.before l < ρ.total := by
      rw [total_eq]
      omega
    have hl : ρ.left (ρ.before l) = l / 5 := left_unique hn h1 (by omega) (by omega)
    refine ⟨ht, ?_⟩
    unfold source off
    rw [hl]
    omega
  · rintro ⟨hj, rfl⟩
    obtain ⟨e1, e2⟩ := source_parts hn hj
    have ho := off_le hn hj
    have hs : ρ.Src (ρ.source j) := by
      unfold Src
      rw [e1, e2]
      have := left_lt (ρ := ρ) hn j
      omega
    refine ⟨hs, ?_⟩
    rw [(before_src hs).2.2, e1, e2]
    exact (off_eq hn j).symm

/-- Source `l` is kept. -/
def Kept (ρ : Ray) (l : ℕ) : Prop := ρ.Src l ∧ ρ.before l < 64

open Classical in
/-- Where the source is sent. -/
def aim (ρ : Ray) (l : ℕ) : ℕ := if ρ.Kept l then ρ.before l else 0

theorem aim_lt (l : ℕ) : ρ.aim l < 64 := by
  unfold aim
  split
  · rename_i h
    exact h.2
  · norm_num

open Classical in
/-- A sum over the kept sources sent to place `j` holds the one that becomes knot `j`. -/
theorem sum_source {M : Type} [AddCommMonoid M] (hn : 1 ≤ ρ.n) (hK : ρ.n ≤ 64) {j : ℕ} (hj : j < 64) (f : Fin 316 → M) :
    ∑ l : Fin 316, (if ρ.aim l = j then (if ρ.Kept l then f l else 0) else 0)
      = if h : j < ρ.next.n then f ⟨ρ.source j, source_lt hn hK (lt_of_lt_of_le h (min_le_left _ _))⟩ else 0 := by
  have key : ∀ l : Fin 316, (if ρ.aim l = j then (if ρ.Kept l then f l else 0) else 0)
      = if j < ρ.next.n ∧ (l : ℕ) = ρ.source j then f l else 0 := fun l => by
    by_cases hk : ρ.Kept l
    · have ha : ρ.aim l = ρ.before l := if_pos hk
      rw [ha, if_pos hk]
      have := source_iff hn l j
      have hnext : j < ρ.next.n ↔ j < ρ.total := by
        show j < min ρ.total 64 ↔ _
        omega
      by_cases hb : ρ.before l = j
      · rw [if_pos hb, if_pos]
        rw [hnext]
        exact this.mp ⟨hk.1, hb⟩
      · rw [if_neg hb, if_neg]
        rw [hnext]
        exact fun h => hb (this.mpr h).2
    · rw [if_neg hk, ite_self, if_neg]
      rintro ⟨h1, h2⟩
      obtain ⟨hs, hb⟩ := (source_iff hn l j).mpr ⟨lt_of_lt_of_le h1 (min_le_left _ _), h2⟩
      exact hk ⟨hs, by omega⟩
  rw [Finset.sum_congr rfl fun l _ => key l]
  by_cases h : j < ρ.next.n
  · rw [dif_pos h, Finset.sum_eq_single (⟨ρ.source j, source_lt hn hK (lt_of_lt_of_le h (min_le_left _ _))⟩ : Fin 316)]
    · rw [if_pos ⟨h, rfl⟩]
    · intro b _ hb
      exact if_neg fun hh => hb (Fin.ext hh.2)
    · intro hh
      exact absurd (mem_univ _) hh
  · rw [dif_neg h]
    exact Finset.sum_eq_zero fun l _ => if_neg fun hh => h hh.1

end Cert.Proof.Ray
-- ==== Proof.Insert.lean ====
/- The reference's insertion of the zero crossings into the rows of knots, as functions of the marks, positions and
   features of the knots it starts from, read on one row. -/
module

public import proofs.«01_k».proof.Proof.Moves
public import proofs.«01_k».proof.Proof.Count
public import proofs.«01_k».proof.Proof.Place

@[expose] public section

set_option maxRecDepth 8192

noncomputable section

namespace Cert.Proof.Insert

open Finset Idealize.ShloMosaic Cert.ReferenceIdeal Cert.ReferenceIdeal.Gen Cert.Proof

attribute [local instance] Cert.ReferenceIdeal.Gen.facts

/-- The features before and after each gap. -/
def near (z : FVec Ideal S256x64x256 .f32) : FVec Ideal S256x63x256 .f32 := extractStridedSlice S256x63x256 ![0, 0, 0] z slices_S256x64x256_S256x63x256_0_0_0
def far (z : FVec Ideal S256x64x256 .f32) : FVec Ideal S256x63x256 .f32 := extractStridedSlice S256x63x256 ![0, 1, 0] z slices_S256x64x256_S256x63x256_0_1_0
/-- The change over each gap. -/
def change (z : FVec Ideal S256x64x256 .f32) : FVec Ideal S256x63x256 .f32 := subf (far z) (near z)
/-- Whether it exceeds the tolerance. -/
def steep (z : FVec Ideal S256x64x256 .f32) : IVec S256x63x256 1 :=
  cmpf .ogt (Host.absf (change z)) (broadcastInDim S256x63x256 ![] bcast_S_S256x63x256 (constant S_ .f32 0x358637BD#32))
/-- Where the feature vanishes, as a fraction of the gap. -/
def ratio (z : FVec Ideal S256x64x256 .f32) : FVec Ideal S256x63x256 .f32 :=
  Host.divf (Host.negf (near z)) (select (steep z) (change z) (broadcastInDim S256x63x256 ![] bcast_S_S256x63x256 (constant S_ .f32 0x3F800000#32)))
/-- The crossings, and the value for none elsewhere. -/
def keys (v : IVec S256x64 1) (z : FVec Ideal S256x64x256 .f32) : FVec Ideal S256x63x256 .f32 :=
  select (andi (andi (andi (broadcastInDim S256x63x256 ![0, 1, 2] bcast_S256x63x1_S256x63x256_0_1_2 (broadcastInDim S256x63x1 ![0, 1] bcast_S256x63_S256x63x1_0_1 (andi (extractStridedSlice S256x63 ![0, 0] v slices_S256x64_S256x63_0_0) (extractStridedSlice S256x63 ![0, 1] v slices_S256x64_S256x63_0_1)))) (steep z)) (cmpf .ogt (ratio z) (broadcastInDim S256x63x256 ![] bcast_S_S256x63x256 (constant S_ .f32 0x358637BD#32)))) (cmpf .olt (ratio z) (broadcastInDim S256x63x256 ![] bcast_S_S256x63x256 (constant S_ .f32 0x3F7FFFEF#32)))) (ratio z) (broadcastInDim S256x63x256 ![] bcast_S_S256x63x256 (constant S_ .f32 0x41200000#32))
/-- The four smallest. -/
def cands (v : IVec S256x64 1) (z : FVec Ideal S256x64x256 .f32) : FVec Ideal S256x63x4 .f32 :=
  extractStridedSlice S256x63x4 ![0, 0, 0] (Host.sort S256x63x256 2 comparator_f32_d2 (keys v z)) slices_S256x63x256_S256x63x4_0_0_0
/-- Which of them are crossings. -/
def hit (v : IVec S256x64 1) (z : FVec Ideal S256x64x256 .f32) : IVec S256x63x4 1 :=
  cmpf .olt (cands v z) (broadcastInDim S256x63x4 ![] bcast_S_S256x63x4 (constant S_ .f32 0x41200000#32))
/-- The marks of the sources: each knot and the crossings after it. -/
def has (v : IVec S256x64 1) (z : FVec Ideal S256x64x256 .f32) : IVec S256x316 1 :=
  concatenate S256x316 1 [⟨S256x315, (shapeCast _ (concatenate S256x63x5 2 [⟨S256x63x1, (broadcastInDim S256x63x1 ![0, 1] bcast_S256x63_S256x63x1_0_1 (extractStridedSlice S256x63 ![0, 0] v slices_S256x64_S256x63_0_0))⟩, ⟨S256x63x4, (hit v z)⟩] concatenates_S256x63x1_S256x63x4_S256x63x5_d2) shapeCasts_S256x63x5_S256x315)⟩, ⟨S256x1, (extractStridedSlice S256x1 ![0, 63] v slices_S256x64_S256x1_0_63)⟩] concatenates_S256x315_S256x1_S256x316_d1
/-- The number of sources up to each. -/
def count (v : IVec S256x64 1) (z : FVec Ideal S256x64x256 .f32) : IVec S256x316 32 :=
  Host.reduceWindow IntOp.addi ![1, 316] ![1, 1] ![0, 315] ![0, 0] (extui 32 (has v z) natLt_1_32) (broadcastInDim S_ ![] bcast_S_S_ (constantI S_ 32 0#32)) reduceWindows_S256x316_S256x316_w1s1p0_0_w316s1p315_0 h_S_
/-- The place of each source. -/
def rank (v : IVec S256x64 1) (z : FVec Ideal S256x64x256 .f32) : IVec S256x316 32 :=
  subi (count v z) (broadcastInDim S256x316 ![] bcast_S_S256x316 (constantI S_ 32 1#32))
/-- Which sources are kept. -/
def kept (v : IVec S256x64 1) (z : FVec Ideal S256x64x256 .f32) : IVec S256x316 1 :=
  andi (has v z) (cmpi .slt (rank v z) (broadcastInDim S256x316 ![] bcast_S_S256x316 (constantI S_ 32 64#32)))
/-- Where a source goes. -/
def slot (v : IVec S256x64 1) (z : FVec Ideal S256x64x256 .f32) : IVec S256x316 32 :=
  select (kept v z) (rank v z) (broadcastInDim S256x316 ![] bcast_S_S256x316 (constantI S_ 32 0#32))
/-- The number of the row. -/
def row : IVec S256x1 32 := broadcastInDim S256x1 ![0] bcast_S256_S256x1_0 (iotaInDim S256 32 0)
/-- The index array of the scatters. -/
def aim (v : IVec S256x64 1) (z : FVec Ideal S256x64x256 .f32) : IVec S256x316x2 32 :=
  concatenate S256x316x2 2 [⟨S256x316x1, (broadcastInDim S256x316x1 ![0, 1] bcast_S256x316_S256x316x1_0_1 (broadcastInDim S256x316 ![0, 1] bcast_S256x1_S256x316_0_1 (select (cmpi .slt row (broadcastInDim S256x1 ![] bcast_S_S256x1 (constantI S_ 32 0#32))) (addi row (broadcastInDim S256x1 ![] bcast_S_S256x1 (constantI S_ 32 256#32))) row)))⟩, ⟨S256x316x1, (broadcastInDim S256x316x1 ![0, 1] bcast_S256x316_S256x316x1_0_1 (select (cmpi .slt (slot v z) (broadcastInDim S256x316 ![] bcast_S_S256x316 (constantI S_ 32 0#32))) (addi (slot v z) (broadcastInDim S256x316 ![] bcast_S_S256x316 (constantI S_ 32 64#32))) (slot v z)))⟩] concatenates_S256x316x1_S256x316x1_S256x316x2_d2
/-- The new marks. -/
def marks (v : IVec S256x64 1) (z : FVec Ideal S256x64x256 .f32) : IVec S256x64 1 :=
  cmpi .sgt (Host.scatter scatter_S256x64_S256x316x2_S256x316_n_01_01_2 IntOp.addi (broadcastInDim S256x64 ![] bcast_S_S256x64 (constantI S_ 32 0#32)) (aim v z) (extui 32 (kept v z) natLt_1_32)) (broadcastInDim S256x64 ![] bcast_S_S256x64 (constantI S_ 32 0#32))
/-- The positions of the sources. -/
def spots (v : IVec S256x64 1) (t : FVec Ideal S256x64 .f32) (z : FVec Ideal S256x64x256 .f32) : FVec Ideal S256x316 .f32 :=
  concatenate S256x316 1 [⟨S256x315, (shapeCast _ (concatenate S256x63x5 2 [⟨S256x63x1, (broadcastInDim S256x63x1 ![0, 1] bcast_S256x63_S256x63x1_0_1 (extractStridedSlice S256x63 ![0, 0] t slices_S256x64_S256x63_0_0))⟩, ⟨S256x63x4, (select (hit v z) (addf (broadcastInDim S256x63x4 ![0, 1, 2] bcast_S256x63x1_S256x63x4_0_1_2 (broadcastInDim S256x63x1 ![0, 1] bcast_S256x63_S256x63x1_0_1 (extractStridedSlice S256x63 ![0, 0] t slices_S256x64_S256x63_0_0))) (mulf (cands v z) (broadcastInDim S256x63x4 ![0, 1, 2] bcast_S256x63x1_S256x63x4_0_1_2 (broadcastInDim S256x63x1 ![0, 1] bcast_S256x63_S256x63x1_0_1 (subf (extractStridedSlice S256x63 ![0, 1] t slices_S256x64_S256x63_0_1) (extractStridedSlice S256x63 ![0, 0] t slices_S256x64_S256x63_0_0)))))) (broadcastInDim S256x63x4 ![] bcast_S_S256x63x4 (constant S_ .f32 0x40000000#32)))⟩] concatenates_S256x63x1_S256x63x4_S256x63x5_d2) shapeCasts_S256x63x5_S256x315)⟩, ⟨S256x1, (extractStridedSlice S256x1 ![0, 63] t slices_S256x64_S256x1_0_63)⟩] concatenates_S256x315_S256x1_S256x316_d1
/-- The new positions. -/
def times (v : IVec S256x64 1) (t : FVec Ideal S256x64 .f32) (z : FVec Ideal S256x64x256 .f32) : FVec Ideal S256x64 .f32 :=
  select (marks v z) (Host.scatterAdd scatter_S256x64_S256x316x2_S256x316_n_01_01_2 (broadcastInDim S256x64 ![] bcast_S_S256x64 (constant S_ .f32 0x00000000#32)) (aim v z) (select (kept v z) (spots v t z) (broadcastInDim S256x316 ![] bcast_S_S256x316 (constant S_ .f32 0x00000000#32)))) (broadcastInDim S256x64 ![] bcast_S_S256x64 (constant S_ .f32 0x3F800000#32))
/-- The features of the sources. -/
def looks (v : IVec S256x64 1) (z : FVec Ideal S256x64x256 .f32) : FVec Ideal S256x316x256 .f32 :=
  concatenate S256x316x256 1 [⟨S256x315x256, (shapeCast _ (concatenate S256x63x5x256 2 [⟨S256x63x1x256, (broadcastInDim S256x63x1x256 ![0, 1, 3] bcast_S256x63x256_S256x63x1x256_0_1_3 (near z))⟩, ⟨S256x63x4x256, (select (broadcastInDim S256x63x4x256 ![0, 1, 2, 3] bcast_S256x63x4x1_S256x63x4x256_0_1_2_3 (broadcastInDim S256x63x4x1 ![0, 1, 2] bcast_S256x63x4_S256x63x4x1_0_1_2 (hit v z))) (addf (broadcastInDim S256x63x4x256 ![0, 1, 2, 3] bcast_S256x63x1x256_S256x63x4x256_0_1_2_3 (broadcastInDim S256x63x1x256 ![0, 1, 3] bcast_S256x63x256_S256x63x1x256_0_1_3 (near z))) (mulf (broadcastInDim S256x63x4x256 ![0, 1, 2, 3] bcast_S256x63x4x1_S256x63x4x256_0_1_2_3 (broadcastInDim S256x63x4x1 ![0, 1, 2] bcast_S256x63x4_S256x63x4x1_0_1_2 (cands v z))) (broadcastInDim S256x63x4x256 ![0, 1, 2, 3] bcast_S256x63x1x256_S256x63x4x256_0_1_2_3 (broadcastInDim S256x63x1x256 ![0, 1, 3] bcast_S256x63x256_S256x63x1x256_0_1_3 (subf (far z) (near z)))))) (broadcastInDim S256x63x4x256 ![] bcast_S_S256x63x4x256 (constant S_ .f32 0x00000000#32)))⟩] concatenates_S256x63x1x256_S256x63x4x256_S256x63x5x256_d2) shapeCasts_S256x63x5x256_S256x315x256)⟩, ⟨S256x1x256, (extractStridedSlice S256x1x256 ![0, 63, 0] z slices_S256x64x256_S256x1x256_0_63_0)⟩] concatenates_S256x315x256_S256x1x256_S256x316x256_d1
/-- The new features. -/
def feats (v : IVec S256x64 1) (z : FVec Ideal S256x64x256 .f32) : FVec Ideal S256x64x256 .f32 :=
  select (broadcastInDim S256x64x256 ![0, 1, 2] bcast_S256x64x1_S256x64x256_0_1_2 (broadcastInDim S256x64x1 ![0, 1] bcast_S256x64_S256x64x1_0_1 (marks v z))) (Host.scatterAdd scatter_S256x64x256_S256x316x2_S256x316x256_2_01_01_2 (broadcastInDim S256x64x256 ![] bcast_S_S256x64x256 (constant S_ .f32 0x00000000#32)) (aim v z) (select (broadcastInDim S256x316x256 ![0, 1, 2] bcast_S256x316x1_S256x316x256_0_1_2 (broadcastInDim S256x316x1 ![0, 1] bcast_S256x316_S256x316x1_0_1 (kept v z))) (looks v z) (broadcastInDim S256x316x256 ![] bcast_S_S256x316x256 (constant S_ .f32 0x00000000#32)))) (broadcastInDim S256x64x256 ![] bcast_S_S256x64x256 (constant S_ .f32 0x00000000#32))

/-! The reads on one row. -/

variable {v : IVec S256x64 1} {t : FVec Ideal S256x64 .f32} {z : FVec Ideal S256x64x256 .f32} {a : Fin 256} {ρ : Ray}

theorem and_marks {P Q : Prop} [Decidable P] [Decidable Q] :
    IntOp.andi (BitVec.ofBool (decide P)) (BitVec.ofBool (decide Q)) = BitVec.ofBool (decide (P ∧ Q)) := by
  by_cases hp : P <;> by_cases hq : Q <;> simp [hp, hq, IntOp.andi]

theorem select_mark {α : Type} {P : Prop} [Decidable P] (x y : α) :
    Scalar.select (BitVec.ofBool (decide P)) x y = if P then x else y := by
  by_cases hp : P <;> simp [hp, Scalar.select]

open Classical in
/-- The crossings of a gap. -/
theorem keys_read (hv : ∀ i : Fin 64, v (ix2 a i) = BitVec.ofBool (decide ((i : ℕ) < ρ.n)))
    (hz : ∀ (i : Fin 64) (h : Fin 256), z (ix3 a i h) = ρ.z i h) (i : Fin 63) (h : Fin 256) :
    keys v z (ix3 a i h) = ρ.key i h := by
  pointwise [keys, near, far, ratio, steep, change]
  simp only [hv, hz, and_marks, select_mark]
  have hd : ρ.z (1 + (i : ℕ)) h - ρ.z i h = ρ.dz i h := by
    rw [Nat.add_comm]
    rfl
  rw [hd]
  unfold Ray.key Ray.Crosses Ray.ratio Ray.Steep
  have hi : ((i : ℕ) < ρ.n ∧ 1 + (i : ℕ) < ρ.n) ↔ (i : ℕ) + 1 < ρ.n := by omega
  have ho1 : Ideal.ofBits .f32 897988541#32 = eps := rfl
  have ho2 : Ideal.ofBits .f32 1065353199#32 = upper := rfl
  have ho3 : Ideal.ofBits .f32 1092616192#32 = big := rfl
  have ha : FloatOps.absf (F := Ideal) (φ := .f32) (ρ.dz i h) = max (ρ.dz i h) (-(ρ.dz i h)) := rfl
  simp only [hi, ho1, ho2, ho3, ha]
  congr

open Classical in
/-- The candidates of a gap. -/
theorem cands_read (hv : ∀ i : Fin 64, v (ix2 a i) = BitVec.ofBool (decide ((i : ℕ) < ρ.n)))
    (hz : ∀ (i : Fin 64) (h : Fin 256), z (ix3 a i h) = ρ.z i h) (i : Fin 63) (c : Fin 4) :
    cands v z (ix3 a i c) = ρ.cand i c := by
  pointwise [cands]
  have h := Moves.sort_stat (keys v z) a i ⟨c, by omega⟩
  have e : (fun h : Fin 256 => keys v z (ix3 a i h)) = ρ.key i := funext fun h => keys_read hv hz i h
  rw [e] at h
  exact (stat_eq h).symm

open Classical in
/-- Which candidates are crossings. -/
theorem hit_read (hv : ∀ i : Fin 64, v (ix2 a i) = BitVec.ofBool (decide ((i : ℕ) < ρ.n)))
    (hz : ∀ (i : Fin 64) (h : Fin 256), z (ix3 a i h) = ρ.z i h) (i : Fin 63) (c : Fin 4) :
    hit v z (ix3 a i c) = BitVec.ofBool (decide ((c : ℕ) < ρ.mult i)) := by
  pointwise [hit]
  rw [cands_read hv hz]
  exact congrArg BitVec.ofBool (decide_eq_decide.mpr (Ray.cand_lt_iff i (by omega)))

open Classical in
/-- Which sources are there. -/
theorem has_read (hv : ∀ i : Fin 64, v (ix2 a i) = BitVec.ofBool (decide ((i : ℕ) < ρ.n)))
    (hz : ∀ (i : Fin 64) (h : Fin 256), z (ix3 a i h) = ρ.z i h) (l : Fin 316) :
    has v z (ix2 a l) = BitVec.ofBool (decide (ρ.Src l)) := by
  pointwise [has]
  by_cases h : (l : ℕ) < 315
  · rw [dif_pos h]
    by_cases h' : (l : ℕ) % 5 < 1
    · rw [dif_pos h', hv]
      refine congrArg BitVec.ofBool (decide_eq_decide.mpr ?_)
      unfold Ray.Src
      dsimp only
      omega
    · rw [dif_neg h', hit_read hv hz]
      refine congrArg BitVec.ofBool (decide_eq_decide.mpr ?_)
      unfold Ray.Src
      dsimp only
      omega
  · rw [dif_neg h, hv]
    refine congrArg BitVec.ofBool (decide_eq_decide.mpr ?_)
    unfold Ray.Src
    dsimp only
    omega

open Classical in
/-- The number of sources up to each. -/
theorem count_read (hv : ∀ i : Fin 64, v (ix2 a i) = BitVec.ofBool (decide ((i : ℕ) < ρ.n)))
    (hz : ∀ (i : Fin 64) (h : Fin 256), z (ix3 a i h) = ρ.z i h) (l : Fin 316) :
    count v z (ix2 a l) = BitVec.ofNat 32 (ρ.before (l + 1)) := by
  have hx : ∀ l : Fin 316, extui 32 (has v z) natLt_1_32 (ix2 a l) = BitVec.ofNat 32 (if ρ.Src l then 1 else 0) := fun l => by
    pointwise
    rw [has_read hv hz]
    by_cases h : ρ.Src l <;> simp [h]
  exact Moves.running (extui 32 (has v z) natLt_1_32) _ a (fun l => if ρ.Src l then 1 else 0) hx (fun k => rfl) _ _ l

theorem before_le (l : ℕ) : ρ.before l ≤ l := by
  classical
  unfold Ray.before
  refine (Finset.sum_le_card_nsmul _ _ 1 fun k _ => ?_).trans (by simp)
  split <;> omega

open Classical in
theorem before_succ (l : ℕ) : ρ.before (l + 1) = ρ.before l + if ρ.Src l then 1 else 0 := Finset.sum_range_succ _ _

/-- The place of a source that is there. -/
theorem rank_read (hv : ∀ i : Fin 64, v (ix2 a i) = BitVec.ofBool (decide ((i : ℕ) < ρ.n)))
    (hz : ∀ (i : Fin 64) (h : Fin 256), z (ix3 a i h) = ρ.z i h) (l : Fin 316) (hs : ρ.Src l) :
    rank v z (ix2 a l) = BitVec.ofNat 32 (ρ.before l) := by
  classical
  pointwise [rank]
  rw [count_read hv hz, before_succ, if_pos hs]
  show BitVec.ofNat 32 (ρ.before l + 1) - 1#32 = _
  rw [BitVec.ofNat_add]
  exact BitVec.add_sub_cancel _ _

open Classical in
/-- Which sources are kept. -/
theorem kept_read (hv : ∀ i : Fin 64, v (ix2 a i) = BitVec.ofBool (decide ((i : ℕ) < ρ.n)))
    (hz : ∀ (i : Fin 64) (h : Fin 256), z (ix3 a i h) = ρ.z i h) (l : Fin 316) :
    kept v z (ix2 a l) = BitVec.ofBool (decide (ρ.Kept l)) := by
  have e : kept v z (ix2 a l) = IntOp.andi (has v z (ix2 a l)) (IntOp.cmpi CmpIPredicate.slt (rank v z (ix2 a l)) 64#32) := by
    pointwise [kept]
  rw [e, has_read hv hz]
  by_cases hs : ρ.Src l
  · have hb := before_le (ρ := ρ) l
    rw [rank_read hv hz l hs, show (64#32 : BitVec 32) = BitVec.ofNat 32 64 from rfl,
      slt_word (by omega) (by norm_num), and_marks]
    exact congrArg BitVec.ofBool (decide_eq_decide.mpr Iff.rfl)
  · have hk : ¬ρ.Kept l := fun h => hs h.1
    rw [decide_eq_false hs, decide_eq_false hk]
    show (0#1 &&& _) = 0#1
    exact BitVec.zero_and

/-- Where a source is sent. -/
theorem slot_read (hv : ∀ i : Fin 64, v (ix2 a i) = BitVec.ofBool (decide ((i : ℕ) < ρ.n)))
    (hz : ∀ (i : Fin 64) (h : Fin 256), z (ix3 a i h) = ρ.z i h) (l : Fin 316) :
    slot v z (ix2 a l) = BitVec.ofNat 32 (ρ.aim l) := by
  classical
  have e : slot v z (ix2 a l) = Scalar.select (kept v z (ix2 a l)) (rank v z (ix2 a l)) 0#32 := by
    pointwise [slot]
  rw [e, kept_read hv hz, select_mark]
  unfold Ray.aim
  by_cases h : ρ.Kept l
  · rw [if_pos h, if_pos h, rank_read hv hz l h.1]
  · rw [if_neg h, if_neg h]

theorem wrap (n m : ℕ) (h : n < 2 ^ 31) (h' : m < 2 ^ 32) :
    Scalar.select (IntOp.cmpi CmpIPredicate.slt (BitVec.ofNat 32 n) 0#32) (IntOp.addi (BitVec.ofNat 32 n) (BitVec.ofNat 32 m)) (BitVec.ofNat 32 n)
      = BitVec.ofNat 32 n := by
  rw [show (0#32 : BitVec 32) = BitVec.ofNat 32 0 from rfl, slt_word h (by norm_num), select_mark, if_neg (Nat.not_lt_zero n)]

theorem aim_row (v : IVec S256x64 1) (z : FVec Ideal S256x64x256 .f32) (b : Fin 256) (l : Fin 316) :
    aim v z (ix3 b l 0) = BitVec.ofNat 32 b := by
  pointwise [aim, row]
  exact wrap b 256 (by omega) (by norm_num)

theorem aim_slot (hv : ∀ i : Fin 64, v (ix2 a i) = BitVec.ofBool (decide ((i : ℕ) < ρ.n)))
    (hz : ∀ (i : Fin 64) (h : Fin 256), z (ix3 a i h) = ρ.z i h) (l : Fin 316) :
    aim v z (ix3 a l 1) = BitVec.ofNat 32 (ρ.aim l) := by
  have e : aim v z (ix3 a l 1) = Scalar.select (IntOp.cmpi CmpIPredicate.slt (slot v z (ix2 a l)) 0#32)
      (IntOp.addi (slot v z (ix2 a l)) 64#32) (slot v z (ix2 a l)) := by
    pointwise [aim]
  have := Ray.aim_lt (ρ := ρ) l
  rw [e, slot_read hv hz]
  exact wrap _ 64 (by omega) (by norm_num)

theorem aim_small (l : Fin 316) : ρ.aim l < 2 ^ 31 := by
  have := Ray.aim_lt (ρ := ρ) l
  omega

/-- The new marks. -/
theorem marks_read (h1 : 1 ≤ ρ.n) (h64 : ρ.n ≤ 64) (hv : ∀ i : Fin 64, v (ix2 a i) = BitVec.ofBool (decide ((i : ℕ) < ρ.n)))
    (hz : ∀ (i : Fin 64) (h : Fin 256), z (ix3 a i h) = ρ.z i h) (j : Fin 64) :
    marks v z (ix2 a j) = BitVec.ofBool (decide ((j : ℕ) < ρ.next.n)) := by
  classical
  pointwise [marks]
  rw [Moves.scatter_count (a := a) (w := fun l => ρ.aim l) (u := fun l => if ρ.Kept l then 1 else 0) (aim_row v z) (aim_slot hv hz)
    aim_small j rfl fun l => ?_]
  · rw [Ray.sum_source h1 h64 j.isLt fun _ => 1]
    by_cases h : (j : ℕ) < ρ.next.n
    · rw [dif_pos h, decide_eq_true h]
      rfl
    · rw [dif_neg h, decide_eq_false h]
      rfl
  · pointwise
    rw [kept_read hv hz]
    by_cases h : ρ.Kept l <;> simp [h]

/-- The position of the source of new knot `j`. -/
theorem spots_read (h1 : 1 ≤ ρ.n) (h64 : ρ.n ≤ 64) (hv : ∀ i : Fin 64, v (ix2 a i) = BitVec.ofBool (decide ((i : ℕ) < ρ.n)))
    (ht : ∀ i : Fin 64, t (ix2 a i) = ρ.t i) (hz : ∀ (i : Fin 64) (h : Fin 256), z (ix3 a i h) = ρ.z i h) (j : ℕ) (hj : j < ρ.next.n)
    (hl : ρ.source j < 316) : spots v t z (ix2 a ⟨ρ.source j, hl⟩) = ρ.next.t j := by
  classical
  have hT : j < ρ.total := lt_of_lt_of_le hj (min_le_left _ _)
  obtain ⟨e1, e2⟩ := Ray.source_parts h1 hT
  have ho := Ray.off_le h1 hT
  have hlt := Ray.left_lt (ρ := ρ) h1 j
  have hp := Ray.lt_of_mult (ρ := ρ) (i := ρ.left j)
  have hr : ρ.next.t j = ρ.t (ρ.left j) + ρ.frac j * (ρ.t (ρ.left j + 1) - ρ.t (ρ.left j)) := if_pos hj
  rw [hr]
  pointwise [spots]
  simp only [e1, e2, ht, cands_read hv hz, hit_read hv hz, select_mark]
  unfold Ray.frac
  by_cases h0 : ρ.off j = 0
  · rw [if_pos h0, zero_mul, add_zero]
    have hs : ρ.source j = 5 * ρ.left j + ρ.off j := rfl
    by_cases hq : ρ.source j < 315
    · rw [dif_pos hq, dif_pos (show ρ.off j < 1 by omega)]
    · rw [dif_neg hq, show 63 + (ρ.source j - 315) = ρ.left j by omega]
  · have hs : ρ.source j = 5 * ρ.left j + ρ.off j := rfl
    have hm := Ray.mult_le (ρ := ρ) (ρ.left j)
    rw [if_neg h0, dif_pos (show ρ.source j < 315 by omega), dif_neg (show ¬ρ.off j < 1 by omega),
      if_pos (show ρ.off j - 1 < ρ.mult (ρ.left j) by omega), Nat.add_comm 1]

/-- The features of the source of new knot `j`. -/
theorem looks_read (h1 : 1 ≤ ρ.n) (h64 : ρ.n ≤ 64) (hv : ∀ i : Fin 64, v (ix2 a i) = BitVec.ofBool (decide ((i : ℕ) < ρ.n)))
    (hz : ∀ (i : Fin 64) (h : Fin 256), z (ix3 a i h) = ρ.z i h) (j : ℕ) (hj : j < ρ.next.n)
    (hl : ρ.source j < 316) (k : Fin 256) : looks v z (ix3 a ⟨ρ.source j, hl⟩ k) = ρ.next.z j k := by
  classical
  have hT : j < ρ.total := lt_of_lt_of_le hj (min_le_left _ _)
  obtain ⟨e1, e2⟩ := Ray.source_parts h1 hT
  have ho := Ray.off_le h1 hT
  have hlt := Ray.left_lt (ρ := ρ) h1 j
  have hp := Ray.lt_of_mult (ρ := ρ) (i := ρ.left j)
  have hr : ρ.next.z j k = ρ.z (ρ.left j) k + ρ.frac j * (ρ.z (ρ.left j + 1) k - ρ.z (ρ.left j) k) := if_pos hj
  have hq0 : ρ.off j = 0 → ρ.next.z j k = ρ.z (ρ.left j) k := fun h0 => by
    rw [hr, Ray.frac, if_pos h0, zero_mul, add_zero]
  have hq1 : ρ.off j ≠ 0 → ρ.next.z j k
      = ρ.z (ρ.left j) k + ρ.cand (ρ.left j) (ρ.off j - 1) * (ρ.z (1 + ρ.left j) k - ρ.z (ρ.left j) k) := fun h0 => by
    rw [hr, Ray.frac, if_neg h0, Nat.add_comm 1]
  pointwise [looks, near, far]
  simp only [e1, e2, cands_read hv hz, hit_read hv hz, hz, select_mark]
  by_cases h0 : ρ.off j = 0
  · rw [hq0 h0]
    have hs : ρ.source j = 5 * ρ.left j + ρ.off j := rfl
    by_cases hq : ρ.source j < 315
    · rw [dif_pos hq, dif_pos (show ρ.off j < 1 by omega)]
    · rw [dif_neg hq, show 63 + (ρ.source j - 315) = ρ.left j by omega]
  · have hs : ρ.source j = 5 * ρ.left j + ρ.off j := rfl
    have hm := Ray.mult_le (ρ := ρ) (ρ.left j)
    have hn : ρ.off j - 1 < ρ.mult (ρ.left j) := by omega
    refine Eq.trans ?_ (hq1 h0).symm
    rw [dif_pos (show ρ.source j < 315 by omega), dif_neg (show ¬ρ.off j < 1 by omega), if_pos hn]

/-- The new positions. -/
theorem times_read (h1 : 1 ≤ ρ.n) (h64 : ρ.n ≤ 64) (hv : ∀ i : Fin 64, v (ix2 a i) = BitVec.ofBool (decide ((i : ℕ) < ρ.n)))
    (ht : ∀ i : Fin 64, t (ix2 a i) = ρ.t i) (hz : ∀ (i : Fin 64) (h : Fin 256), z (ix3 a i h) = ρ.z i h) (j : Fin 64) :
    times v t z (ix2 a j) = ρ.next.t j := by
  classical
  pointwise [times]
  have hz0 : broadcastInDim S256x64 ![] bcast_S_S256x64 (constant (F := Ideal) S_ FTy.f32 0#32) (ix2 a j) = 0 := by pointwise
  rw [marks_read h1 h64 hv hz, select_mark, Moves.scatter_row (a := a) (w := fun l => ρ.aim l) (aim_row v z) (aim_slot hv hz) aim_small j hz0]
  by_cases h : (j : ℕ) < ρ.next.n
  · rw [if_pos h]
    have e : ∀ l : Fin 316, select (kept v z) (spots v t z) (broadcastInDim S256x316 ![] bcast_S_S256x316 (constant (F := Ideal) S_ FTy.f32 0#32)) (ix2 a l)
        = if ρ.Kept l then spots v t z (ix2 a l) else 0 := fun l => by
      pointwise
      rw [kept_read hv hz, select_mark]
    simp only [e]
    rw [Ray.sum_source h1 h64 j.isLt fun l => spots v t z (ix2 a l), dif_pos h]
    exact spots_read h1 h64 hv ht hz j h _
  · rw [if_neg h]
    exact (if_neg h).symm

/-- The new features. -/
theorem feats_read (h1 : 1 ≤ ρ.n) (h64 : ρ.n ≤ 64) (hv : ∀ i : Fin 64, v (ix2 a i) = BitVec.ofBool (decide ((i : ℕ) < ρ.n)))
    (hz : ∀ (i : Fin 64) (h : Fin 256), z (ix3 a i h) = ρ.z i h) (j : Fin 64) (k : Fin 256) :
    feats v z (ix3 a j k) = ρ.next.z j k := by
  classical
  pointwise [feats]
  have hz0 : broadcastInDim S256x64x256 ![] bcast_S_S256x64x256 (constant (F := Ideal) S_ FTy.f32 0#32) (ix3 a j k) = 0 := by pointwise
  rw [marks_read h1 h64 hv hz, select_mark, Moves.scatter_feat (a := a) (w := fun l => ρ.aim l) (aim_row v z) (aim_slot hv hz) aim_small j k hz0]
  by_cases h : (j : ℕ) < ρ.next.n
  · rw [if_pos h]
    have e : ∀ l : Fin 316, select (broadcastInDim S256x316x256 ![0, 1, 2] bcast_S256x316x1_S256x316x256_0_1_2
        (broadcastInDim S256x316x1 ![0, 1] bcast_S256x316_S256x316x1_0_1 (kept v z))) (looks v z)
        (broadcastInDim S256x316x256 ![] bcast_S_S256x316x256 (constant (F := Ideal) S_ FTy.f32 0#32)) (ix3 a l k)
        = if ρ.Kept l then looks v z (ix3 a l k) else 0 := fun l => by
      pointwise
      rw [kept_read hv hz, select_mark]
    simp only [e]
    rw [Ray.sum_source h1 h64 j.isLt fun l => looks v z (ix3 a l k), dif_pos h]
    exact looks_read h1 h64 hv hz j h _ k
  · rw [if_neg h]
    exact (if_neg h).symm

end Cert.Proof.Insert
-- ==== Proof.Stages.lean ====
/- The reference's layers as functions of arrays: the two end knots, what a later layer reads, a later layer, and the
   output; each read on one row. -/
module

public import proofs.«01_k».proof.Proof.Insert
public import proofs.«01_k».proof.Proof.Net

@[expose] public section

set_option maxRecDepth 8192

noncomputable section

namespace Cert.Proof.Stages

open Finset Idealize.ShloMosaic Cert.ReferenceIdeal Cert.ReferenceIdeal.Gen Cert.Proof

attribute [local instance] Cert.ReferenceIdeal.Gen.facts

/-- The marks of the two end knots. -/
def marks0 : IVec S256x64 1 :=
  Host.scatter scatter_S256x64_S1_S256x2_01_n_1_0 (fun _ b => b) (broadcastInDim S256x64 ![] bcast_S_S256x64 (constantI S_ 1 0#1)) (broadcastInDim S1 ![] bcast_S_S1 (constantI S_ 32 0#32)) (broadcastInDim S256x2 ![] bcast_S_S256x2 (constantI S_ 1 1#1))
/-- Their positions. -/
def times0 : FVec Ideal S256x64 .f32 :=
  Host.scatter scatter_S256x64_S1_S256_0_1_1_0 (fun _ b => b) (Host.scatter scatter_S256x64_S1_S256_0_1_1_0 (fun _ b => b) (broadcastInDim S256x64 ![] bcast_S_S256x64 (constant S_ .f32 0x3F800000#32)) (broadcastInDim S1 ![] bcast_S_S1 (constantI S_ 32 0#32)) (broadcastInDim S256 ![] bcast_S_S256 (constant S_ .f32 0x00000000#32))) (broadcastInDim S1 ![] bcast_S_S1 (constantI S_ 32 1#32)) (broadcastInDim S256 ![] bcast_S_S256 (constant S_ .f32 0x3F800000#32))
/-- Their features. -/
def feats0 (v : IVec S256x64 1) (t : FVec Ideal S256x64 .f32) (s d : FVec Ideal S256x3 .f32) (W : FVec Ideal S256x3 .f32) (b : FVec Ideal S256 .f32) :
    FVec Ideal S256x64x256 .f32 :=
  select (broadcastInDim S256x64x256 ![0, 1, 2] bcast_S256x64x1_S256x64x256_0_1_2 (broadcastInDim S256x64x1 ![0, 1] bcast_S256x64_S256x64x1_0_1 v)) (addf (mulf (broadcastInDim S256x64x256 ![0, 1, 2] bcast_S256x1x256_S256x64x256_0_1_2 (broadcastInDim S256x1x256 ![0, 2] bcast_S256x256_S256x1x256_0_2 (Host.dotGeneral dot_S256x3_S3x256_S256x256_1_0_0_1_n_n none d (transpose S3x256 [1, 0] W transposes_S256x3_S3x256_1_0)))) (broadcastInDim S256x64x256 ![0, 1, 2] bcast_S256x64x1_S256x64x256_0_1_2 (broadcastInDim S256x64x1 ![0, 1] bcast_S256x64_S256x64x1_0_1 t))) (broadcastInDim S256x64x256 ![0, 1, 2] bcast_S256x1x256_S256x64x256_0_1_2 (broadcastInDim S256x1x256 ![0, 2] bcast_S256x256_S256x1x256_0_2 (addf (Host.dotGeneral dot_S256x3_S3x256_S256x256_1_0_0_1_n_n none s (transpose S3x256 [1, 0] W transposes_S256x3_S3x256_1_0)) (broadcastInDim S256x256 ![0, 1] bcast_S1x256_S256x256_0_1 (broadcastInDim S1x256 ![1] bcast_S256_S1x256_1 b)))))) (broadcastInDim S256x64x256 ![] bcast_S_S256x64x256 (constant S_ .f32 0x00000000#32))
/-- The rectified features. -/
def lit (v : IVec S256x64 1) (z : FVec Ideal S256x64x256 .f32) : FVec Ideal S256x64x256 .f32 :=
  select (broadcastInDim S256x64x256 ![0, 1, 2] bcast_S256x64x1_S256x64x256_0_1_2 (broadcastInDim S256x64x1 ![0, 1] bcast_S256x64_S256x64x1_0_1 v)) (maximumf z (broadcastInDim S256x64x256 ![] bcast_S_S256x64x256 (constant S_ .f32 0x00000000#32))) (broadcastInDim S256x64x256 ![] bcast_S_S256x64x256 (constant S_ .f32 0x00000000#32))
/-- The points of the ray. -/
def points (v : IVec S256x64 1) (t : FVec Ideal S256x64 .f32) (s d : FVec Ideal S256x3 .f32) : FVec Ideal S256x64x3 .f32 :=
  select (broadcastInDim S256x64x3 ![0, 1, 2] bcast_S256x64x1_S256x64x3_0_1_2 (broadcastInDim S256x64x1 ![0, 1] bcast_S256x64_S256x64x1_0_1 v)) (addf (broadcastInDim S256x64x3 ![0, 1, 2] bcast_S256x1x3_S256x64x3_0_1_2 (broadcastInDim S256x1x3 ![0, 2] bcast_S256x3_S256x1x3_0_2 s)) (mulf (broadcastInDim S256x64x3 ![0, 1, 2] bcast_S256x64x1_S256x64x3_0_1_2 (broadcastInDim S256x64x1 ![0, 1] bcast_S256x64_S256x64x1_0_1 t)) (broadcastInDim S256x64x3 ![0, 1, 2] bcast_S256x1x3_S256x64x3_0_1_2 (broadcastInDim S256x1x3 ![0, 2] bcast_S256x3_S256x1x3_0_2 d)))) (broadcastInDim S256x64x3 ![] bcast_S_S256x64x3 (constant S_ .f32 0x00000000#32))
/-- What a later layer reads. -/
def input (v : IVec S256x64 1) (t : FVec Ideal S256x64 .f32) (z : FVec Ideal S256x64x256 .f32) (s d : FVec Ideal S256x3 .f32) :
    FVec Ideal S256x64x259 .f32 :=
  concatenate S256x64x259 2 [⟨S256x64x256, lit v z⟩, ⟨S256x64x3, points v t s d⟩] concatenates_S256x64x256_S256x64x3_S256x64x259_d2
/-- A later layer. -/
def layer (v : IVec S256x64 1) (x : FVec Ideal S256x64x259 .f32) (W : FVec Ideal S256x259 .f32) (b : FVec Ideal S256 .f32) :
    FVec Ideal S256x64x256 .f32 :=
  select (broadcastInDim S256x64x256 ![0, 1, 2] bcast_S256x64x1_S256x64x256_0_1_2 (broadcastInDim S256x64x1 ![0, 1] bcast_S256x64_S256x64x1_0_1 v)) (addf (Host.dotGeneral dot_S256x64x259_S259x256_S256x64x256_2_0_01_1_n_n none x (transpose S259x256 [1, 0] W transposes_S256x259_S259x256_1_0)) (broadcastInDim S256x64x256 ![0, 1, 2] bcast_S1x1x256_S256x64x256_0_1_2 (broadcastInDim S1x1x256 ![2] bcast_S256_S1x1x256_2 b))) (broadcastInDim S256x64x256 ![] bcast_S_S256x64x256 (constant S_ .f32 0x00000000#32))
/-- The output. -/
def value (v : IVec S256x64 1) (z : FVec Ideal S256x64x256 .f32) (W : FVec Ideal S1x256 .f32) (b : FVec Ideal S1 .f32) : FVec Ideal S256x64x1 .f32 :=
  select (broadcastInDim S256x64x1 ![0, 1] bcast_S256x64_S256x64x1_0_1 v) (addf (Host.dotGeneral dot_S256x64x256_S256x1_S256x64x1_2_0_01_1_n_n none (lit v z) (transpose S256x1 [1, 0] W transposes_S1x256_S256x1_1_0)) (broadcastInDim S256x64x1 ![0, 1, 2] bcast_S1x1x1_S256x64x1_0_1_2 (broadcastInDim S1x1x1 ![2] bcast_S1_S1x1x1_2 b))) (broadcastInDim S256x64x1 ![] bcast_S_S256x64x1 (constant S_ .f32 0x00000000#32))

/-- Row `a` of the arrays of marks, positions and features is the ray `ρ`. -/
structure Row (v : IVec S256x64 1) (t : FVec Ideal S256x64 .f32) (z : FVec Ideal S256x64x256 .f32) (a : Fin 256) (ρ : Ray) : Prop where
  v : ∀ i : Fin 64, v (ix2 a i) = BitVec.ofBool (decide ((i : ℕ) < ρ.n))
  t : ∀ i : Fin 64, t (ix2 a i) = ρ.t i
  z : ∀ (i : Fin 64) (h : Fin 256), z (ix3 a i h) = ρ.z i h

variable {v : IVec S256x64 1} {t : FVec Ideal S256x64 .f32} {z : FVec Ideal S256x64x256 .f32} {a : Fin 256} {ρ : Ray}
  {s d : FVec Ideal S256x3 .f32}

theorem marks0_read (j : Fin 64) : marks0 (ix2 a j) = BitVec.ofBool (decide ((j : ℕ) < 2)) := by
  unfold marks0
  refine (Moves.set_pair _ rfl 1#1 a j).trans ?_
  pointwise
  by_cases h : (j : ℕ) < 2
  · rw [if_pos (by omega), decide_eq_true h]
    rfl
  · rw [if_neg (by omega), decide_eq_false h]
    rfl

theorem times0_read (j : Fin 64) : times0 (ix2 a j) = if (j : ℕ) = 0 then 0 else 1 := by
  unfold times0
  have e1 : broadcastInDim S256 ![] bcast_S_S256 (constant (F := Ideal) S_ .f32 0x3F800000#32) = fun _ => (1 : EReal) := by
    funext i
    idx_vars i
    pointwise
  have e0 : broadcastInDim S256 ![] bcast_S_S256 (constant (F := Ideal) S_ .f32 0x00000000#32) = fun _ => (0 : EReal) := by
    funext i
    idx_vars i
    pointwise
  rw [e0, e1]
  refine (Moves.set_column _ (n := 1) (by norm_num) rfl (1 : EReal) a j).trans ?_
  rw [Moves.set_column _ (n := 0) (by norm_num) rfl (0 : EReal) a j]
  pointwise
  by_cases h : (j : ℕ) = 0 <;> simp [h]

/-- The two end knots are the ray's. -/
theorem row_first (W : FVec Ideal S256x3 .f32) (b : FVec Ideal S256 .f32) :
    Row marks0 times0 (feats0 marks0 times0 s d W b) a
      (first (fun x => s (ix2 a x)) (fun x => d (ix2 a x)) (fun h x => W (ix2 h x)) fun h => b (ix1 h)) := by
  refine ⟨marks0_read, times0_read, fun j h => ?_⟩
  pointwise [feats0]
  rw [marks0_read, times0_read, Insert.select_mark]
  rfl

/-- An insertion gives the ray with the crossings inserted. -/
theorem Row.next (h : Row v t z a ρ) (h1 : 1 ≤ ρ.n) (h64 : ρ.n ≤ 64) :
    Row (Insert.marks v z) (Insert.times v t z) (Insert.feats v z) a ρ.next :=
  ⟨Insert.marks_read h1 h64 h.v h.z, Insert.times_read h1 h64 h.v h.t h.z, Insert.feats_read h1 h64 h.v h.z⟩

theorem Row.lit (h : Row v t z a ρ) (j : Fin 64) (k : Fin 256) : Stages.lit v z (ix3 a j k) = ρ.hid j k := by
  pointwise [Stages.lit]
  rw [h.v, h.z, Insert.select_mark]
  rfl

theorem Row.input (h : Row v t z a ρ) (j : Fin 64) (x : Fin 259) :
    Stages.input v t z s d (ix3 a j x) = ρ.read (fun x => s (ix2 a x)) (fun x => d (ix2 a x)) j x := by
  pointwise [Stages.input, Stages.points]
  simp only [h.lit, h.v, h.t, Insert.select_mark]
  rfl

/-- A later layer gives the ray with its features. -/
theorem Row.layer (h : Row v t z a ρ) (W : FVec Ideal S256x259 .f32) (b : FVec Ideal S256 .f32) :
    Row v t (Stages.layer v (Stages.input v t z s d) W b) a
      (ρ.layer (fun x => s (ix2 a x)) (fun x => d (ix2 a x)) (fun h x => W (ix2 h x)) fun h => b (ix1 h)) := by
  refine ⟨h.v, h.t, fun j k => ?_⟩
  pointwise [Stages.layer]
  simp only [h.input, h.v, Insert.select_mark]
  rfl

/-- The output. -/
theorem Row.value (h : Row v t z a ρ) (W : FVec Ideal S1x256 .f32) (b : FVec Ideal S1 .f32) (j : Fin 64) :
    Stages.value v z W b (ix3 a j 0) = ρ.out (fun x => W (ix2 0 x)) (b (ix1 0)) j := by
  pointwise [Stages.value]
  simp only [h.lit, h.v, Insert.select_mark]
  rfl

end Cert.Proof.Stages
-- ==== Proof.Chain.lean ====
/- What the reference computes: on every row, the knots, the marks and the values of the network along the ray. -/
module

public import proofs.«01_k».proof.Proof.Stages
public import proofs.«01_k».proof.Proof.Gen.ReferenceIdeal.Run

@[expose] public section

set_option maxRecDepth 8192

noncomputable section

namespace Cert.Proof.Chain

open Finset Idealize.ShloMosaic Cert.ReferenceIdeal Cert.ReferenceIdeal.Gen Cert.Proof Cert.ReferenceIdeal.Value

attribute [local instance] Cert.ReferenceIdeal.Gen.facts

variable (V : Valuation τ sig (Elt Ideal)) (a : Fin 256)

/-- The network of row `a`, from the ten arguments. -/
def net : Net where
  e x := (V (Proc.devRef .tc main_arg0) : FVec Ideal S256x3 .f32) (ix2 a x)
  s x := (V (Proc.devRef .tc main_arg1) : FVec Ideal S256x3 .f32) (ix2 a x)
  W0 h x := (V (Proc.devRef .tc main_arg2) : FVec Ideal S256x3 .f32) (ix2 h x)
  b0 h := (V (Proc.devRef .tc main_arg3) : FVec Ideal S256 .f32) (ix1 h)
  W1 h x := (V (Proc.devRef .tc main_arg4) : FVec Ideal S256x259 .f32) (ix2 h x)
  b1 h := (V (Proc.devRef .tc main_arg5) : FVec Ideal S256 .f32) (ix1 h)
  W2 h x := (V (Proc.devRef .tc main_arg6) : FVec Ideal S256x259 .f32) (ix2 h x)
  b2 h := (V (Proc.devRef .tc main_arg7) : FVec Ideal S256 .f32) (ix1 h)
  W3 x := (V (Proc.devRef .tc main_arg8) : FVec Ideal S1x256 .f32) (ix2 0 x)
  b3 := (V (Proc.devRef .tc main_arg9) : FVec Ideal S1 .f32) (ix1 0)

/-- Before the first insertion. -/
theorem row1 : Stages.Row (res_main_v10 V) (res_main_v6 V) (res_main_v29 V) a (net V a).r1 :=
  Stages.row_first (s := V (Proc.devRef .tc main_arg1)) (d := res_main_v11 V) _ _

/-- Before the second insertion. -/
theorem row2 : Stages.Row (res_main_v163 V) (res_main_v164 V) (res_main_v191 V) a (net V a).r2 :=
  (Stages.Row.next (row1 V a) (net V a).one_le_1 ((net V a).le_1.trans (by norm_num))).layer
    (s := V (Proc.devRef .tc main_arg1)) (d := res_main_v11 V) _ _

/-- Before the third insertion. -/
theorem row3 : Stages.Row (res_main_v325 V) (res_main_v326 V) (res_main_v353 V) a (net V a).r3 :=
  (Stages.Row.next (row2 V a) (net V a).one_le_2 ((net V a).le_2.trans (by norm_num))).layer
    (s := V (Proc.devRef .tc main_arg1)) (d := res_main_v11 V) _ _

/-- After it. -/
theorem row4 : Stages.Row (Insert.marks (res_main_v325 V) (res_main_v353 V))
    (Insert.times (res_main_v325 V) (res_main_v326 V) (res_main_v353 V)) (Insert.feats (res_main_v325 V) (res_main_v353 V)) a (net V a).fin :=
  Stages.Row.next (row3 V a) (net V a).one_le_3 ((net V a).le_3.trans (by norm_num))

end Cert.Proof.Chain
-- ==== Proof.ReferenceRun.lean ====
/- The run of the reference: its three results are those of the rows' networks. -/
module

public import proofs.«01_k».proof.Proof.Answer
public import proofs.«01_k».proof.Proof.Chain

@[expose] public section

set_option maxRecDepth 16384

noncomputable section

namespace Cert.Proof.ReferenceRun

open Idealize.ShloMosaic Idealize.ShloMosaic.StableHlo Idealize.ShloMosaic.TcCoe Idealize.SL.Sem Cert.ReferenceIdeal Cert.ReferenceIdeal.Gen Cert.ReferenceIdeal.Value Cert.Proof

attribute [local instance] Cert.ReferenceIdeal.Gen.facts

variable (V : Valuation τ sig (Elt Ideal))

/-- The positions, whole. -/
theorem times : Insert.times (res_main_v325 V) (res_main_v326 V) (res_main_v353 V) = Answer.times (Chain.net V) := by
  funext k
  idx_vars k
  exact (Chain.row4 V _).t _

/-- The marks, whole. -/
theorem marks : Insert.marks (res_main_v325 V) (res_main_v353 V) = Answer.marks (Chain.net V) := by
  funext k
  idx_vars k
  exact (Chain.row4 V _).v _

/-- The values, whole. -/
theorem values : Stages.value (Insert.marks (res_main_v325 V) (res_main_v353 V)) (Insert.feats (res_main_v325 V) (res_main_v353 V))
      (V (Proc.devRef .tc main_arg8)) (V (Proc.devRef .tc main_arg9)) = Answer.values (Chain.net V) := by
  funext k
  idx_vars k
  obtain rfl : k2 = 0 := Subsingleton.elim _ _
  exact (Chain.row4 V _).value _ _ _

/-- The reference runs to its end, its results are the networks', its arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v488) = (show Buf (Elt Ideal) ((c.tc : Thread nD τ).loc main_v488) from Answer.times (Chain.net (launchContents m c)))
      ∧ r.2.mem ((c.tc : Thread nD τ).loc main_v487) = (show Buf (Elt Ideal) ((c.tc : Thread nD τ).loc main_v487) from Answer.marks (Chain.net (launchContents m c)))
      ∧ r.2.mem ((c.tc : Thread nD τ).loc main_v503) = (show Buf (Elt Ideal) ((c.tc : Thread nD τ).loc main_v503) from Answer.values (Chain.net (launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c).1.trans (times (launchContents m c)), (h c).2.1.trans (marks (launchContents m c)),
      (h c).2.2.1.trans (values (launchContents m c)), (h c).2.2.2⟩) (Value.run (F := Ideal) m ρ)

end Cert.Proof.ReferenceRun

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite
public import proofs.«01_k».proof.Proof.Gen.ReferenceIdeal
public import proofs.«01_k».proof.Proof.Gen.ReferenceIdeal.Run
public import proofs.«01_k».proof.Proof.KernelRun
public import proofs.«01_k».proof.Proof.ReferenceRun
public import Idealize.ShloMosaic.Adequacy
public import Idealize.ShloMosaic.Lib.Quiescent
public import Idealize.ShloMosaic.Init

@[expose] public section

set_option maxRecDepth 16384

noncomputable section

namespace Cert.Proof

open Idealize.ShloMosaic Idealize.SL.Sem Cert.Kernel

/-- The reference runs to its end, leaves its ten arguments as they were, and every counter ends at zero. -/
theorem reference_frame : Cert.quiescent_ReferenceIdeal (hReferenceIdeal := Cert.ReferenceIdeal.Gen.facts) := fun m ρ _ =>
  (θ_run _ _ _).mono (fun r h => ⟨fun c => (h c).2.2.2, Idealize.ShloMosaic.sem_eq_zero_of_no_sems (by decide) r.2⟩)
    (Cert.ReferenceIdeal.Value.run (F := Ideal) m ρ)

/-- The reference's networks are the kernel's, where the arguments agree. -/
theorem nets (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) : Chain.net (StableHlo.launchContents m' c) = Host.net m c :=
  Answer.netOf_congr h.1 h.2.1 h.2.2.1 h.2.2.2.1 h.2.2.2.2.1 h.2.2.2.2.2.1 h.2.2.2.2.2.2.1 h.2.2.2.2.2.2.2.1 h.2.2.2.2.2.2.2.2.1
    h.2.2.2.2.2.2.2.2.2

/-- From finite arguments the kernel and the reference end with the same three results: those of the rows' networks. -/
theorem equal_results : Cert.algebraic_KernelIdeal_ReferenceIdeal_pre_finite (hKernelIdeal := Cert.KernelIdeal.Gen.facts)
    (hReferenceIdeal := Cert.ReferenceIdeal.Gen.facts) (hPre_finite := Cert.Pre_finite.Gen.facts) := fun m g m' g' hpre hagree =>
  ⟨fun c => Answer.times (Host.net m c), fun c => Answer.marks (Host.net m c), fun c => Answer.values (Host.net m c),
    KernelRun.run m g (Inputs.fine m hpre),
    (θ_run _ _ _).mono (fun _ h c =>
      ⟨(h c).1.trans (congrArg Answer.times (nets m m' c (hagree c))), (h c).2.1.trans (congrArg Answer.marks (nets m m' c (hagree c))),
        (h c).2.2.1.trans (congrArg Answer.values (nets m m' c (hagree c))), (h c).2.2.2⟩) (ReferenceRun.run m' g')⟩

/-- The claims of the certificate. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, equal_results⟩

end Cert.Proof

end
